-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_vocabulary_KernelIdeal [hPre_in_vocabulary_KernelIdeal : Cert.Pre_in_vocabulary_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary_ReferenceIdeal [hPre_in_vocabulary_ReferenceIdeal : Cert.Pre_in_vocabulary_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_vocabulary_KernelIdeal [hKernelIdeal : Cert.KernelIdeal.Facts] [hPre_in_vocabulary_KernelIdeal : Cert.Pre_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocabulary_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocabulary_ReferenceIdeal [hReferenceIdeal : Cert.ReferenceIdeal.Facts] [hPre_in_vocabulary_ReferenceIdeal : Cert.Pre_in_vocabulary_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_vocabulary_KernelIdeal [hKernelIdeal : Cert.KernelIdeal.Facts] [hReferenceIdeal : Cert.ReferenceIdeal.Facts] [hPre_in_vocabulary_KernelIdeal : Cert.Pre_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocabulary_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![8192, 1024]⟩ ⟨2, ![32768, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocabulary_KernelIdeal : Cert.Pre_in_vocabulary_KernelIdeal.Facts) (hPre_in_vocabulary_ReferenceIdeal : Cert.Pre_in_vocabulary_ReferenceIdeal.Facts),
    quiescent_Kernel (hKernel := hKernel)
    ∧ quiescent_KernelIdeal (hKernelIdeal := hKernelIdeal)
    ∧ quiescent_KernelIdeal_pre_in_vocabulary_KernelIdeal (hKernelIdeal := hKernelIdeal) (hPre_in_vocabulary_KernelIdeal := hPre_in_vocabulary_KernelIdeal)
    ∧ quiescent_ReferenceIdeal (hReferenceIdeal := hReferenceIdeal)
    ∧ quiescent_ReferenceIdeal_pre_in_vocabulary_ReferenceIdeal (hReferenceIdeal := hReferenceIdeal) (hPre_in_vocabulary_ReferenceIdeal := hPre_in_vocabulary_ReferenceIdeal)
    ∧ preserves_Kernel_KernelIdeal
    ∧ algebraic_KernelIdeal_ReferenceIdeal_pre_in_vocabulary_KernelIdeal (hKernelIdeal := hKernelIdeal) (hReferenceIdeal := hReferenceIdeal) (hPre_in_vocabulary_KernelIdeal := hPre_in_vocabulary_KernelIdeal)
-- ==== Pre_in_vocabulary_KernelIdeal.lean ====
abbrev S1024 : Shape := ⟨1, ![1024]⟩
abbrev S8192x1024 : Shape := ⟨2, ![8192, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S8192x1024 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 32768#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_in_vocabulary_ReferenceIdeal.lean ====
abbrev S1024 : Shape := ⟨1, ![1024]⟩
abbrev S32768x1024 : Shape := ⟨2, ![32768, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S32768x1024 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 32768#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024 : Shape := ⟨1, ![1024]⟩
abbrev S8192x1024 : Shape := ⟨2, ![8192, 1024]⟩
abbrev S_ : Shape := ⟨0, ![]⟩
abbrev S1024x1 : Shape := ⟨2, ![1024, 1]⟩
abbrev S1024x1024 : Shape := ⟨2, ![1024, 1024]⟩
abbrev S1024x512 : Shape := ⟨2, ![1024, 512]⟩
abbrev S2x1024x1024 : Shape := ⟨3, ![2, 1024, 1024]⟩
abbrev S2x256x512 : Shape := ⟨3, ![2, 256, 512]⟩
abbrev S2x128x512 : Shape := ⟨3, ![2, 128, 512]⟩
abbrev S2 : Shape := ⟨1, ![2]⟩
abbrev S16 : Shape := ⟨1, ![16]⟩
abbrev S1 : Shape := ⟨1, ![1]⟩
abbrev S1x1024x1024 : Shape := ⟨3, ![1, 1024, 1024]⟩
abbrev S512x1 : Shape := ⟨2, ![512, 1]⟩
abbrev S512x1024 : Shape := ⟨2, ![512, 1024]⟩
abbrev S512x512 : Shape := ⟨2, ![512, 512]⟩
abbrev S1x256x512 : Shape := ⟨3, ![1, 256, 512]⟩
abbrev S256x512 : Shape := ⟨2, ![256, 512]⟩
abbrev S1x128x512 : Shape := ⟨3, ![1, 128, 512]⟩
abbrev S128x512 : Shape := ⟨2, ![128, 512]⟩

abbrev nBuf : Space → Nat
  | .hbm => 14
  | .vmem => 9
  | .smem => 0
  | _ => 0

abbrev bufTy : (tb : Table) → Fin (tcTables nBuf tb) → BufTy
  | .hbm, ⟨0, _⟩ => ⟨S1024, .i32⟩
  | .hbm, ⟨1, _⟩ => ⟨S8192x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1024x1024, .f32⟩
  | .local _ .vmem, ⟨0, _⟩ => ⟨S1024x1, .i32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S2x1024x1024, .f32⟩
  | .local _ .vmem, ⟨5, _⟩ => ⟨S2x256x512, .bf16⟩
  | .local _ .vmem, ⟨6, _⟩ => ⟨S2x256x512, .bf16⟩
  | .local _ .vmem, ⟨7, _⟩ => ⟨S2x128x512, .bf16⟩
  | .local _ .vmem, ⟨8, _⟩ => ⟨S2x128x512, .bf16⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_4 : BitVec 32 := 1#32
  let v8 : BitVec 32 := Scalar.muli v4 c1_i32_4
  let v9 : BitVec 32 := Scalar.addi c0_i32_5 v8
  v9.toNat
def k0_off1 (d0 : Dev nD) (c256_i32_192 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_185 : BitVec 32 := 0#32
  let v238 : BitVec 1 := Scalar.cmpi .sgt v2 c0_i32_185
  let v239 : BitVec 32 := Scalar.extui v238
  let c0_i32_186 : BitVec 32 := 0#32
  let v240 : BitVec 1 := Scalar.cmpi .slt v2 c0_i32_186
  let v241 : BitVec 32 := Scalar.extui v240
  let v242 : BitVec 32 := Scalar.subi v239 v241
  let c2_i32_184 : BitVec 32 := 2#32
  let c0_i32_187 : BitVec 32 := 0#32
  let v243 : BitVec 1 := Scalar.cmpi .sgt c2_i32_184 c0_i32_187
  let v244 : BitVec 32 := Scalar.extui v243
  let c0_i32_188 : BitVec 32 := 0#32
  let v245 : BitVec 1 := Scalar.cmpi .slt c2_i32_184 c0_i32_188
  let v246 : BitVec 32 := Scalar.extui v245
  let v247 : BitVec 32 := Scalar.subi v244 v246
  let v248 : BitVec 1 := Scalar.cmpi .ne v242 v247
  let v249 : BitVec 32 := Scalar.remsi v2 c2_i32_184
  let c0_i32_189 : BitVec 32 := 0#32
  let v250 : BitVec 1 := Scalar.cmpi .ne v249 c0_i32_189
  let v251 : BitVec 1 := Scalar.andi v248 v250
  let v237 : BitVec 32 := Scalar.divsi v2 c2_i32_184
  let c1_i32_190 : BitVec 32 := 1#32
  let v252 : BitVec 32 := Scalar.subi v237 c1_i32_190
  let v253 : BitVec 32 := Scalar.select v251 v252 v237
  let c256_i32_191 : BitVec 32 := 256#32
  let v254 : BitVec 32 := Scalar.muli v253 c256_i32_191
  let v255 : BitVec 32 := Scalar.subi c256_i32_192 v254
  let c0_i32_272 : BitVec 32 := 0#32
  ![v255.toNat, 0]
def k0_dev3 (d0 : Dev nD) : Nat :=
  let c0_i32_269 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_268 : BitVec 32 := 1#32
  let v394 : BitVec 32 := Scalar.muli v3 c1_i32_268
  let v395 : BitVec 32 := Scalar.addi c0_i32_269 v394
  v395.toNat
def k0_off2 (d0 : Dev nD) (c256_i32_201 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_196 : BitVec 32 := 1#32
  let v260 : BitVec 1 := Scalar.cmpi .eq v2 c1_i32_196
  let c2_i32_197 : BitVec 32 := 2#32
  let v261 : BitVec 1 := Scalar.cmpi .eq v2 c2_i32_197
  let v262 : BitVec 1 := Scalar.ori v260 v261
  let c256_i32_198 : BitVec 32 := 256#32
  let c0_i32_199 : BitVec 32 := 0#32
  let v263 : BitVec 32 := Scalar.select v262 c256_i32_198 c0_i32_199
  let v265 : BitVec 32 := Scalar.subi c256_i32_201 v263
  let c0_i32_280 : BitVec 32 := 0#32
  ![v265.toNat, 0]
def k0_dev4 (d0 : Dev nD) : Nat :=
  let c0_i32_277 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_276 : BitVec 32 := 1#32
  let v403 : BitVec 32 := Scalar.muli v4 c1_i32_276
  let v404 : BitVec 32 := Scalar.addi c0_i32_277 v403
  v404.toNat
def k0_off3 (d0 : Dev nD) (c0_i32_183 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_177 : BitVec 32 := 0#32
  let v219 : BitVec 1 := Scalar.cmpi .sgt v2 c0_i32_177
  let v220 : BitVec 32 := Scalar.extui v219
  let c0_i32_178 : BitVec 32 := 0#32
  let v221 : BitVec 1 := Scalar.cmpi .slt v2 c0_i32_178
  let v222 : BitVec 32 := Scalar.extui v221
  let v223 : BitVec 32 := Scalar.subi v220 v222
  let c2_i32 : BitVec 32 := 2#32
  let c0_i32_179 : BitVec 32 := 0#32
  let v224 : BitVec 1 := Scalar.cmpi .sgt c2_i32 c0_i32_179
  let v225 : BitVec 32 := Scalar.extui v224
  let c0_i32_180 : BitVec 32 := 0#32
  let v226 : BitVec 1 := Scalar.cmpi .slt c2_i32 c0_i32_180
  let v227 : BitVec 32 := Scalar.extui v226
  let v228 : BitVec 32 := Scalar.subi v225 v227
  let v229 : BitVec 1 := Scalar.cmpi .ne v223 v228
  let v230 : BitVec 32 := Scalar.remsi v2 c2_i32
  let c0_i32_181 : BitVec 32 := 0#32
  let v231 : BitVec 1 := Scalar.cmpi .ne v230 c0_i32_181
  let v232 : BitVec 1 := Scalar.andi v229 v231
  let v218 : BitVec 32 := Scalar.divsi v2 c2_i32
  let c1_i32_182 : BitVec 32 := 1#32
  let v233 : BitVec 32 := Scalar.subi v218 c1_i32_182
  let v234 : BitVec 32 := Scalar.select v232 v233 v218
  let c256_i32 : BitVec 32 := 256#32
  let v235 : BitVec 32 := Scalar.muli v234 c256_i32
  let v236 : BitVec 32 := Scalar.addi c0_i32_183 v235
  let v617 : Index := Scalar.indexCast v236
  let c0_459 : Index := 0#32
  ![v617.toNat, 0]
def k0_off4 (d0 : Dev nD) (c0_i32_200 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_196 : BitVec 32 := 1#32
  let v260 : BitVec 1 := Scalar.cmpi .eq v2 c1_i32_196
  let c2_i32_197 : BitVec 32 := 2#32
  let v261 : BitVec 1 := Scalar.cmpi .eq v2 c2_i32_197
  let v262 : BitVec 1 := Scalar.ori v260 v261
  let c256_i32_198 : BitVec 32 := 256#32
  let c0_i32_199 : BitVec 32 := 0#32
  let v263 : BitVec 32 := Scalar.select v262 c256_i32_198 c0_i32_199
  let v264 : BitVec 32 := Scalar.addi c0_i32_200 v263
  let v633 : Index := Scalar.indexCast v264
  let c0_472 : Index := 0#32
  ![v633.toNat, 0]
def k0_off5 (d0 : Dev nD) (c0_i32_195 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c128_i32_194 : BitVec 32 := 128#32
  let v258 : BitVec 32 := Scalar.muli v4 c128_i32_194
  let v259 : BitVec 32 := Scalar.addi c0_i32_195 v258
  let c0_i32_484 : BitVec 32 := 0#32
  ![v259.toNat, 0]
def k0_dev5 (d0 : Dev nD) : Nat :=
  let c0_i32_481 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_480 : BitVec 32 := 1#32
  let v642 : BitVec 32 := Scalar.muli v4 c1_i32_480
  let v643 : BitVec 32 := Scalar.addi c0_i32_481 v642
  v643.toNat
def k0_off6 (d0 : Dev nD) (c0_i32_211 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_196 : BitVec 32 := 1#32
  let v260 : BitVec 1 := Scalar.cmpi .eq v2 c1_i32_196
  let c2_i32_197 : BitVec 32 := 2#32
  let v261 : BitVec 1 := Scalar.cmpi .eq v2 c2_i32_197
  let v262 : BitVec 1 := Scalar.ori v260 v261
  let c256_i32_198 : BitVec 32 := 256#32
  let c0_i32_199 : BitVec 32 := 0#32
  let v263 : BitVec 32 := Scalar.select v262 c256_i32_198 c0_i32_199
  let v286 : BitVec 32 := Scalar.addi c0_i32_211 v263
  let c3_i32 : BitVec 32 := 3#32
  let v3 : BitVec 32 := Scalar.subi c3_i32 v2
  let c0_i32_213 : BitVec 32 := 0#32
  let v288 : BitVec 1 := Scalar.cmpi .sgt v3 c0_i32_213
  let v289 : BitVec 32 := Scalar.extui v288
  let c0_i32_214 : BitVec 32 := 0#32
  let v290 : BitVec 1 := Scalar.cmpi .slt v3 c0_i32_214
  let v291 : BitVec 32 := Scalar.extui v290
  let v292 : BitVec 32 := Scalar.subi v289 v291
  let c2_i32_212 : BitVec 32 := 2#32
  let c0_i32_215 : BitVec 32 := 0#32
  let v293 : BitVec 1 := Scalar.cmpi .sgt c2_i32_212 c0_i32_215
  let v294 : BitVec 32 := Scalar.extui v293
  let c0_i32_216 : BitVec 32 := 0#32
  let v295 : BitVec 1 := Scalar.cmpi .slt c2_i32_212 c0_i32_216
  let v296 : BitVec 32 := Scalar.extui v295
  let v297 : BitVec 32 := Scalar.subi v294 v296
  let v298 : BitVec 1 := Scalar.cmpi .ne v292 v297
  let v299 : BitVec 32 := Scalar.remsi v3 c2_i32_212
  let c0_i32_217 : BitVec 32 := 0#32
  let v300 : BitVec 1 := Scalar.cmpi .ne v299 c0_i32_217
  let v301 : BitVec 1 := Scalar.andi v298 v300
  let v287 : BitVec 32 := Scalar.divsi v3 c2_i32_212
  let c1_i32_218 : BitVec 32 := 1#32
  let v302 : BitVec 32 := Scalar.subi v287 c1_i32_218
  let v303 : BitVec 32 := Scalar.select v301 v302 v287
  let c128_i32_219 : BitVec 32 := 128#32
  let v304 : BitVec 32 := Scalar.muli v303 c128_i32_219
  let v305 : BitVec 32 := Scalar.addi v286 v304
  let c0_i32_492 : BitVec 32 := 0#32
  ![v305.toNat, 0]
def k0_dev6 (d0 : Dev nD) : Nat :=
  let c0_i32_489 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_488 : BitVec 32 := 1#32
  let v651 : BitVec 32 := Scalar.muli v3 c1_i32_488
  let v652 : BitVec 32 := Scalar.addi c0_i32_489 v651
  v652.toNat
def k0_dev7 (d0 : Dev nD) : Nat :=
  let c0_i32_496 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_495 : BitVec 32 := 1#32
  let v660 : BitVec 32 := Scalar.muli v3 c1_i32_495
  let v661 : BitVec 32 := Scalar.addi c0_i32_496 v660
  v661.toNat
def k0_dev8 (d0 : Dev nD) : Nat :=
  let c0_i32_503 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_502 : BitVec 32 := 1#32
  let v669 : BitVec 32 := Scalar.muli v4 c1_i32_502
  let v670 : BitVec 32 := Scalar.addi c0_i32_503 v669
  v670.toNat
def k0_off7 (d0 : Dev nD) (c0_i32_193 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v256 : BitVec 32 := Scalar.muli v2 c128_i32
  let v257 : BitVec 32 := Scalar.addi c0_i32_193 v256
  let v685 : Index := Scalar.indexCast v257
  let c0_515 : Index := 0#32
  ![v685.toNat, 0]
def k0_off8 (d0 : Dev nD) (c0_i32_202 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_196 : BitVec 32 := 1#32
  let v260 : BitVec 1 := Scalar.cmpi .eq v2 c1_i32_196
  let c2_i32_197 : BitVec 32 := 2#32
  let v261 : BitVec 1 := Scalar.cmpi .eq v2 c2_i32_197
  let v262 : BitVec 1 := Scalar.ori v260 v261
  let c256_i32_198 : BitVec 32 := 256#32
  let c0_i32_199 : BitVec 32 := 0#32
  let v263 : BitVec 32 := Scalar.select v262 c256_i32_198 c0_i32_199
  let v266 : BitVec 32 := Scalar.addi c0_i32_202 v263
  let c0_i32_204 : BitVec 32 := 0#32
  let v268 : BitVec 1 := Scalar.cmpi .sgt v2 c0_i32_204
  let v269 : BitVec 32 := Scalar.extui v268
  let c0_i32_205 : BitVec 32 := 0#32
  let v270 : BitVec 1 := Scalar.cmpi .slt v2 c0_i32_205
  let v271 : BitVec 32 := Scalar.extui v270
  let v272 : BitVec 32 := Scalar.subi v269 v271
  let c2_i32_203 : BitVec 32 := 2#32
  let c0_i32_206 : BitVec 32 := 0#32
  let v273 : BitVec 1 := Scalar.cmpi .sgt c2_i32_203 c0_i32_206
  let v274 : BitVec 32 := Scalar.extui v273
  let c0_i32_207 : BitVec 32 := 0#32
  let v275 : BitVec 1 := Scalar.cmpi .slt c2_i32_203 c0_i32_207
  let v276 : BitVec 32 := Scalar.extui v275
  let v277 : BitVec 32 := Scalar.subi v274 v276
  let v278 : BitVec 1 := Scalar.cmpi .ne v272 v277
  let v279 : BitVec 32 := Scalar.remsi v2 c2_i32_203
  let c0_i32_208 : BitVec 32 := 0#32
  let v280 : BitVec 1 := Scalar.cmpi .ne v279 c0_i32_208
  let v281 : BitVec 1 := Scalar.andi v278 v280
  let v267 : BitVec 32 := Scalar.divsi v2 c2_i32_203
  let c1_i32_209 : BitVec 32 := 1#32
  let v282 : BitVec 32 := Scalar.subi v267 c1_i32_209
  let v283 : BitVec 32 := Scalar.select v281 v282 v267
  let c128_i32_210 : BitVec 32 := 128#32
  let v284 : BitVec 32 := Scalar.muli v283 c128_i32_210
  let v285 : BitVec 32 := Scalar.addi v266 v284
  let v701 : Index := Scalar.indexCast v285
  let c0_528 : Index := 0#32
  ![v701.toNat, 0]
def k0_off9 (d0 : Dev nD) (c0_i32_193 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v256 : BitVec 32 := Scalar.muli v2 c128_i32
  let v257 : BitVec 32 := Scalar.addi c0_i32_193 v256
  let c0_i32_537 : BitVec 32 := 0#32
  ![v257.toNat, 0]
def k0_dev9 (d0 : Dev nD) : Nat :=
  let c0_i32_536 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_535 : BitVec 32 := 1#32
  let v710 : BitVec 32 := Scalar.muli v4 c1_i32_535
  let v711 : BitVec 32 := Scalar.addi c0_i32_536 v710
  v711.toNat
def k0_off10 (d0 : Dev nD) (c0_i32_202 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_196 : BitVec 32 := 1#32
  let v260 : BitVec 1 := Scalar.cmpi .eq v2 c1_i32_196
  let c2_i32_197 : BitVec 32 := 2#32
  let v261 : BitVec 1 := Scalar.cmpi .eq v2 c2_i32_197
  let v262 : BitVec 1 := Scalar.ori v260 v261
  let c256_i32_198 : BitVec 32 := 256#32
  let c0_i32_199 : BitVec 32 := 0#32
  let v263 : BitVec 32 := Scalar.select v262 c256_i32_198 c0_i32_199
  let v266 : BitVec 32 := Scalar.addi c0_i32_202 v263
  let c0_i32_204 : BitVec 32 := 0#32
  let v268 : BitVec 1 := Scalar.cmpi .sgt v2 c0_i32_204
  let v269 : BitVec 32 := Scalar.extui v268
  let c0_i32_205 : BitVec 32 := 0#32
  let v270 : BitVec 1 := Scalar.cmpi .slt v2 c0_i32_205
  let v271 : BitVec 32 := Scalar.extui v270
  let v272 : BitVec 32 := Scalar.subi v269 v271
  let c2_i32_203 : BitVec 32 := 2#32
  let c0_i32_206 : BitVec 32 := 0#32
  let v273 : BitVec 1 := Scalar.cmpi .sgt c2_i32_203 c0_i32_206
  let v274 : BitVec 32 := Scalar.extui v273
  let c0_i32_207 : BitVec 32 := 0#32
  let v275 : BitVec 1 := Scalar.cmpi .slt c2_i32_203 c0_i32_207
  let v276 : BitVec 32 := Scalar.extui v275
  let v277 : BitVec 32 := Scalar.subi v274 v276
  let v278 : BitVec 1 := Scalar.cmpi .ne v272 v277
  let v279 : BitVec 32 := Scalar.remsi v2 c2_i32_203
  let c0_i32_208 : BitVec 32 := 0#32
  let v280 : BitVec 1 := Scalar.cmpi .ne v279 c0_i32_208
  let v281 : BitVec 1 := Scalar.andi v278 v280
  let v267 : BitVec 32 := Scalar.divsi v2 c2_i32_203
  let c1_i32_209 : BitVec 32 := 1#32
  let v282 : BitVec 32 := Scalar.subi v267 c1_i32_209
  let v283 : BitVec 32 := Scalar.select v281 v282 v267
  let c128_i32_210 : BitVec 32 := 128#32
  let v284 : BitVec 32 := Scalar.muli v283 c128_i32_210
  let v285 : BitVec 32 := Scalar.addi v266 v284
  let c0_i32_542 : BitVec 32 := 0#32
  ![v285.toNat, 0]
def k0_dev10 (d0 : Dev nD) : Nat :=
  let c0_i32_541 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_540 : BitVec 32 := 1#32
  let v718 : BitVec 32 := Scalar.muli v3 c1_i32_540
  let v719 : BitVec 32 := Scalar.addi c0_i32_541 v718
  v719.toNat
def k0_dev11 (d0 : Dev nD) : Nat :=
  let c0_i32_573 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_572 : BitVec 32 := 1#32
  let v758 : BitVec 32 := Scalar.muli v4 c1_i32_572
  let v759 : BitVec 32 := Scalar.addi c0_i32_573 v758
  v759.toNat
def k0_dev12 (d0 : Dev nD) : Nat :=
  let c0_i32_580 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_579 : BitVec 32 := 1#32
  let v767 : BitVec 32 := Scalar.muli v3 c1_i32_579
  let v768 : BitVec 32 := Scalar.addi c0_i32_580 v767
  v768.toNat
def k0_off11 (d0 : Dev nD) (c0_i32_183 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_177 : BitVec 32 := 0#32
  let v219 : BitVec 1 := Scalar.cmpi .sgt v2 c0_i32_177
  let v220 : BitVec 32 := Scalar.extui v219
  let c0_i32_178 : BitVec 32 := 0#32
  let v221 : BitVec 1 := Scalar.cmpi .slt v2 c0_i32_178
  let v222 : BitVec 32 := Scalar.extui v221
  let v223 : BitVec 32 := Scalar.subi v220 v222
  let c2_i32 : BitVec 32 := 2#32
  let c0_i32_179 : BitVec 32 := 0#32
  let v224 : BitVec 1 := Scalar.cmpi .sgt c2_i32 c0_i32_179
  let v225 : BitVec 32 := Scalar.extui v224
  let c0_i32_180 : BitVec 32 := 0#32
  let v226 : BitVec 1 := Scalar.cmpi .slt c2_i32 c0_i32_180
  let v227 : BitVec 32 := Scalar.extui v226
  let v228 : BitVec 32 := Scalar.subi v225 v227
  let v229 : BitVec 1 := Scalar.cmpi .ne v223 v228
  let v230 : BitVec 32 := Scalar.remsi v2 c2_i32
  let c0_i32_181 : BitVec 32 := 0#32
  let v231 : BitVec 1 := Scalar.cmpi .ne v230 c0_i32_181
  let v232 : BitVec 1 := Scalar.andi v229 v231
  let v218 : BitVec 32 := Scalar.divsi v2 c2_i32
  let c1_i32_182 : BitVec 32 := 1#32
  let v233 : BitVec 32 := Scalar.subi v218 c1_i32_182
  let v234 : BitVec 32 := Scalar.select v232 v233 v218
  let c256_i32 : BitVec 32 := 256#32
  let v235 : BitVec 32 := Scalar.muli v234 c256_i32
  let v236 : BitVec 32 := Scalar.addi c0_i32_183 v235
  let c0_i32_599 : BitVec 32 := 0#32
  ![v236.toNat, 0]
def k0_dev13 (d0 : Dev nD) : Nat :=
  let c0_i32_598 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_597 : BitVec 32 := 1#32
  let v788 : BitVec 32 := Scalar.muli v3 c1_i32_597
  let v789 : BitVec 32 := Scalar.addi c0_i32_598 v788
  v789.toNat
def k0_off12 (d0 : Dev nD) (c0_i32_200 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_196 : BitVec 32 := 1#32
  let v260 : BitVec 1 := Scalar.cmpi .eq v2 c1_i32_196
  let c2_i32_197 : BitVec 32 := 2#32
  let v261 : BitVec 1 := Scalar.cmpi .eq v2 c2_i32_197
  let v262 : BitVec 1 := Scalar.ori v260 v261
  let c256_i32_198 : BitVec 32 := 256#32
  let c0_i32_199 : BitVec 32 := 0#32
  let v263 : BitVec 32 := Scalar.select v262 c256_i32_198 c0_i32_199
  let v264 : BitVec 32 := Scalar.addi c0_i32_200 v263
  let c0_i32_604 : BitVec 32 := 0#32
  ![v264.toNat, 0]
def k0_dev14 (d0 : Dev nD) : Nat :=
  let c0_i32_603 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_602 : BitVec 32 := 1#32
  let v796 : BitVec 32 := Scalar.muli v4 c1_i32_602
  let v797 : BitVec 32 := Scalar.addi c0_i32_603 v796
  v797.toNat
def k0_off13 (d0 : Dev nD) (c0_i32_183 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_177 : BitVec 32 := 0#32
  let v219 : BitVec 1 := Scalar.cmpi .sgt v2 c0_i32_177
  let v220 : BitVec 32 := Scalar.extui v219
  let c0_i32_178 : BitVec 32 := 0#32
  let v221 : BitVec 1 := Scalar.cmpi .slt v2 c0_i32_178
  let v222 : BitVec 32 := Scalar.extui v221
  let v223 : BitVec 32 := Scalar.subi v220 v222
  let c2_i32 : BitVec 32 := 2#32
  let c0_i32_179 : BitVec 32 := 0#32
  let v224 : BitVec 1 := Scalar.cmpi .sgt c2_i32 c0_i32_179
  let v225 : BitVec 32 := Scalar.extui v224
  let c0_i32_180 : BitVec 32 := 0#32
  let v226 : BitVec 1 := Scalar.cmpi .slt c2_i32 c0_i32_180
  let v227 : BitVec 32 := Scalar.extui v226
  let v228 : BitVec 32 := Scalar.subi v225 v227
  let v229 : BitVec 1 := Scalar.cmpi .ne v223 v228
  let v230 : BitVec 32 := Scalar.remsi v2 c2_i32
  let c0_i32_181 : BitVec 32 := 0#32
  let v231 : BitVec 1 := Scalar.cmpi .ne v230 c0_i32_181
  let v232 : BitVec 1 := Scalar.andi v229 v231
  let v218 : BitVec 32 := Scalar.divsi v2 c2_i32
  let c1_i32_182 : BitVec 32 := 1#32
  let v233 : BitVec 32 := Scalar.subi v218 c1_i32_182
  let v234 : BitVec 32 := Scalar.select v232 v233 v218
  let c256_i32 : BitVec 32 := 256#32
  let v235 : BitVec 32 := Scalar.muli v234 c256_i32
  let v236 : BitVec 32 := Scalar.addi c0_i32_183 v235
  let v807 : Index := Scalar.indexCast v236
  let c0_607 : Index := 0#32
  ![v807.toNat, 0]
def k0_off14 (d0 : Dev nD) (c0_i32_200 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_196 : BitVec 32 := 1#32
  let v260 : BitVec 1 := Scalar.cmpi .eq v2 c1_i32_196
  let c2_i32_197 : BitVec 32 := 2#32
  let v261 : BitVec 1 := Scalar.cmpi .eq v2 c2_i32_197
  let v262 : BitVec 1 := Scalar.ori v260 v261
  let c256_i32_198 : BitVec 32 := 256#32
  let c0_i32_199 : BitVec 32 := 0#32
  let v263 : BitVec 32 := Scalar.select v262 c256_i32_198 c0_i32_199
  let v264 : BitVec 32 := Scalar.addi c0_i32_200 v263
  let v812 : Index := Scalar.indexCast v264
  let c512_609 : Index := 512#32
  ![v812.toNat, 512]
def k0_dev15 (d0 : Dev nD) : Nat :=
  let c0_i32_638 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_637 : BitVec 32 := 1#32
  let v846 : BitVec 32 := Scalar.muli v4 c1_i32_637
  let v847 : BitVec 32 := Scalar.addi c0_i32_638 v846
  v847.toNat
def k0_dev16 (d0 : Dev nD) : Nat :=
  let c0_i32_643 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_642 : BitVec 32 := 1#32
  let v854 : BitVec 32 := Scalar.muli v3 c1_i32_642
  let v855 : BitVec 32 := Scalar.addi c0_i32_643 v854
  v855.toNat
def k0_off15 (d0 : Dev nD) (c256_i32_192 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_185 : BitVec 32 := 0#32
  let v238 : BitVec 1 := Scalar.cmpi .sgt v2 c0_i32_185
  let v239 : BitVec 32 := Scalar.extui v238
  let c0_i32_186 : BitVec 32 := 0#32
  let v240 : BitVec 1 := Scalar.cmpi .slt v2 c0_i32_186
  let v241 : BitVec 32 := Scalar.extui v240
  let v242 : BitVec 32 := Scalar.subi v239 v241
  let c2_i32_184 : BitVec 32 := 2#32
  let c0_i32_187 : BitVec 32 := 0#32
  let v243 : BitVec 1 := Scalar.cmpi .sgt c2_i32_184 c0_i32_187
  let v244 : BitVec 32 := Scalar.extui v243
  let c0_i32_188 : BitVec 32 := 0#32
  let v245 : BitVec 1 := Scalar.cmpi .slt c2_i32_184 c0_i32_188
  let v246 : BitVec 32 := Scalar.extui v245
  let v247 : BitVec 32 := Scalar.subi v244 v246
  let v248 : BitVec 1 := Scalar.cmpi .ne v242 v247
  let v249 : BitVec 32 := Scalar.remsi v2 c2_i32_184
  let c0_i32_189 : BitVec 32 := 0#32
  let v250 : BitVec 1 := Scalar.cmpi .ne v249 c0_i32_189
  let v251 : BitVec 1 := Scalar.andi v248 v250
  let v237 : BitVec 32 := Scalar.divsi v2 c2_i32_184
  let c1_i32_190 : BitVec 32 := 1#32
  let v252 : BitVec 32 := Scalar.subi v237 c1_i32_190
  let v253 : BitVec 32 := Scalar.select v251 v252 v237
  let c256_i32_191 : BitVec 32 := 256#32
  let v254 : BitVec 32 := Scalar.muli v253 c256_i32_191
  let v255 : BitVec 32 := Scalar.subi c256_i32_192 v254
  let v868 : Index := Scalar.indexCast v255
  let c0_652 : Index := 0#32
  ![v868.toNat, 0]
def k0_off16 (d0 : Dev nD) (c256_i32_192 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_185 : BitVec 32 := 0#32
  let v238 : BitVec 1 := Scalar.cmpi .sgt v2 c0_i32_185
  let v239 : BitVec 32 := Scalar.extui v238
  let c0_i32_186 : BitVec 32 := 0#32
  let v240 : BitVec 1 := Scalar.cmpi .slt v2 c0_i32_186
  let v241 : BitVec 32 := Scalar.extui v240
  let v242 : BitVec 32 := Scalar.subi v239 v241
  let c2_i32_184 : BitVec 32 := 2#32
  let c0_i32_187 : BitVec 32 := 0#32
  let v243 : BitVec 1 := Scalar.cmpi .sgt c2_i32_184 c0_i32_187
  let v244 : BitVec 32 := Scalar.extui v243
  let c0_i32_188 : BitVec 32 := 0#32
  let v245 : BitVec 1 := Scalar.cmpi .slt c2_i32_184 c0_i32_188
  let v246 : BitVec 32 := Scalar.extui v245
  let v247 : BitVec 32 := Scalar.subi v244 v246
  let v248 : BitVec 1 := Scalar.cmpi .ne v242 v247
  let v249 : BitVec 32 := Scalar.remsi v2 c2_i32_184
  let c0_i32_189 : BitVec 32 := 0#32
  let v250 : BitVec 1 := Scalar.cmpi .ne v249 c0_i32_189
  let v251 : BitVec 1 := Scalar.andi v248 v250
  let v237 : BitVec 32 := Scalar.divsi v2 c2_i32_184
  let c1_i32_190 : BitVec 32 := 1#32
  let v252 : BitVec 32 := Scalar.subi v237 c1_i32_190
  let v253 : BitVec 32 := Scalar.select v251 v252 v237
  let c256_i32_191 : BitVec 32 := 256#32
  let v254 : BitVec 32 := Scalar.muli v253 c256_i32_191
  let v255 : BitVec 32 := Scalar.subi c256_i32_192 v254
  let v871 : Index := Scalar.indexCast v255
  let c0_653 : Index := 0#32
  ![v871.toNat, 0]
def k0_off17 (d0 : Dev nD) (c256_i32_201 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_196 : BitVec 32 := 1#32
  let v260 : BitVec 1 := Scalar.cmpi .eq v2 c1_i32_196
  let c2_i32_197 : BitVec 32 := 2#32
  let v261 : BitVec 1 := Scalar.cmpi .eq v2 c2_i32_197
  let v262 : BitVec 1 := Scalar.ori v260 v261
  let c256_i32_198 : BitVec 32 := 256#32
  let c0_i32_199 : BitVec 32 := 0#32
  let v263 : BitVec 32 := Scalar.select v262 c256_i32_198 c0_i32_199
  let v265 : BitVec 32 := Scalar.subi c256_i32_201 v263
  let v879 : Index := Scalar.indexCast v265
  let c0_660 : Index := 0#32
  ![v879.toNat, 0]
def k0_off18 (d0 : Dev nD) (c256_i32_201 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_196 : BitVec 32 := 1#32
  let v260 : BitVec 1 := Scalar.cmpi .eq v2 c1_i32_196
  let c2_i32_197 : BitVec 32 := 2#32
  let v261 : BitVec 1 := Scalar.cmpi .eq v2 c2_i32_197
  let v262 : BitVec 1 := Scalar.ori v260 v261
  let c256_i32_198 : BitVec 32 := 256#32
  let c0_i32_199 : BitVec 32 := 0#32
  let v263 : BitVec 32 := Scalar.select v262 c256_i32_198 c0_i32_199
  let v265 : BitVec 32 := Scalar.subi c256_i32_201 v263
  let v882 : Index := Scalar.indexCast v265
  let c512_661 : Index := 512#32
  ![v882.toNat, 512]
def k0_dev17 (d0 : Dev nD) : Nat :=
  let c0_i32_676 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_675 : BitVec 32 := 1#32
  let v896 : BitVec 32 := Scalar.muli v3 c1_i32_675
  let v897 : BitVec 32 := Scalar.addi c0_i32_676 v896
  v897.toNat
def k0_dev18 (d0 : Dev nD) : Nat :=
  let c0_i32_681 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_680 : BitVec 32 := 1#32
  let v904 : BitVec 32 := Scalar.muli v4 c1_i32_680
  let v905 : BitVec 32 := Scalar.addi c0_i32_681 v904
  v905.toNat
abbrev stage0_0 : Fin 1 → Memref sig .tc .vmem S1024x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024 : Shape := ⟨1, ![1024]⟩
abbrev S32768x1024 : Shape := ⟨2, ![32768, 1024]⟩
abbrev S_ : Shape := ⟨0, ![]⟩
abbrev S1024x1 : Shape := ⟨2, ![1024, 1]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024, .i32⟩
  | .hbm, ⟨1, _⟩ => ⟨S32768x1024, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1024, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Pts.lean ====
/-
Elements of a memref held at LOGICAL contents.

`pts M c R q w` holds, at share `q`, the elements of device `c`'s buffer under the indices `R` of the memref `M`, and
says that reading `M` there gives `w`. Everything the kernel does to a buffer is a rule about `pts`: loads, stores, local
copies and what a remote copy hands over. Nothing here is about this kernel's protocol.
-/
module

public import proofs.«01_k».proof.Proof.Gen.KernelIdeal
public import Idealize.ShloMosaic.Lib.Rounds
public import Idealize.ShloMosaic.Lib.Transfers
public import Idealize.ShloMosaic.Lib.Pipeline.Value
public import Idealize.ShloMosaic.Lib.Tactic

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state beside the pipeline library's: the rounds of the protocol's cells and the counters of the local copies. -/
abbrev UU : Type := UR sig nD τ × (URounds (GSem nD τ sig) Bool × Counters)

local notation "𝕄" => MT nD τ sig Unit (Elt F) ℕ UU ℕ

section Pts

variable {sp : Space} {s s' : Shape} {e : EltTy}

/-- Device `c`'s elements under `M`'s indices `R`, at share `q`, reading as `w`. -/
def pts (M : Memref sig .tc sp s e) (c : Dev nD) (R : Finset s.Idx) (q : PosShare TreeShare) (w : s.Idx → Elt F e) : sProp 𝕄 :=
  iprop(∃ f, ⌜∀ i ∈ R, M.view.read (Elt F) f i = w i⌝ ∗ (M.view.loc (c : Thread nD τ) ↦[M.view.setOn R]{q} f))

instance pts_storable (M : Memref sig .tc sp s e) (c : Dev nD) (R : Finset s.Idx) (q : PosShare TreeShare) (w : s.Idx → Elt F e) :
    BI.Storable (upEmb : UEmb _ 𝕄) (pts M c R q w) := by unfold pts; infer_instance

/-- The same at contents not chosen. -/
def any (M : Memref sig .tc sp s e) (c : Dev nD) (R : Finset s.Idx) : sProp 𝕄 :=
  iprop(∃ f, (M.view.loc (c : Thread nD τ) ↦[M.view.setOn R]{fullShare} f))

instance any_storable (M : Memref sig .tc sp s e) (c : Dev nD) (R : Finset s.Idx) :
    BI.Storable (upEmb : UEmb _ 𝕄) (any (F := F) M c R) := by unfold any; infer_instance

variable {M : Memref sig .tc sp s e} {c : Dev nD} {R R₁ R₂ : Finset s.Idx} {q : PosShare TreeShare} {w w' : s.Idx → Elt F e}

theorem pts_any : pts M c R fullShare w ⊢ any M c R := by
  unfold pts any
  iintro ⟨%f, -, H⟩
  iexists f; iexact H

theorem any_pts : any (F := F) M c R ⊢ iprop(∃ w, pts M c R fullShare w) := by
  unfold pts any
  iintro ⟨%f, H⟩
  iexists M.view.read (Elt F) f
  iexists f
  isplitr; · ipureintro; exact fun _ _ => rfl
  iexact H

theorem pts_congr (h : ∀ i ∈ R, w i = w' i) : pts M c R q w ⊢ pts M c R q w' := by
  unfold pts
  iintro ⟨%f, %hf, H⟩
  iexists f
  isplitr; · ipureintro; exact fun i hi => (hf i hi).trans (h i hi)
  iexact H

theorem pts_set_eq (h : R₁ = R₂) : pts M c R₁ q w ⊢ pts M c R₂ q w := by subst h; exact .rfl

/-- Equal readings on a set of indices are equal contents there. -/
theorem eq_of_read {f g : M.view.ty.Contents (Elt F)} (h : ∀ i ∈ R, M.view.read (Elt F) f i = M.view.read (Elt F) g i) :
    ∀ i ∈ M.view.setOn R, f i = g i := by
  intro i hi
  obtain ⟨x, hx, rfl⟩ := Finset.mem_map.mp hi
  have := h x hx
  rw [View.read_apply, View.read_apply] at this
  exact eq_of_heq ((cast_heq _ _).symm.trans ((heq_of_eq this).trans (cast_heq _ _)))

theorem pts_split (h : Disjoint R₁ R₂) : pts M c (R₁ ∪ R₂) q w ⊢ iprop(pts M c R₁ q w ∗ pts M c R₂ q w) := by
  unfold pts
  iintro ⟨%f, %hf, H⟩
  rw [show M.view.setOn (R₁ ∪ R₂) = M.view.setOn R₁ ∪ M.view.setOn R₂ from Finset.map_union _ _]
  ihave H' := (pointsTo_union (ℓ := M.view.loc (c : Thread nD τ)) (I := M.view.setOn R₁) (J := M.view.setOn R₂) ((Finset.disjoint_map _).mpr h)).1 $$ H
  icases H' with ⟨H1, H2⟩
  isplitl [H1]
  · iexists f
    isplitr; · ipureintro; exact fun i hi => hf i (Finset.mem_union_left _ hi)
    iexact H1
  · iexists f
    isplitr; · ipureintro; exact fun i hi => hf i (Finset.mem_union_right _ hi)
    iexact H2

theorem pts_join (h : Disjoint R₁ R₂) : iprop(pts M c R₁ q w ∗ pts M c R₂ q w) ⊢ pts M c (R₁ ∪ R₂) q w := by
  classical
  unfold pts
  iintro ⟨⟨%f, %hf, H1⟩, ⟨%g, %hg, H2⟩⟩
  have hd : Disjoint (M.view.setOn R₁) (M.view.setOn R₂) := (Finset.disjoint_map _).mpr h
  ihave H := (pointsTo_join (ℓ := M.view.loc (c : Thread nD τ)) (I := M.view.setOn R₁) (J := M.view.setOn R₂) hd) $$ [H1 H2]
  · isplitl [H1] <;> iassumption
  iexists (M.view.setOn R₂).piecewise g f
  isplitr
  · ipureintro
    intro i hi
    rcases Finset.mem_union.mp hi with h1 | h2
    · rw [View.read_apply, Finset.piecewise_eq_of_notMem _ _ _ (fun hm => Finset.disjoint_left.mp hd (M.view.mem_setOn.mpr h1) hm)]
      exact hf i h1
    · rw [View.read_apply, Finset.piecewise_eq_of_mem _ _ _ (M.view.mem_setOn.mpr h2)]
      exact hg i h2
  · rw [show M.view.setOn (R₁ ∪ R₂) = M.view.setOn R₁ ∪ M.view.setOn R₂ from Finset.map_union _ _]
    iexact H

theorem any_join (h : Disjoint R₁ R₂) : iprop(any (F := F) M c R₁ ∗ any M c R₂) ⊢ any M c (R₁ ∪ R₂) := by
  classical
  unfold any
  iintro ⟨⟨%f, H1⟩, ⟨%g, H2⟩⟩
  have hd : Disjoint (M.view.setOn R₁) (M.view.setOn R₂) := (Finset.disjoint_map _).mpr h
  ihave H := (pointsTo_join (ℓ := M.view.loc (c : Thread nD τ)) (I := M.view.setOn R₁) (J := M.view.setOn R₂) hd) $$ [H1 H2]
  · isplitl [H1] <;> iassumption
  iexists (M.view.setOn R₂).piecewise g f
  rw [show M.view.setOn (R₁ ∪ R₂) = M.view.setOn R₁ ∪ M.view.setOn R₂ from Finset.map_union _ _]
  iexact H

theorem any_split (h : Disjoint R₁ R₂) : any (F := F) M c (R₁ ∪ R₂) ⊢ iprop(any M c R₁ ∗ any M c R₂) := by
  unfold any
  iintro ⟨%f, H⟩
  rw [show M.view.setOn (R₁ ∪ R₂) = M.view.setOn R₁ ∪ M.view.setOn R₂ from Finset.map_union _ _]
  ihave H' := (pointsTo_union (ℓ := M.view.loc (c : Thread nD τ)) (I := M.view.setOn R₁) (J := M.view.setOn R₂) ((Finset.disjoint_map _).mpr h)).1 $$ H
  icases H' with ⟨H1, H2⟩
  isplitl [H1]
  · iexists f; iexact H1
  · iexists f; iexact H2

/-- The two halves of a share. -/
theorem pts_halve : pts M c R q w ⊢ iprop(pts M c R q.left w ∗ pts M c R q.right w) := by
  unfold pts
  iintro ⟨%f, %hf, H⟩
  ihave H' := (pointsTo_share (PosShare.mem_left_op_right q)).1 $$ H
  icases H' with ⟨H1, H2⟩
  isplitl [H1]
  · iexists f
    isplitr; · ipureintro; exact hf
    iexact H1
  · iexists f
    isplitr; · ipureintro; exact hf
    iexact H2

theorem pts_unhalve : iprop(pts M c R q.left w ∗ pts M c R q.right w) ⊢ pts M c R q w := by
  unfold pts
  iintro ⟨⟨%f, %hf, H1⟩, ⟨%g, %hg, H2⟩⟩
  have e : ∀ i ∈ M.view.setOn R, g i = f i := eq_of_read (M := M) fun i hi => (hg i hi).trans (hf i hi).symm
  ihave H2' := (Entails.of_eq (pointsTo_congr (ℓ := M.view.loc (c : Thread nD τ)) (I := M.view.setOn R) (f := g) (g := f) e)) $$ H2
  iexists f
  isplitr; · ipureintro; exact hf
  iapply (pointsTo_share (PosShare.mem_left_op_right q)).2
  isplitl [H1]; · iexact H1
  iexact H2'

/-- A slice of the memref, by its own indices. -/
theorem pts_slice (r : Rect s) (hr : ∀ a, r.stride a = 1) {u : r.shape.Idx → Elt F e} (hu : ∀ x, u x = w (r.emb x)) (hR : R = r.set) :
    pts M c R q w ⊢ pts (M.slice r hr) c Finset.univ q u := by
  subst hR
  unfold pts
  iintro ⟨%f, %hf, H⟩
  iexists f
  isplitr
  · ipureintro; intro x _
    rw [hu, ← hf (r.emb x) (by rw [← Rect.map_emb_univ]; exact Finset.mem_map_of_mem _ (Finset.mem_univ _))]; rfl
  · rw [show (M.slice r hr).view.setOn Finset.univ = M.view.setOn r.set from View.set_slice _ _]; iexact H

theorem pts_unslice (r : Rect s) (hr : ∀ a, r.stride a = 1) {u : r.shape.Idx → Elt F e} (hu : ∀ x, u x = w (r.emb x)) (hR : R = r.set) :
    pts (M.slice r hr) c Finset.univ q u ⊢ pts M c R q w := by
  subst hR
  unfold pts
  iintro ⟨%f, %hf, H⟩
  iexists f
  isplitr
  · ipureintro; intro i hi
    rw [← Rect.map_emb_univ] at hi
    obtain ⟨x, -, rfl⟩ := Finset.mem_map.mp hi
    rw [← hu, ← hf x (Finset.mem_univ _)]; rfl
  · rw [show (M.slice r hr).view.setOn Finset.univ = M.view.setOn r.set from View.set_slice _ _]; iexact H

/-- A whole buffer. -/
theorem pts_whole {b : Ref sig .tc} {w : b.ty.Contents (Elt F)} :
    ((c : Thread nD τ).loc b ↦{q} w : sProp 𝕄) ⊢ pts (Memref.whole b) c Finset.univ q w := by
  unfold pts
  rw [show (Memref.whole b).view.setOn (Finset.univ : Finset b.ty.shape.Idx) = Finset.univ from View.set_whole b]
  iintro H
  iexists w
  isplitr; · ipureintro; intro i _; rfl
  iexact H

theorem pts_unwhole {b : Ref sig .tc} {w : b.ty.Contents (Elt F)} :
    pts (Memref.whole b) c Finset.univ q w ⊢ ((c : Thread nD τ).loc b ↦{q} w : sProp 𝕄) := by
  unfold pts
  rw [show (Memref.whole b).view.setOn (Finset.univ : Finset b.ty.shape.Idx) = Finset.univ from View.set_whole b]
  iintro ⟨%f, %hf, H⟩
  have e : f = w := funext fun i => hf i (Finset.mem_univ i)
  subst e; iexact H

theorem any_whole {b : Ref sig .tc} :
    (iprop(∃ f, ((c : Thread nD τ).loc b ↦{fullShare} f)) : sProp 𝕄) ⊢ any (Memref.whole b) c Finset.univ := by
  unfold any
  rw [show (Memref.whole b).view.setOn (Finset.univ : Finset b.ty.shape.Idx) = Finset.univ from View.set_whole b]

theorem any_unwhole {b : Ref sig .tc} :
    any (Memref.whole b) c Finset.univ ⊢ (iprop(∃ f, ((c : Thread nD τ).loc b ↦{fullShare} f)) : sProp 𝕄) := by
  unfold any
  rw [show (Memref.whole b).view.setOn (Finset.univ : Finset b.ty.shape.Idx) = Finset.univ from View.set_whole b]

/-- A squeezed slice at contents not chosen, as the elements of the memref under the slice. -/
theorem any_slot (r : Rect s) (hr : ∀ a, r.stride a = 1) (h : r.shape.Squeezes s') (hR : R = r.set) :
    any (F := F) M c R ⊢ any ((M.slice r hr).squeeze s' h) c Finset.univ := by
  subst hR
  unfold any
  rw [show ((M.slice r hr).squeeze s' h).view.setOn Finset.univ = M.view.setOn r.set from
    (View.set_reshape _ _).trans (View.set_slice _ _)]

theorem any_unslot (r : Rect s) (hr : ∀ a, r.stride a = 1) (h : r.shape.Squeezes s') (hR : R = r.set) :
    any ((M.slice r hr).squeeze s' h) c Finset.univ ⊢ any (F := F) M c R := by
  subst hR
  unfold any
  rw [show ((M.slice r hr).squeeze s' h).view.setOn Finset.univ = M.view.setOn r.set from
    (View.set_reshape _ _).trans (View.set_slice _ _)]

end Pts

/-! ## Loads and stores -/

section Ops

variable {Λ : Labels} {defs : Defs nD τ sig (Elt F) Λ} (𝒱 : Variants)
variable {s s' : Shape} {e : EltTy} {c : Dev nD} {α : Type} {q : PosShare TreeShare}

/-- A load at a rectangle within what is held. -/
theorem load_pts {Q : α → sProp 𝕄} {cs : CoreSpace} {M : Memref sig .tc cs s e} {r : Rect s} {hl : M.view.LoadsAt r.toLoadRect}
    {k : (r.shape.Idx → Elt F e) → Prog (TpuEff nD τ sig (Elt F) Λ .tc) α} {R : Finset s.Idx} {w : s.Idx → Elt F e}
    (u : r.shape.Idx → Elt F e) (hu : ∀ x, u x = w (r.emb x)) (hR : r.set ⊆ R) :
    (pts M c R q w : sProp 𝕄)
      ⊢ iprop((pts M c R q w -∗ wp frame (wpE defs 𝒱 c none) Set.univ (k u) Q)
        -∗ wp frame (wpE defs 𝒱 c none) Set.univ (.op (.load M r.toLoadRect hl) k) Q) := by
  unfold pts
  iintro ⟨%f, %hf, H⟩ Hk
  iapply (wp_load 𝒱 (c : Thread nD τ) none Set.univ (m := M) (S := M.view.setOn R) (Finset.map_subset_map.mpr hR)) $$ H
  iintro H
  have e : M.view.readAt (Elt F) r.toLoadRect f = u := by
    funext x
    rw [hu, ← hf (r.emb x) (hR (by rw [← Rect.map_emb_univ]; exact Finset.mem_map_of_mem _ (Finset.mem_univ _)))]; rfl
  rw [e]
  iapply Hk
  iexists f
  isplitr; · ipureintro; exact hf
  iexact H

/-- A load of whatever is there. -/
theorem load_pts_any {Q : α → sProp 𝕄} {cs : CoreSpace} {M : Memref sig .tc cs s e} {r : Rect s} {hl : M.view.LoadsAt r.toLoadRect}
    {k : (r.shape.Idx → Elt F e) → Prog (TpuEff nD τ sig (Elt F) Λ .tc) α} {R : Finset s.Idx} {w : s.Idx → Elt F e}
    (hR : r.set ⊆ R) :
    (pts M c R q w : sProp 𝕄)
      ⊢ iprop((∀ u, pts M c R q w -∗ wp frame (wpE defs 𝒱 c none) Set.univ (k u) Q)
        -∗ wp frame (wpE defs 𝒱 c none) Set.univ (.op (.load M r.toLoadRect hl) k) Q) := by
  iintro H Hk
  iapply (load_pts 𝒱 (fun x => w (r.emb x)) (fun _ => rfl) hR) $$ H
  iapply Hk

/-- An unmasked store at a rectangle within what is held. -/
theorem store_pts {Q : α → sProp 𝕄} {cs : CoreSpace} {M : Memref sig .tc cs s e} {r : Rect s} {v : r.shape.Idx → Elt F e}
    {hx : (M.access r).Stores Finset.univ} {hm : (Finset.univ : Finset r.shape.Idx) = Finset.univ ∨ ∀ a, r.stride a = 1}
    {k : PUnit → Prog (TpuEff nD τ sig (Elt F) Λ .tc) α} {R : Finset s.Idx} {w : s.Idx → Elt F e}
    (w' : s.Idx → Elt F e) (hR : r.set ⊆ R) (h1 : ∀ x, w' (r.emb x) = v x) (h2 : ∀ i ∈ R, i ∉ r.set → w' i = w i) :
    (pts M c R fullShare w : sProp 𝕄)
      ⊢ iprop((pts M c R fullShare w' -∗ wp frame (wpE defs 𝒱 c none) Set.univ (k ⟨⟩) Q)
        -∗ wp frame (wpE defs 𝒱 c none) Set.univ (.op (.store M r v Finset.univ hx hm) k) Q) := by
  unfold pts
  iintro ⟨%f, %hf, H⟩ Hk
  iapply (wp_store 𝒱 (c : Thread nD τ) none Set.univ (m := M) (r := r) (S := M.view.setOn R) (f := f)
    (by rw [show (M.access r).setOn Finset.univ = M.view.setOn r.set from View.set_slice _ _]; exact Finset.map_subset_map.mpr hR)) $$ H
  iintro H
  iapply Hk
  iexists ((M.access r).write (Elt F) f v Finset.univ)
  isplitr
  · ipureintro
    intro i hi
    by_cases hm : i ∈ r.set
    · rw [← Rect.map_emb_univ] at hm
      obtain ⟨x, -, rfl⟩ := Finset.mem_map.mp hm
      rw [h1]
      exact View.read_slice_write_emb r f v (Finset.mem_univ x)
    · rw [h2 i hi hm, ← hf i hi]
      exact View.read_slice_write_of_not_mem r f v Finset.univ (by rw [Rect.map_emb_univ]; exact hm)
  iexact H

/-- A load of a squeezed slice through the memref it is cut from: the vector loaded is the slice's contents, shape-cast. -/
theorem load_slot {Q : α → sProp 𝕄} {cs : CoreSpace} {M : Memref sig .tc cs s e} {r : Rect s} {hr : ∀ a, r.stride a = 1} {h : r.shape.Squeezes s'}
    {hl : M.view.LoadsAt r.toLoadRect} (hc : r.shape.ShapeCasts s')
    {k : (r.shape.Idx → Elt F e) → Prog (TpuEff nD τ sig (Elt F) Λ .tc) α} {w : s'.Idx → Elt F e} :
    (pts ((M.slice r hr).squeeze s' h) c Finset.univ q w : sProp 𝕄)
      ⊢ iprop((∀ u, ⌜shapeCast s' u hc = w⌝ -∗ pts ((M.slice r hr).squeeze s' h) c Finset.univ q w -∗ wp frame (wpE defs 𝒱 c none) Set.univ (k u) Q)
        -∗ wp frame (wpE defs 𝒱 c none) Set.univ (.op (.load M r.toLoadRect hl) k) Q) := by
  unfold pts
  rw [show ((M.slice r hr).squeeze s' h).view.setOn Finset.univ = M.view.setOn r.set from
    (View.set_reshape _ _).trans (View.set_slice _ _)]
  iintro ⟨%f, %hf, H⟩ Hk
  iapply (wp_load 𝒱 (c : Thread nD τ) none Set.univ (m := M) (S := M.view.setOn r.set) (Finset.Subset.refl _)) $$ H
  iintro H
  iapply Hk
  · ipureintro
    exact funext fun x => hf x (Finset.mem_univ x)
  · iexists f
    isplitr; · ipureintro; exact hf
    iexact H

end Ops

end Cert.KP

end
-- ==== Proof.Common.lean ====
/-
The mesh, the rows each device works on, what every buffer holds at each stage, and the protocol's cells.

A device works on two CHANNELS, `false` (the left half of the columns, buffer `acc_a`) and `true` (the right half,
`acc_b`), and on two groups of 512 rows. In a channel `x` every device has a first partner `P x` and a second one
`P (!x)`. In a group of rows a device's half is `Hs`, its quarter `Qs`; the first partner has the other half, the second
partner the other quarter of the same half. Four transfers per channel and group:
  0  the first partner's half of the sums goes to the first partner;
  1  the second partner's quarter goes to the second partner;
  2  the own finished quarter goes to the second partner;
  3  the own finished half goes to the first partner.
-/
module

public import proofs.«01_k».proof.Proof.Pts
public import proofs.«01_k».proof.Proof.Gen.KernelIdeal.Skeleton
public import Idealize.ShloMosaic.Lib.Pipeline.ValueKit.Geometry
public import Idealize.ShloMosaic.Lib.Pointwise.Index

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Partners -/

def P : Bool → Dev nD → Dev nD
  | false, c => (![3, 2, 1, 0] : Fin 4 → Fin 4) c
  | true, c => (![1, 0, 3, 2] : Fin 4 → Fin 4) c

theorem P_P (x : Bool) (c : Dev nD) : P x (P x c) = c := by revert x c; decide
theorem P_comm (x : Bool) (c : Dev nD) : P x (P (!x) c) = P (!x) (P x c) := by revert x c; decide

/-- The quarter of each group of rows a device finishes. -/
def own : Bool → Dev nD → ℕ
  | false, c => c.val
  | true, c => (![0, 2, 3, 1] : Fin 4 → ℕ) c

theorem own_lt (x : Bool) (c : Dev nD) : own x c < 4 := by revert x c; decide
theorem own_S (x : Bool) (c : Dev nD) : own x (P (!x) c) / 2 = own x c / 2 ∧ own x (P (!x) c) ≠ own x c := by revert x c; decide
theorem own_P (x : Bool) (c : Dev nD) : own x (P x c) / 2 + own x c / 2 = 1 := by revert x c; decide

/-- The first row of a device's quarter, and of its half. -/
def qo (x : Bool) (rg : Fin 2) (c : Dev nD) : ℕ := 512 * rg.val + 128 * own x c
def ho (x : Bool) (rg : Fin 2) (c : Dev nD) : ℕ := 512 * rg.val + 256 * (own x c / 2)

/-- The device that finishes a row. -/
def owner (x : Bool) (r : ℕ) : Dev nD :=
  match x, r % 512 / 128 with
  | false, 0 => (0 : Fin 4)
  | false, 1 => (1 : Fin 4)
  | false, 2 => (2 : Fin 4)
  | false, _ => (3 : Fin 4)
  | true, 0 => (0 : Fin 4)
  | true, 1 => (3 : Fin 4)
  | true, 2 => (1 : Fin 4)
  | true, _ => (2 : Fin 4)

theorem owner_own (x : Bool) (c : Dev nD) (r : ℕ) (h : r % 512 / 128 = own x c) : owner x r = c := by
  unfold owner; rw [h]; clear h; revert x c; decide

/-! ## Sets of rows -/

abbrev Rows : Type := Finset S1024x512.Idx

def rows (o n : ℕ) : Rows := Finset.univ.filter fun i : S1024x512.Idx => o ≤ (i 0).val ∧ (i 0).val < o + n

theorem mem_rows {o n : ℕ} {i : S1024x512.Idx} : i ∈ rows o n ↔ o ≤ (i 0).val ∧ (i 0).val < o + n := by
  unfold rows; rw [Finset.mem_filter]; exact and_iff_right (Finset.mem_univ _)

def Qs (x : Bool) (rg : Fin 2) (c : Dev nD) : Rows := rows (qo x rg c) 128
def Hs (x : Bool) (rg : Fin 2) (c : Dev nD) : Rows := rows (ho x rg c) 256
def Gs (rg : Fin 2) : Rows := rows (512 * rg.val) 512

theorem Hs_eq (x : Bool) (rg : Fin 2) (c : Dev nD) : Hs x rg c = Qs x rg c ∪ Qs x rg (P (!x) c) := by
  ext i
  have h := own_S x c
  rw [Finset.mem_union]; unfold Hs Qs ho qo; simp only [mem_rows]
  omega

theorem Qs_disj (x : Bool) (rg : Fin 2) (c : Dev nD) : Disjoint (Qs x rg c) (Qs x rg (P (!x) c)) := by
  rw [Finset.disjoint_left]; intro i
  have h := own_S x c
  unfold Qs qo; simp only [mem_rows]; omega

theorem Gs_eq (x : Bool) (rg : Fin 2) (c : Dev nD) : Gs rg = Hs x rg c ∪ Hs x rg (P x c) := by
  ext i
  have h := own_P x c
  rw [Finset.mem_union]; unfold Gs Hs ho; simp only [mem_rows]; omega

theorem Hs_disj (x : Bool) (rg : Fin 2) (c : Dev nD) : Disjoint (Hs x rg c) (Hs x rg (P x c)) := by
  rw [Finset.disjoint_left]; intro i
  have h := own_P x c
  unfold Hs ho; simp only [mem_rows]; omega

theorem Hs_S (x : Bool) (rg : Fin 2) (c : Dev nD) : Hs x rg (P (!x) c) = Hs x rg c := by
  unfold Hs ho; rw [(own_S x c).1]

theorem Gs_univ : (Finset.univ : Rows) = Gs 0 ∪ Gs 1 := by
  ext i
  have h : (i 0).val < 1024 := (i 0).isLt
  rw [Finset.mem_union]; unfold Gs; simp only [mem_rows, Finset.mem_univ, true_iff]
  show _ ∨ (512 * 1 ≤ _ ∧ _)
  simp only [Fin.val_zero, Fin.val_one]; omega

theorem Gs_disj : Disjoint (Gs 0) (Gs 1) := by
  rw [Finset.disjoint_left]; intro i
  unfold Gs; simp only [mem_rows, Fin.val_zero, Fin.val_one]; omega

/-- The indices under a rectangle of full rows. -/
theorem set_rows {off : Fin 2 → ℕ} {o : ℕ} (n : ℕ) {inb} (h : off = ![o, 0]) :
    (Rect.unit (s := S1024x512) off ![n, 512] inb).set = rows o n := by
  subst h
  ext i
  rw [Rect.mem_set_unit, mem_rows]
  constructor
  · intro h; exact h 0
  · intro h a
    refine Fin.cases h (fun b => ?_) a
    rw [Fin.fin_one_eq_zero b]
    exact ⟨Nat.zero_le _, by have := (i 1).isLt; exact this⟩

/-! ## The result's blocks -/

abbrev OIdx : Type := Finset S1024x1024.Idx

/-- Which channel a column belongs to. -/
def oBlk (x : Bool) (rg : Fin 2) (c : Dev nD) : OIdx :=
  Finset.univ.filter fun i : S1024x1024.Idx => (ho x rg c ≤ (i 0).val ∧ (i 0).val < ho x rg c + 256) ∧ (decide (512 ≤ (i 1).val) = x)

theorem mem_oBlk {x : Bool} {rg : Fin 2} {c : Dev nD} {i : S1024x1024.Idx} :
    i ∈ oBlk x rg c ↔ (ho x rg c ≤ (i 0).val ∧ (i 0).val < ho x rg c + 256) ∧ (decide (512 ≤ (i 1).val) = x) := by
  unfold oBlk; rw [Finset.mem_filter]; exact and_iff_right (Finset.mem_univ _)

def oCol : Bool → ℕ
  | false => 0
  | true => 512

theorem set_oBlk {off : Fin 2 → ℕ} {x : Bool} {rg : Fin 2} {c : Dev nD} {inb} (h : off = ![ho x rg c, oCol x]) :
    oBlk x rg c = (Rect.unit (s := S1024x1024) off ![256, 512] inb).set := by
  subst h
  ext i
  rw [Rect.mem_set_unit, mem_oBlk]
  have h1 : (i 1).val < 1024 := (i 1).isLt
  constructor
  · intro h a
    refine Fin.cases h.1 (fun b => ?_) a
    rw [Fin.fin_one_eq_zero b]
    show oCol x ≤ (i 1).val ∧ (i 1).val < oCol x + 512
    cases x <;> simp [oCol] at h ⊢ <;> omega
  · intro h
    have h0 := h 0
    have h1' : oCol x ≤ (i 1).val ∧ (i 1).val < oCol x + 512 := h 1
    refine ⟨h0, ?_⟩
    cases x <;> simp [oCol] at h1' ⊢ <;> omega

/-- The rows of a group, all columns. -/
def oRows (rg : Fin 2) : OIdx := Finset.univ.filter fun i : S1024x1024.Idx => 512 * rg.val ≤ (i 0).val ∧ (i 0).val < 512 * rg.val + 512
theorem mem_oRows {rg : Fin 2} {i : S1024x1024.Idx} : i ∈ oRows rg ↔ 512 * rg.val ≤ (i 0).val ∧ (i 0).val < 512 * rg.val + 512 := by
  unfold oRows; rw [Finset.mem_filter]; exact and_iff_right (Finset.mem_univ _)

def oHalf (x : Bool) (rg : Fin 2) : OIdx := (oRows rg).filter fun i => decide (512 ≤ (i 1).val) = x
theorem mem_oHalf {x : Bool} {rg : Fin 2} {i : S1024x1024.Idx} : i ∈ oHalf x rg ↔ i ∈ oRows rg ∧ decide (512 ≤ (i 1).val) = x := by
  unfold oHalf; rw [Finset.mem_filter]

theorem oRows_eq (rg : Fin 2) : oRows rg = oHalf false rg ∪ oHalf true rg := by
  ext i; rw [Finset.mem_union, mem_oHalf, mem_oHalf]
  cases decide (512 ≤ (i 1).val) <;> simp
theorem oHalf_disj (rg : Fin 2) : Disjoint (oHalf false rg) (oHalf true rg) := by
  rw [Finset.disjoint_left]; intro i; rw [mem_oHalf, mem_oHalf]; rintro ⟨-, h⟩ ⟨-, h'⟩; rw [h] at h'; exact absurd h' (by decide)
theorem oHalf_eq (x : Bool) (rg : Fin 2) (c : Dev nD) : oHalf x rg = oBlk x rg c ∪ oBlk x rg (P x c) := by
  ext i
  have h := own_P x c
  rw [Finset.mem_union, mem_oHalf, mem_oRows, mem_oBlk, mem_oBlk]; unfold ho
  constructor
  · rintro ⟨h1, h2⟩
    rcases (show own x c / 2 = 0 ∨ own x c / 2 = 1 by omega) with h3 | h3 <;>
      by_cases h4 : (i 0).val < 512 * rg.val + 256
    · left; exact ⟨by omega, h2⟩
    · right; exact ⟨by omega, h2⟩
    · right; exact ⟨by omega, h2⟩
    · left; exact ⟨by omega, h2⟩
  · rintro (⟨h1, h2⟩ | ⟨h1, h2⟩) <;> exact ⟨by omega, h2⟩
theorem oBlk_disj (x : Bool) (rg : Fin 2) (c : Dev nD) : Disjoint (oBlk x rg c) (oBlk x rg (P x c)) := by
  rw [Finset.disjoint_left]; intro i
  have h := own_P x c
  rw [mem_oBlk, mem_oBlk]; unfold ho; rintro ⟨h1, -⟩ ⟨h2, -⟩; omega
theorem oRows_univ : (Finset.univ : OIdx) = oRows 0 ∪ oRows 1 := by
  ext i
  have h : (i 0).val < 1024 := (i 0).isLt
  rw [Finset.mem_union, mem_oRows, mem_oRows]; simp only [Finset.mem_univ, true_iff, Fin.val_zero, Fin.val_one]; omega
theorem oRows_disj : Disjoint (oRows 0) (oRows 1) := by
  rw [Finset.disjoint_left]; intro i; rw [mem_oRows, mem_oRows]; simp only [Fin.val_zero, Fin.val_one]; omega

/-! ## Buffers -/

@[reducible] def accM : Bool → Memref sig .tc .vmem S1024x512 .bf16
  | false => Memref.whole cc0_scratch0
  | true => Memref.whole cc0_scratch1
@[reducible] def r1M : Bool → Memref sig .tc .vmem S2x256x512 .bf16
  | false => Memref.whole cc0_scratch3
  | true => Memref.whole cc0_scratch4
@[reducible] def r2M : Bool → Memref sig .tc .vmem S2x128x512 .bf16
  | false => Memref.whole cc0_scratch5
  | true => Memref.whole cc0_scratch6
abbrev outM : Memref sig .tc .vmem S1024x1024 .f32 := Memref.whole cc0_stg1_0
abbrev idsM : Memref sig .tc .vmem S1024x1 .i32 := Memref.whole cc0_stg0_0
abbrev ebM : Memref sig .tc .vmem S2x1024x1024 .f32 := Memref.whole cc0_scratch2
abbrev EM : Memref sig .tc .hbm S8192x1024 .f32 := Memref.whole main_arg1

theorem r1_inb (rg : Fin 2) : ∀ a, (![rg.val, 0, 0] : Fin 3 → ℕ) a + S1x256x512.size a ≤ S2x256x512.size a := by revert rg; decide
theorem r2_inb (rg : Fin 2) : ∀ a, (![rg.val, 0, 0] : Fin 3 → ℕ) a + S1x128x512.size a ≤ S2x128x512.size a := by revert rg; decide
theorem eb_inb (s : Fin 2) : ∀ a, (![s.val, 0, 0] : Fin 3 → ℕ) a + S1x1024x1024.size a ≤ S2x1024x1024.size a := by revert s; decide

abbrev r1R (rg : Fin 2) : Rect S2x256x512 := Rect.unit (s := S2x256x512) ![rg.val, 0, 0] S1x256x512.size (r1_inb rg)
abbrev r2R (rg : Fin 2) : Rect S2x128x512 := Rect.unit (s := S2x128x512) ![rg.val, 0, 0] S1x128x512.size (r2_inb rg)
abbrev ebR (s : Fin 2) : Rect S2x1024x1024 := Rect.unit (s := S2x1024x1024) ![s.val, 0, 0] S1x1024x1024.size (eb_inb s)

@[reducible] def r1S (x : Bool) (rg : Fin 2) : Memref sig .tc .vmem S256x512 .bf16 :=
  ((r1M x).slice (r1R rg) (fun _ => rfl)).squeeze S256x512 squeezes_S1x256x512_S256x512
@[reducible] def r2S (x : Bool) (rg : Fin 2) : Memref sig .tc .vmem S128x512 .bf16 :=
  ((r2M x).slice (r2R rg) (fun _ => rfl)).squeeze S128x512 squeezes_S1x128x512_S128x512
@[reducible] def ebS (s : Fin 2) : Memref sig .tc .vmem S1024x1024 .f32 :=
  (ebM.slice (ebR s) (fun _ => rfl)).squeeze S1024x1024 squeezes_S1x1024x1024_S1024x1024

/-! ## Contents -/

/-- What the devices' operands hold: the shifted ids, and the block of rows of E. -/
structure In (F : FTy → Type) where
  ids : Dev nD → S1024x1.Idx → Elt F .i32
  En : Dev nD → S8192x1024.Idx → Elt F .f32

variable (X : In F)

/-- The ids of a group of rows. -/
def lid (c : Dev nD) (rg : Fin 2) : Vec F S512x1 .i32 :=
  fun j => X.ids c (ix2 ⟨(512 * rg.val + (j 0).val) % 1024, Nat.mod_lt _ (by decide)⟩ (j 1))
/-- Chunk `k` of the block of rows of E. -/
def eblk (c : Dev nD) (k : ℕ) : S1024x1024.Idx → Elt F .f32 :=
  fun j => X.En c (ix2 ⟨(1024 * k + (j 0).val) % 8192, Nat.mod_lt _ (by decide)⟩ (j 1))

/-- The one-hot product of a chunk of the vocabulary. -/
def prod (w : BitVec 32) (v : IVec S512x1 32) (e : FVec F S1024x1024 .f32) : FVec F S512x1024 .f32 :=
  matmul dot_S512x1024_S1024x1024_S512x1024_1_0_0_1_n_n none
    (sitofp .f32 (extui 32 (cmpi .eq (broadcastTo S512x1024 v broadcasts_S512x1_S512x1024)
      (addi (iota .tc S512x1024 32 [1] iota_S512x1024_d1_w32) (broadcast S512x1024 w))) natLt_1_32))
    e (constant S512x1024 .f32 0x00000000#32)

/-- The sum over the chunks `0 … k`. -/
def psum (c : Dev nD) (rg : Fin 2) : ℕ → FVec F S512x1024 .f32
  | 0 => prod 0#32 (k0_pay1 (lid X c rg)) (eblk X c 0)
  | k + 1 => addf (psum c rg k) (prod (BitVec.ofNat 32 (1024 * (k + 1))) (k0_pay1 (lid X c rg)) (eblk X c (k + 1)))

/-- The result buffer while a group's sums run. -/
def psO (c : Dev nD) (rg : Fin 2) (k : ℕ) : S1024x1024.Idx → Elt F .f32 :=
  fun i => psum X c rg k (ix2 ⟨((i 0).val - 512 * rg.val) % 512, Nat.mod_lt _ (by decide)⟩ (i 1))

def rgOf (r : ℕ) : Fin 2 := ⟨r / 512 % 2, Nat.mod_lt _ (by decide)⟩

/-- A device's own sums, rounded. -/
def A0 (x : Bool) (c : Dev nD) : S1024x512.Idx → Elt F .bf16 :=
  fun i => FloatOps.truncf .bf16 bitsLt_bf16_f32 (psum X c (rgOf (i 0).val) 7
    (ix2 ⟨(i 0).val % 512, Nat.mod_lt _ (by decide)⟩ ⟨oCol x + (i 1).val, by have : (i 1).val < 512 := (i 1).isLt; cases x <;> simp [oCol] <;> omega⟩))
def A1 (x : Bool) (c : Dev nD) : S1024x512.Idx → Elt F .bf16 :=
  fun i => FloatOps.addf (A0 X x c i) (A0 X x (P x c) i)
def A2 (x : Bool) (c : Dev nD) : S1024x512.Idx → Elt F .bf16 :=
  fun i => FloatOps.addf (A1 X x c i) (A1 X x (P (!x) c) i)
/-- The finished sums: every row as the device that owns it made it. -/
def Fin_ (x : Bool) : S1024x512.Idx → Elt F .bf16 := fun i => A2 X x (owner x (i 0).val) i

/-- The result. -/
def OutF : S1024x1024.Idx → Elt F .f32 :=
  fun i => FloatOps.extf .f32 bitsLt_bf16_f32 (Fin_ X (decide (512 ≤ (i 1).val)) (ix2 (i 0) ⟨(i 1).val % 512, Nat.mod_lt _ (by decide)⟩))

theorem A2_Fin {x : Bool} {rg : Fin 2} {c : Dev nD} : ∀ i ∈ Qs x rg c, A2 X x c i = Fin_ X x i := by
  intro i hi
  unfold Qs qo at hi; rw [mem_rows] at hi
  have := own_lt x c
  unfold Fin_
  rw [owner_own x c (i 0).val (by omega)]

/-- Rows of a full buffer read from row `o` on. -/
def sub {n : ℕ} {α : Type} (o : ℕ) (w : S1024x512.Idx → α) : (⟨2, ![n, 512]⟩ : Shape).Idx → α :=
  fun y => w (ix2 ⟨(o + (y 0).val) % 1024, Nat.mod_lt _ (by decide)⟩ (y 1))

theorem ext2 {n m : ℕ} {i j : (⟨2, ![n, m]⟩ : Shape).Idx} (h0 : (i 0).val = (j 0).val) (h1 : (i 1).val = (j 1).val) : i = j := by
  funext a
  refine Fin.cases (Fin.ext h0) (fun b => ?_) a
  rw [Fin.fin_one_eq_zero b]; exact Fin.ext h1

theorem sub_emb {n : ℕ} {α : Type} {off : Fin 2 → ℕ} {o : ℕ} {inb} (h : off = ![o, 0]) (w : S1024x512.Idx → α) :
    ∀ y, sub (n := n) o w y = w ((Rect.unit (s := S1024x512) off ![n, 512] inb).emb y) := by
  subst h
  intro y
  unfold sub
  congr 1
  have h1 : o + n ≤ 1024 := inb 0
  have h2 : (y 0).val < n := (y 0).isLt
  refine ext2 ?_ ?_
  · rw [ValueKit.rect_emb_unit_val]; exact Nat.mod_eq_of_lt (by omega)
  · rw [ValueKit.rect_emb_unit_val]; exact (Nat.zero_add _).symm

end Cert.KP
-- ==== Proof.Proto.lean ====
/-
The protocol's cells: who pays which cell, how much, and what a payment hands over.
-/
module

public import proofs.«01_k».proof.Proof.Common

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Transfers and their cells -/

/-- A transfer: group of rows, kind, channel. -/
abbrev TI : Type := Fin 2 × Fin 4 × Bool

def ixN : TI → ℕ
  | (rg, k, x) => rg.val * 8 + k.val * 2 + (if x then 1 else 0)
theorem ixN_lt (t : TI) : ixN t < 16 := by revert t; decide
def tiOf (n : ℕ) : TI := (⟨n / 8 % 2, Nat.mod_lt _ (by decide)⟩, ⟨n / 2 % 4, Nat.mod_lt _ (by decide)⟩, decide (n % 2 = 1))
theorem tiOf_ixN (t : TI) : tiOf (ixN t) = t := by revert t; decide
theorem ixN_tiOf : ∀ n, n < 16 → ixN (tiOf n) = n := by decide

/-- The partner a transfer goes to (and comes from). -/
def pk : TI → Dev nD → Dev nD
  | (_, 0, x), c => P x c
  | (_, 1, x), c => P (!x) c
  | (_, 2, x), c => P (!x) c
  | (_, 3, x), c => P x c
theorem pk_pk (t : TI) (c : Dev nD) : pk t (pk t c) = c := by revert t c; decide

def sS (t : TI) : DmaSem sig := ⟨4 + ixN t, by have := ixN_lt t; show _ < 36; omega⟩
def rS (t : TI) : DmaSem sig := ⟨20 + ixN t, by have := ixN_lt t; show _ < 36; omega⟩
theorem sS_val (t : TI) : (sS t).val = 4 + ixN t := rfl
theorem rS_val (t : TI) : (rS t).val = 20 + ixN t := rfl

abbrev bar (c : Dev nD) : GSem nD τ sig := ((c : Thread nD τ), .reg barrier0)
abbrev sc (t : TI) (c : Dev nD) : GSem nD τ sig := ((c : Thread nD τ), .dma (sS t))
abbrev rc (t : TI) (c : Dev nD) : GSem nD τ sig := ((c : Thread nD τ), .dma (rS t))

/-- What a transfer of a half and one of a quarter credits. -/
def N256 : ℕ := (r1S false 0).view.dmaCredit
def N128 : ℕ := (r2S false 0).view.dmaCredit
theorem N256_pos : 0 < N256 := View.dmaCredit_pos _ (by decide)
theorem N128_pos : 0 < N128 := View.dmaCredit_pos _ (by decide)
def NT : TI → ℕ
  | (_, 0, _) => N256
  | (_, 1, _) => N128
  | (_, 2, _) => N128
  | (_, 3, _) => N256
theorem NT_pos (t : TI) : 0 < NT t := by
  obtain ⟨rg, k, x⟩ := t
  fin_cases k
  · exact N256_pos
  · exact N128_pos
  · exact N128_pos
  · exact N256_pos

/-- The rounds' ghost state, beside the pipeline library's. -/
def ER : Emb (URounds (GSem nD τ sig) Bool) 𝕄 := (Emb.inl : Emb (URounds (GSem nD τ sig) Bool) (URounds (GSem nD τ sig) Bool × Counters)).trans embR
instance ER_landsIn : (ER : Emb _ 𝕄).LandsIn (upEmb : UEmb _ 𝕄) := by unfold ER; infer_instance

/-! ## Payloads -/

variable (X : In F)

abbrev full : PosShare TreeShare := fullShare

/-- Paid to a device's barrier cell by its first partner in channel `x`: that partner's landing slots, and that its
    receiving cells are open. -/
def barPay1 (x : Bool) (rg : Fin 2) (e : Dev nD) : sProp 𝕄 :=
  iprop(any (r1S x rg) e Finset.univ ∗ any (r2S (!x) rg) e Finset.univ
    ∗ (reached ER (rc (rg, 0, x) e) 0 ∗ reached ER (rc (rg, 1, !x) e) 0 ∗ reached ER (rc (rg, 2, !x) e) 0 ∗ reached ER (rc (rg, 3, x) e) 0))
def barPay (x : Bool) (d : Dev nD) : sProp 𝕄 := iprop(barPay1 x 0 (P x d) ∗ barPay1 x 1 (P x d))

/-- Handed to the sender by its own transfer's end. -/
def sendPay : TI → Dev nD → sProp 𝕄
  | (_, 0, _), _ => iprop(emp)
  | (_, 1, _), _ => iprop(emp)
  | (rg, 2, x), c => pts (accM x) c (Qs x rg c) full.left (Fin_ X x)
  | (rg, 3, x), c => pts (accM x) c (Hs x rg c) full.right.left (Fin_ X x)

/-- Handed to the receiver `d` by a landing. -/
def recvPay : TI → Dev nD → sProp 𝕄
  | (rg, 0, x), d => iprop(pts (r1S x rg) d Finset.univ full (sub (ho x rg d) (A0 X x (P x d)))
      ∗ pts (accM x) (P x d) (Hs x rg d) full (A0 X x (P x d)))
  | (rg, 1, x), d => iprop(pts (r2S x rg) d Finset.univ full (sub (qo x rg d) (A1 X x (P (!x) d)))
      ∗ pts (accM x) (P (!x) d) (Qs x rg d) full (A1 X x (P (!x) d)))
  | (rg, 2, x), d => pts (accM x) d (Qs x rg (P (!x) d)) full (Fin_ X x)
  | (rg, 3, x), d => pts (accM x) d (Hs x rg (P x d)) full (Fin_ X x)

instance barPay_storable (x : Bool) (d : Dev nD) : BI.Storable (upEmb : UEmb _ 𝕄) (barPay (F := F) x d) := by
  unfold barPay barPay1; infer_instance
instance sendPay_storable (t : TI) (d : Dev nD) : BI.Storable (upEmb : UEmb _ 𝕄) (sendPay X t d) := by
  obtain ⟨rg, k, x⟩ := t
  fin_cases k <;> unfold sendPay <;> infer_instance
instance recvPay_storable (t : TI) (d : Dev nD) : BI.Storable (upEmb : UEmb _ 𝕄) (recvPay X t d) := by
  obtain ⟨rg, k, x⟩ := t
  fin_cases k <;> unfold recvPay <;> infer_instance

/-! ## The schedule -/

/-- One round everywhere: two duties on a barrier cell (one per channel), one on a sending or receiving cell. -/
def Rd : Rounds.Schedule (GSem nD τ sig) Bool 𝕄 where
  duties g r := if r = 0 then (match g.2 with | .reg _ => {false, true} | .dma _ => {false}) else ∅
  unitless _ := False
  amount g _ _ := match g.2 with
    | .reg _ => 1
    | .dma s => if s.val < 20 then NT (tiOf (s.val - 4)) else NT (tiOf (s.val - 20))
  payload g _ d := match g.2 with
    | .reg _ => barPay d g.1.1
    | .dma s => if s.val < 20 then sendPay X (tiOf (s.val - 4)) g.1.1 else recvPay X (tiOf (s.val - 20)) g.1.1
  amount_pos g _ _ _ := by
    rcases g with ⟨t, sm⟩
    cases sm with
    | reg s => exact Nat.one_pos
    | dma s => dsimp only; split <;> exact NT_pos _

instance Rd_payload_storable (g : GSem nD τ sig) (r : ℕ) (d : Bool) : BI.Storable (upEmb : UEmb _ 𝕄) ((Rd X).payload g r d) := by
  rcases g with ⟨t, sm⟩
  cases sm with
  | reg s => show BI.Storable upEmb (barPay d t.1); infer_instance
  | dma s =>
    show BI.Storable upEmb (if s.val < 20 then sendPay X (tiOf (s.val - 4)) t.1 else recvPay X (tiOf (s.val - 20)) t.1)
    split <;> infer_instance

theorem duties_bar (c : Dev nD) : (Rd X).duties (bar c) 0 = {false, true} := rfl
theorem duties_sc (t : TI) (c : Dev nD) : (Rd X).duties (sc t c) 0 = {false} := rfl
theorem duties_rc (t : TI) (c : Dev nD) : (Rd X).duties (rc t c) 0 = {false} := rfl
theorem duties_later (g : GSem nD τ sig) : ∀ r, 1 ≤ r → (Rd X).duties g r = ∅ := fun r hr => if_neg (by omega)

theorem amount_bar (c : Dev nD) (d : Bool) : (Rd X).amount (bar c) 0 d = 1 := rfl
theorem amount_sc (t : TI) (c : Dev nD) (d : Bool) : (Rd X).amount (sc t c) 0 d = NT t := by
  have h := ixN_lt t
  show (if (sS t).val < 20 then NT (tiOf ((sS t).val - 4)) else NT (tiOf ((sS t).val - 20))) = NT t
  rw [sS_val, if_pos (by omega), Nat.add_sub_cancel_left, tiOf_ixN]
theorem amount_rc (t : TI) (c : Dev nD) (d : Bool) : (Rd X).amount (rc t c) 0 d = NT t := by
  show (if (rS t).val < 20 then NT (tiOf ((rS t).val - 4)) else NT (tiOf ((rS t).val - 20))) = NT t
  rw [rS_val, if_neg (by omega), Nat.add_sub_cancel_left, tiOf_ixN]

theorem payload_bar (c : Dev nD) (d : Bool) : (Rd X).payload (bar c) 0 d = barPay d c := rfl
theorem payload_sc (t : TI) (c : Dev nD) (d : Bool) : (Rd X).payload (sc t c) 0 d = sendPay X t c := by
  have h := ixN_lt t
  show (if (sS t).val < 20 then sendPay X (tiOf ((sS t).val - 4)) c else recvPay X (tiOf ((sS t).val - 20)) c) = _
  rw [sS_val, if_pos (by omega), Nat.add_sub_cancel_left, tiOf_ixN]
theorem payload_rc (t : TI) (c : Dev nD) (d : Bool) : (Rd X).payload (rc t c) 0 d = recvPay X t c := by
  show (if (rS t).val < 20 then sendPay X (tiOf ((rS t).val - 4)) c else recvPay X (tiOf ((rS t).val - 20)) c) = _
  rw [rS_val, if_neg (by omega), Nat.add_sub_cancel_left, tiOf_ixN]

theorem expect_bar (c : Dev nD) : (Rd X).expect (bar c) 0 = 2 := by
  unfold Schedule.expect Schedule.amountOf; rw [duties_bar]; rfl
theorem expect_sc (t : TI) (c : Dev nD) : (Rd X).expect (sc t c) 0 = NT t := by
  unfold Schedule.expect Schedule.amountOf; rw [duties_sc, Finset.sum_singleton, amount_sc]
theorem expect_rc (t : TI) (c : Dev nD) : (Rd X).expect (rc t c) 0 = NT t := by
  unfold Schedule.expect Schedule.amountOf; rw [duties_rc, Finset.sum_singleton, amount_rc]

theorem rest_bar (c : Dev nD) : bigSep ((Rd X).duties (bar c) 0 \ ∅) (fun d => (Rd X).payload (bar c) 0 d)
    = iprop(barPay false c ∗ barPay true c) := by
  rw [Finset.sdiff_empty, duties_bar, bigSep_insert (by decide), bigSep_singleton]; rfl
theorem rest_sc (t : TI) (c : Dev nD) : bigSep ((Rd X).duties (sc t c) 0 \ ∅) (fun d => (Rd X).payload (sc t c) 0 d) = sendPay X t c := by
  rw [Finset.sdiff_empty, duties_sc, bigSep_singleton, payload_sc]
theorem rest_rc (t : TI) (c : Dev nD) : bigSep ((Rd X).duties (rc t c) 0 \ ∅) (fun d => (Rd X).payload (rc t c) 0 d) = recvPay X t c := by
  rw [Finset.sdiff_empty, duties_rc, bigSep_singleton, payload_rc]

/-! ## What a device owes, and the levels -/

/-- The transfer a device issues when `n` dues remain after it. -/
def txOf (n : ℕ) : TI :=
  match n / 2 with
  | 0 => (1, 3, decide (n % 2 = 0))
  | 1 => (1, 2, decide (n % 2 = 0))
  | 2 => (0, 3, decide (n % 2 = 0))
  | 3 => (1, 1, decide (n % 2 = 0))
  | 4 => (0, 2, decide (n % 2 = 0))
  | 5 => (1, 0, decide (n % 2 = 0))
  | 6 => (0, 1, decide (n % 2 = 0))
  | _ => (0, 0, decide (n % 2 = 0))

def dueCell (c : Dev nD) (n : ℕ) : GSem nD τ sig := if n < 16 then rc (txOf n) (pk (txOf n) c) else bar (P (n = 16) c)
def dueN (n : ℕ) : ℕ := if n < 16 then NT (txOf n) else 1

/-- What a device still owes when `n` dues remain. -/
def OtR (c : Dev nD) : ℕ → CellTallies nD τ sig Unit
  | 0 => 0
  | n + 1 => OtR c n + tallyAt (dueCell c n) () (dueN n)

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def lvT : TI → ℕ
  | (0, k, _) => (![2, 3, 5, 7] : Fin 4 → ℕ) k
  | (1, k, _) => (![4, 6, 8, 9] : Fin 4 → ℕ) k
def lvS : SemLoc sig → ℕ
  | .reg _ => 1
  | .dma s => if s.val < 20 then 0 else lvT (tiOf (s.val - 20))
def lv (g : GSem nD τ sig) (_ : Unit) : ℕ := lvS g.2
theorem lvS_rS (t : TI) : lvS (.dma (rS t)) = lvT t := by
  show (if (rS t).val < 20 then 0 else lvT (tiOf ((rS t).val - 20))) = lvT t
  rw [rS_val, if_neg (by omega), Nat.add_sub_cancel_left, tiOf_ixN]

def dueL (n : ℕ) : ℕ := if n < 16 then lvT (txOf n) else 1

theorem lv_due (c : Dev nD) (n : ℕ) (u : Unit) : lv (dueCell c n) u = dueL n := by
  unfold dueCell dueL lv
  split
  · exact lvS_rS _
  · rfl

theorem OtR_pos {c : Dev nD} {g : GSem nD τ sig} {u : Unit} : ∀ {n : ℕ}, 0 < OtR c n g u → ∃ m, m < n ∧ g = dueCell c m
  | 0, h => absurd h (Nat.lt_irrefl 0)
  | n + 1, h => by
    unfold OtR at h
    rw [Pi.add_apply, Finsupp.add_apply] at h
    rcases Nat.add_pos_iff_pos_or_pos.mp h with h | h
    · obtain ⟨m, hm, e⟩ := OtR_pos h
      exact ⟨m, by omega, e⟩
    · rw [tallyAt_apply] at h
      split at h
      · next hg => exact ⟨n, by omega, hg.1⟩
      · exact absurd h (Nat.lt_irrefl 0)

theorem L_due (c : Dev nD) (n : ℕ) (u : Unit) : u ∈ L (dueCell c n) := by
  unfold dueCell
  split <;> rw [L_tc] <;> exact Finset.mem_singleton_self _

theorem mayWait (c : Dev nD) (sm : SemLoc sig) (n : ℕ) (h : ∀ m, m < n → lvS sm < dueL m) :
    (levAts L lv : sProp 𝕄) ⊢ MayWait (c : Thread nD τ) sm () (OtR c n) :=
  MayOwe.of_cut (L := L) (lev := lv) (lvS sm) (fun p hp => by rw [Finset.mem_singleton.mp hp, L_tc]; exact Finset.mem_singleton_self _)
    (fun g u hg => by obtain ⟨m, -, rfl⟩ := OtR_pos hg; exact L_due c m u)
    (fun p hp => by rw [Finset.mem_singleton.mp hp]; exact le_refl _)
    (fun g u hg => by obtain ⟨m, hm, rfl⟩ := OtR_pos hg; rw [lv_due]; exact h m hm)

/-- What a device owes when `n` dues remain. -/
def Ow (c : Dev nD) (n : ℕ) : sProp 𝕄 := iprop(∃ W, owes (c : Thread nD τ) (OtR c n) W)

/-! ## The cells, together -/

def barEmb : Dev nD ↪ GSem nD τ sig := ⟨fun c => bar c, fun _ _ h => congrArg (fun g : GSem nD τ sig => g.1.1) h⟩
/-- A device's own sending (`false`) and receiving (`true`) cells. -/
def sSem : Bool × TI → SemLoc sig
  | (false, t) => .dma (sS t)
  | (true, t) => .dma (rS t)
theorem sSem_inj : Function.Injective sSem := by
  have hi : Function.Injective ixN := fun a b h => by rw [← tiOf_ixN a, ← tiOf_ixN b, h]
  rintro ⟨a, t⟩ ⟨b, u⟩ h
  have e1 : ∀ {p q : DmaSem sig}, (SemLoc.dma p : SemLoc sig) = .dma q → p.val = q.val := fun h => by injection h with h; rw [h]
  have ht := ixN_lt t
  have hu := ixN_lt u
  cases a <;> cases b <;> have h' := e1 h <;> simp only [sS_val, rS_val] at h'
  · rw [hi (show ixN t = ixN u by omega)]
  · omega
  · omega
  · rw [hi (show ixN t = ixN u by omega)]
def scEmb : Dev nD × (Bool × TI) ↪ GSem nD τ sig :=
  ⟨fun ck => ((ck.1 : Thread nD τ), sSem ck.2), fun _ _ h =>
    Prod.ext (congrArg (fun g : GSem nD τ sig => g.1.1) h) (sSem_inj (congrArg Prod.snd h))⟩
def barCells : Finset (GSem nD τ sig) := Finset.univ.map barEmb
def scCells : Finset (GSem nD τ sig) := Finset.univ.map scEmb
theorem bar_mem (c : Dev nD) : bar c ∈ barCells ∪ scCells := Finset.mem_union_left _ (Finset.mem_map_of_mem barEmb (Finset.mem_univ c))
theorem sc_mem (t : TI) (c : Dev nD) : sc t c ∈ barCells ∪ scCells :=
  Finset.mem_union_right _ (Finset.mem_map_of_mem scEmb (Finset.mem_univ (c, (false, t))))
theorem rc_mem (t : TI) (c : Dev nD) : rc t c ∈ barCells ∪ scCells :=
  Finset.mem_union_right _ (Finset.mem_map_of_mem scEmb (Finset.mem_univ (c, (true, t))))

/-- All the cells' invariants, at the names `K`. -/
def Invs (K : GSem nD τ sig → ℕ) : sProp 𝕄 := bigSep (barCells ∪ scCells) fun g => cellInv ER (Rd X) (K g) g
instance Invs_persistent (K : GSem nD τ sig → ℕ) : BI.Persistent (Invs X K) := by unfold Invs; infer_instance
theorem Invs_at (K : GSem nD τ sig → ℕ) {g : GSem nD τ sig} (hg : g ∈ barCells ∪ scCells) :
    Invs X K ⊢ cellInv ER (Rd X) (K g) g := bigSep_elim hg

/-- What every step may consult: the invariants, the levels, that the own sending cells and every barrier cell are open. -/
def Ctx (K : GSem nD τ sig → ℕ) (c : Dev nD) : sProp 𝕄 :=
  iprop(Invs X K ∗ levAts L lv ∗ (bigSep Finset.univ fun t : TI => reached ER (sc t c) 0) ∗ (bigSep Finset.univ fun d : Dev nD => reached ER (bar d) 0))
instance Ctx_persistent (K : GSem nD τ sig → ℕ) (c : Dev nD) : BI.Persistent (Ctx X K c) := by unfold Ctx; infer_instance

end Cert.KP
-- ==== Proof.Ops.lean ====
/-
The protocol's operations: signals, remote copies, waits, and the local copies of E's chunks, each as one rule.
-/
module

public import proofs.«01_k».proof.Proof.Proto

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : In F) (K : GSem nD τ sig → ℕ)

abbrev EC : UEmb Counters 𝕄 := countersEmb

theorem reached_at (t : TI) (c : Dev nD) :
    (bigSep Finset.univ fun t : TI => reached ER (sc t c) 0 : sProp 𝕄) ⊢ reached ER (sc t c) 0 := bigSep_elim (Finset.mem_univ t)
theorem reached_bar (d : Dev nD) :
    (bigSep Finset.univ fun d : Dev nD => reached ER (bar d) 0 : sProp 𝕄) ⊢ reached ER (bar d) 0 := bigSep_elim (Finset.mem_univ d)

/-! ## The stages of a transfer's tokens -/

/-- Before it is issued. -/
def Tk (t : TI) (c : Dev nD) : sProp 𝕄 :=
  iprop(dutyTok ER (rc t (pk t c)) 0 false ∗ dutyTok ER (sc t c) 0 false ∗ atPos ER (sc t c) 0 ∅ 0 ∗ atPos ER (rc t c) 0 ∅ 0
    ∗ cred (tallyAt (rc t c) () (NT t)))
/-- Issued. -/
def Tk1 (t : TI) (c : Dev nD) : sProp 𝕄 :=
  iprop(atPos ER (sc t c) 0 ∅ 0 ∗ cred (tallyAt (sc t c) () (NT t)) ∗ atPos ER (rc t c) 0 ∅ 0 ∗ cred (tallyAt (rc t c) () (NT t)))
/-- Its counterpart received. -/
def Tk2 (t : TI) (c : Dev nD) : sProp 𝕄 :=
  iprop(atPos ER (sc t c) 0 ∅ 0 ∗ cred (tallyAt (sc t c) () (NT t)) ∗ atPos ER (rc t c) (0 + 1) ∅ 0)
/-- Its own end waited for. -/
def Tk3 (t : TI) (c : Dev nD) : sProp 𝕄 := iprop(atPos ER (sc t c) (0 + 1) ∅ 0 ∗ atPos ER (rc t c) (0 + 1) ∅ 0)

section Ops

variable {Λ : Labels} {defs : Defs nD τ sig (Elt F) Λ} (𝒱 : Variants)
variable {c : Dev nD} {α : Type}

theorem dueCell_lt {t : TI} {n : ℕ} (h : txOf n = t) (hn : n < 16) : dueCell c n = rc t (pk t c) := by
  unfold dueCell; rw [if_pos hn, h]
theorem dueN_lt {t : TI} {n : ℕ} (h : txOf n = t) (hn : n < 16) : dueN n = NT t := by
  unfold dueN; rw [if_pos hn, h]

theorem OtR_tx {t : TI} {n : ℕ} (h : txOf n = t) (hn : n < 16) : OtR c (n + 1) = OtR c n + tallyAt (rc t (pk t c)) () (NT t) := by
  rw [OtR, dueCell_lt h hn, dueN_lt h hn]

/-- What a landing leaves, as logical contents. -/
theorem landed {s : Shape} {e : EltTy} {sp sp' : Space} {src : Memref sig .tc sp s e} {dst : Memref sig .tc sp' s e} {d : Dev nD}
    {fd : dst.view.ty.Contents (Elt F)} {fs : src.view.ty.Contents (Elt F)} {w : s.Idx → Elt F e} (hf : ∀ i ∈ (Finset.univ : Finset s.Idx), src.view.read (Elt F) fs i = w i) :
    (dst.view.loc (d : Thread nD τ) ↦[dst.view.set]{full} (dst.view.write (Elt F) fd (src.view.read (Elt F) fs) Finset.univ) : sProp 𝕄)
      ⊢ pts dst d Finset.univ full w := by
  unfold pts
  rw [View.setOn_univ]
  iintro H
  iexists _
  isplitr
  swap; · iexact H
  ipureintro; intro i hi
  rw [View.read_write_univ]; exact hf i hi

/-- A remote copy whose landing hands the receiver the source as well. -/
theorem send_land {Q : α → sProp 𝕄} (t : TI) (n : ℕ) (ht : txOf n = t) (hn : n < 16)
    {s : Shape} {e : EltTy} {sp sp' : Space} {src : Memref sig .tc sp s e} {d : Dev nD} {dst : Memref sig (d.tc (τ := τ)).2.kind sp' s e} {hsc : dst.view.ref.isScScratch = false}
    {s1 s2 : DmaSem sig} {hsrc : src.view.WordExact} {hdst : dst.view.WordExact} {hsem : DmaTarget.Typed sp (.dma s2) (.remote d.tc dst (.dma s1) hsc)}
    {k : PUnit → Prog (TpuEff nD τ sig (Elt F) Λ .tc) α} {w : s.Idx → Elt F e}
    (hd : d = pk t c) (h1 : s1 = sS t) (h2 : s2 = rS t) (hN : dst.view.dmaCredit = NT t)
    (hs : (emp : sProp 𝕄) ⊢ sendPay X t c)
    (hr : iprop(pts (c := pk t c) (M := (dst : Memref sig .tc sp' s e)) (R := Finset.univ) (q := full) (w := w) ∗ pts src c Finset.univ full w) ⊢ recvPay X t (pk t c)) :
    iprop(Ctx X K c ∗ Tk t c ∗ reached ER (rc t (pk t c)) 0 ∗ Ow c (n + 1) ∗ pts src c Finset.univ full w ∗ any (dst : Memref sig .tc sp' s e) (pk t c) Finset.univ)
      ⊢ iprop((iprop(Tk1 t c ∗ Ow c n) -∗ wp frame (wpE defs 𝒱 c none) Set.univ (k ⟨⟩) Q)
        -∗ wp frame (wpE defs 𝒱 c none) Set.univ (.op (.enqueueDma src (.remote d.tc dst (.dma s1) hsc) (.dma s2) hsrc hdst hsem) k) Q) := by
  subst hd h1 h2
  unfold Ctx Tk Tk1 Ow pts any
  rw [View.setOn_univ, View.setOn_univ]
  iintro ⟨⟨#HI, #Hlev, #Hrs, #Hrb⟩, ⟨HtR, HtS, HaS, HaR, Hcr⟩, #HrR, ⟨%W, HO⟩, ⟨%fs, %hf, Hsrc⟩, ⟨%fd, Hdst⟩⟩ Hk
  iapply (Rounds.wp_send_landing_pointsTo 𝒱 ER (Rd X) (c : Thread nD τ) none (c' := (Dev.tc (pk t c) : Thread nD τ)) (src := src) (dst := dst)
      (sS := .dma (sS t)) (sem := .dma (rS t)) (q := full) (fs := fs) (fd := fd) (κ₁ := K (sc t c)) (κ₂ := K (rc t (pk t c)))
      (r₁ := 0) (r₂ := 0) (d₁ := false) (d₂ := false)
      (by rw [duties_sc]; exact Finset.mem_singleton_self _) (by rw [duties_rc]; exact Finset.mem_singleton_self _)
      () () (NT t) hN (amount_sc X t c false) (amount_rc X t (pk t c) false) (OtR c n) (OtR_tx ht hn) (W := W)
      (by rw [payload_sc]; exact hs)
      (by
        rw [payload_rc]
        refine (BIClass.sep_mono (landed (dst := (dst : Memref sig .tc sp' s e)) hf) ?_).trans hr
        unfold pts; rw [View.setOn_univ]
        iintro H; iexists fs
        isplitr; · ipureintro; exact hf
        iexact H)) $$ [Hsrc Hdst HO HtS HtR]
  · isplitr; · iapply (Invs_at X K (sc_mem t c)); iexact HI
    isplitr; · iapply (Invs_at X K (rc_mem t (pk t c))); iexact HI
    isplitl [Hsrc]; · iexact Hsrc
    isplitl [Hdst]; · iexact Hdst
    isplitl [HO]; · iexact HO
    isplitl [HtS]; · iexact HtS
    isplitr; · iapply (reached_at t c); iexact Hrs
    isplitl [HtR]; · iexact HtR
    iexact HrR
  iintro ⟨HcS, HO⟩
  iapply Hk
  isplitl [HaS HcS HaR Hcr]
  · isplitl [HaS]; · iexact HaS
    isplitl [HcS]; · iexact HcS
    isplitl [HaR]; · iexact HaR
    iexact Hcr
  · iexists W; iexact HO

/-- A remote copy that leaves the source with the sender's own cell. -/
theorem send_keep {Q : α → sProp 𝕄} (t : TI) (n : ℕ) (ht : txOf n = t) (hn : n < 16)
    {s : Shape} {e : EltTy} {sp sp' : Space} {src : Memref sig .tc sp s e} {d : Dev nD} {dst : Memref sig (d.tc (τ := τ)).2.kind sp' s e} {hsc : dst.view.ref.isScScratch = false}
    {s1 s2 : DmaSem sig} {hsrc : src.view.WordExact} {hdst : dst.view.WordExact} {hsem : DmaTarget.Typed sp (.dma s2) (.remote d.tc dst (.dma s1) hsc)}
    {k : PUnit → Prog (TpuEff nD τ sig (Elt F) Λ .tc) α} {w : s.Idx → Elt F e} {q : PosShare TreeShare}
    (hd : d = pk t c) (h1 : s1 = sS t) (h2 : s2 = rS t) (hN : dst.view.dmaCredit = NT t)
    (hs : pts src c Finset.univ q w ⊢ sendPay X t c)
    (hr : pts (c := pk t c) (M := (dst : Memref sig .tc sp' s e)) (R := Finset.univ) (q := full) (w := w) ⊢ recvPay X t (pk t c)) :
    iprop(Ctx X K c ∗ Tk t c ∗ reached ER (rc t (pk t c)) 0 ∗ Ow c (n + 1) ∗ pts src c Finset.univ q w ∗ any (dst : Memref sig .tc sp' s e) (pk t c) Finset.univ)
      ⊢ iprop((iprop(Tk1 t c ∗ Ow c n) -∗ wp frame (wpE defs 𝒱 c none) Set.univ (k ⟨⟩) Q)
        -∗ wp frame (wpE defs 𝒱 c none) Set.univ (.op (.enqueueDma src (.remote d.tc dst (.dma s1) hsc) (.dma s2) hsrc hdst hsem) k) Q) := by
  subst hd h1 h2
  unfold Ctx Tk Tk1 Ow any
  rw [View.setOn_univ]
  iintro ⟨⟨#HI, #Hlev, #Hrs, #Hrb⟩, ⟨HtR, HtS, HaS, HaR, Hcr⟩, #HrR, ⟨%W, HO⟩, Hs, ⟨%fd, Hdst⟩⟩ Hk
  ihave Hs' := (show pts src c Finset.univ q w ⊢ iprop(∃ fs, ⌜∀ i ∈ (Finset.univ : Finset s.Idx), src.view.read (Elt F) fs i = w i⌝ ∗ (src.view.loc (c : Thread nD τ) ↦[src.view.set]{q} fs)) from by
    unfold pts; rw [View.setOn_univ]) $$ Hs
  icases Hs' with ⟨%fs, %hf, Hsrc⟩
  iapply (Rounds.wp_send_pointsTo 𝒱 ER (Rd X) (c : Thread nD τ) none (c' := (Dev.tc (pk t c) : Thread nD τ)) (src := src) (dst := dst)
      (sS := .dma (sS t)) (sem := .dma (rS t)) (q := q) (fs := fs) (fd := fd) (κ₁ := K (sc t c)) (κ₂ := K (rc t (pk t c)))
      (r₁ := 0) (r₂ := 0) (d₁ := false) (d₂ := false)
      (by rw [duties_sc]; exact Finset.mem_singleton_self _) (by rw [duties_rc]; exact Finset.mem_singleton_self _)
      () () (NT t) hN (amount_sc X t c false) (amount_rc X t (pk t c) false) (OtR c n) (OtR_tx ht hn) (W := W)
      (by
        rw [payload_sc]; refine BIBase.Entails.trans ?_ hs
        unfold pts; rw [View.setOn_univ]
        iintro H; iexists fs
        isplitr; · ipureintro; exact hf
        iexact H)
      (by
        rw [payload_rc]
        exact (landed (dst := (dst : Memref sig .tc sp' s e)) hf).trans hr)) $$ [Hsrc Hdst HO HtS HtR]
  · isplitr; · iapply (Invs_at X K (sc_mem t c)); iexact HI
    isplitr; · iapply (Invs_at X K (rc_mem t (pk t c))); iexact HI
    isplitl [Hsrc]; · iexact Hsrc
    isplitl [Hdst]; · iexact Hdst
    isplitl [HO]; · iexact HO
    isplitl [HtS]; · iexact HtS
    isplitr; · iapply (reached_at t c); iexact Hrs
    isplitl [HtR]; · iexact HtR
    iexact HrR
  iintro ⟨HcS, HO⟩
  iapply Hk
  isplitl [HaS HcS HaR Hcr]
  · isplitl [HaS]; · iexact HaS
    isplitl [HcS]; · iexact HcS
    isplitl [HaR]; · iexact HaR
    iexact Hcr
  · iexists W; iexact HO

/-- The wait for a landing. -/
theorem wait_recv {Q : α → sProp 𝕄} (t : TI) (n : ℕ) (hlev : ∀ m, m < n → lvT t < dueL m)
    {s s' : Shape} {e e' : EltTy} {sp sp' : Space} {s2 : DmaSem sig} {src : Memref sig .tc sp' s' e'} {dst : Memref sig .tc sp s e}
    {hsrc : src.view.WordExact} {hdst : dst.view.WordExact} {k : PUnit → Prog (TpuEff nD τ sig (Elt F) Λ .tc) α}
    (h2 : s2 = rS t) (hN : dst.view.dmaCredit = NT t) :
    iprop(Ctx X K c ∗ Tk1 t c ∗ Ow c n)
      ⊢ iprop((iprop(Tk2 t c ∗ Ow c n ∗ recvPay X t c) -∗ wp frame (wpE defs 𝒱 c none) Set.univ (k ⟨⟩) Q)
        -∗ wp frame (wpE defs 𝒱 c none) Set.univ (.op (.waitDma2 s2 src dst hsrc hdst) k) Q) := by
  subst h2
  unfold Ctx Tk1 Tk2 Ow
  iintro ⟨⟨#HI, #Hlev, #Hrs, #Hrb⟩, ⟨HaS, HcS, HaR, Hcr⟩, ⟨%W, HO⟩⟩ Hk
  iapply (Rounds.wp_wait_rest_token 𝒱 ER (Rd X) (c : Thread nD τ) none (κ := K (rc t c))
      (wpE_waitDma2_eq 𝒱 (c : Thread nD τ) none Set.univ) (Set.mem_univ _) () (O := OtR c n) (W := W) (R := 0) (m := 0) (T := ∅)
      ((Nat.zero_add _).trans (hN.trans (expect_rc X t c).symm))) $$ [Hcr HO HaR]
  · isplitr; · iapply (Invs_at X K (rc_mem t c)); iexact HI
    isplitl [Hcr]; · rw [hN]; iexact Hcr
    isplitl [HO]; · iexact HO
    isplitr; · iapply (mayWait c (.dma (rS t)) n (fun m hm => by rw [lvS_rS]; exact hlev m hm)); iexact Hlev
    iexact HaR
  iintro ⟨HO, HaR, -, Hpay⟩
  ihave Hp := (Entails.of_eq (rest_rc X t c)) $$ Hpay
  iapply Hk
  isplitl [HaS HcS HaR]
  · isplitl [HaS]; · iexact HaS
    isplitl [HcS] <;> iassumption
  isplitl [HO]; · iexists _; iexact HO
  iexact Hp

/-- The wait for the own transfer's end. -/
theorem wait_send {Q : α → sProp 𝕄} (t : TI)
    {s s' : Shape} {e e' : EltTy} {sp sp' : Space} {s2 : DmaSem sig} {src : Memref sig .tc sp' s' e'} {dst : Memref sig .tc sp s e}
    {hsrc : src.view.WordExact} {hdst : dst.view.WordExact} {k : PUnit → Prog (TpuEff nD τ sig (Elt F) Λ .tc) α}
    (h2 : s2 = sS t) (hN : dst.view.dmaCredit = NT t) :
    iprop(Ctx X K c ∗ Tk2 t c ∗ Ow c 0)
      ⊢ iprop((iprop(Tk3 t c ∗ Ow c 0 ∗ sendPay X t c) -∗ wp frame (wpE defs 𝒱 c none) Set.univ (k ⟨⟩) Q)
        -∗ wp frame (wpE defs 𝒱 c none) Set.univ (.op (.waitDma2 s2 src dst hsrc hdst) k) Q) := by
  subst h2
  unfold Ctx Tk2 Tk3 Ow
  iintro ⟨⟨#HI, #Hlev, #Hrs, #Hrb⟩, ⟨HaS, HcS, HaR⟩, ⟨%W, HO⟩⟩ Hk
  iapply (Rounds.wp_wait_rest_token 𝒱 ER (Rd X) (c : Thread nD τ) none (κ := K (sc t c))
      (wpE_waitDma2_eq 𝒱 (c : Thread nD τ) none Set.univ) (Set.mem_univ _) () (O := OtR c 0) (W := W) (R := 0) (m := 0) (T := ∅)
      ((Nat.zero_add _).trans (hN.trans (expect_sc X t c).symm))) $$ [HcS HO HaS]
  · isplitr; · iapply (Invs_at X K (sc_mem t c)); iexact HI
    isplitl [HcS]; · rw [hN]; iexact HcS
    isplitl [HO]; · iexact HO
    isplitr; · iapply (mayWait c (.dma (sS t)) 0 (fun m hm => absurd hm (Nat.not_lt_zero m))); iexact Hlev
    iexact HaS
  iintro ⟨HO, HaS, -, Hpay⟩
  ihave Hp := (Entails.of_eq (rest_sc X t c)) $$ Hpay
  iapply Hk
  isplitl [HaS HaR]
  · isplitl [HaS] <;> iassumption
  isplitl [HO]; · iexists _; iexact HO
  iexact Hp

/-- The signal to a first partner's barrier cell. -/
theorem signal_bar {Q : α → sProp 𝕄} (x : Bool) (n : ℕ) (hO : OtR c (n + 1) = OtR c n + tallyAt (bar (P x c)) () 1)
    {d : Dev nD} (hd : d = P x c) {k : PUnit → Prog (TpuEff nD τ sig (Elt F) Λ .tc) α} :
    iprop(Ctx X K c ∗ dutyTok ER (bar (P x c)) 0 x ∗ Ow c (n + 1) ∗ barPay x (P x c))
      ⊢ iprop((Ow c n -∗ wp frame (wpE defs 𝒱 c none) Set.univ (k ⟨⟩) Q)
        -∗ wp frame (wpE defs 𝒱 c none) Set.univ (.op (.semSignal (d, .tc) barrier0 (1#32 : BitVec 32).toInt) k) Q) := by
  subst hd
  unfold Ctx Ow
  iintro ⟨⟨#HI, #Hlev, #Hrs, #Hrb⟩, Ht, ⟨%W, HO⟩, Hp⟩ Hk
  iapply (Rounds.wp_signal 𝒱 ER (Rd X) (c : Thread nD τ) none (dst := (P x c : Thread nD τ)) (sem := barrier0) (r := 0) (d := x) (k' := 1) (κ := K (bar (P x c)))
      (by rw [duties_bar]; cases x <;> decide) (amount_bar X (P x c) x) () (OtR c n) hO) $$ [HO Ht Hp]
  · isplitr; · iapply (Invs_at X K (bar_mem (P x c))); iexact HI
    isplitl [HO]; · iexact HO
    isplitl [Ht]; · iexact Ht
    isplitl [Hp]; · rw [payload_bar]; iexact Hp
    iapply (reached_bar (P x c)); iexact Hrb
  iintro HO
  iapply Hk
  iexists W; iexact HO

/-- The wait for both partners. -/
theorem wait_bar {Q : α → sProp 𝕄} {k : PUnit → Prog (TpuEff nD τ sig (Elt F) Λ .tc) α} :
    iprop(Ctx X K c ∗ atPos ER (bar c) 0 ∅ 0 ∗ cred (tallyAt (bar c) () 2) ∗ Ow c 16)
      ⊢ iprop((iprop(atPos ER (bar c) (0 + 1) ∅ 0 ∗ Ow c 16 ∗ barPay false c ∗ barPay true c) -∗ wp frame (wpE defs 𝒱 c none) Set.univ (k ⟨⟩) Q)
        -∗ wp frame (wpE defs 𝒱 c none) Set.univ (.op (.semWait barrier0 (2#32 : BitVec 32).toInt) k) Q) := by
  unfold Ctx Ow
  iintro ⟨⟨#HI, #Hlev, #Hrs, #Hrb⟩, Ha, Hc, ⟨%W, HO⟩⟩ Hk
  iapply (Rounds.wp_wait_rest_token 𝒱 ER (Rd X) (c : Thread nD τ) none (κ := K (bar c)) (k' := 2)
      (wpE_semWait_eq 𝒱 (c : Thread nD τ) none Set.univ) (Set.mem_univ _) () (O := OtR c 16) (W := W) (R := 0) (m := 0) (T := ∅)
      ((Nat.zero_add 2).trans (expect_bar X c).symm)) $$ [Hc HO Ha]
  · isplitr; · iapply (Invs_at X K (bar_mem c)); iexact HI
    isplitl [Hc]; · iexact Hc
    isplitl [HO]; · iexact HO
    isplitr; · iapply (mayWait c (.reg barrier0) 16 (by decide)); iexact Hlev
    iexact Ha
  iintro ⟨HO, Ha, -, Hpay⟩
  ihave Hp := (Entails.of_eq (rest_bar X c)) $$ Hpay
  iapply Hk
  isplitl [Ha]; · iexact Ha
  isplitl [HO]; · iexists _; iexact HO
  iexact Hp

/-! ## The chunks of E -/

def eS (s : Fin 2) : DmaSem sig := ⟨2 + s.val, by have := s.isLt; show _ < 36; omega⟩
/-- Each slot's transfers read E at their own half share. -/
def eq_ : Fin 2 → PosShare TreeShare
  | 0 => full.left
  | 1 => full.right

theorem ech_inb (k : ℕ) (hk : k < 8) : ∀ a, (![1024 * k, 0] : Fin 2 → ℕ) a + S1024x1024.size a ≤ S8192x1024.size a := by
  intro a
  refine Fin.cases ?_ (fun b => ?_) a
  · show 1024 * k + 1024 ≤ 8192; omega
  · rw [Fin.fin_one_eq_zero b]; show 0 + 1024 ≤ 1024; omega

def Efree (s : Fin 2) (c : Dev nD) : sProp 𝕄 :=
  iprop(any (ebS s) c Finset.univ ∗ semVal ((c : Thread nD τ), .dma (eS s)) 0 ∗ pts EM c Finset.univ (eq_ s) (X.En c))
def Efull (s : Fin 2) (k : ℕ) (c : Dev nD) : sProp 𝕄 :=
  iprop(pts (ebS s) c Finset.univ full (eblk X c k) ∗ semVal ((c : Thread nD τ), .dma (eS s)) 0 ∗ pts EM c Finset.univ (eq_ s) (X.En c))
def NE : ℕ := (ebS 0).view.dmaCredit
theorem NE_pos : 0 < NE := View.dmaCredit_pos _ (by decide)
def ech (k : ℕ) (hk : k < 8) : Rect S8192x1024 := Rect.unit (s := S8192x1024) ![1024 * k, 0] S1024x1024.size (ech_inb k hk)
def Efly (s : Fin 2) (k : ℕ) (hk : k < 8) (c : Dev nD) : sProp 𝕄 :=
  iprop(Transfers.Flight EC (c : Thread nD τ) (.dma (eS s)) () NE
    iprop(pts (ebS s) c Finset.univ full (eblk X c k) ∗ pts EM c (ech k hk).set (eq_ s) (X.En c))
    ∗ pts EM c (Finset.univ \ (ech k hk).set) (eq_ s) (X.En c))

theorem eblk_emb (c : Dev nD) (k : ℕ) (hk : k < 8) (y : S1024x1024.Idx) : eblk X c k y = X.En c ((ech k hk).emb y) := by
  unfold eblk
  congr 1
  have h0 : (y 0).val < 1024 := (y 0).isLt
  refine ext2 ?_ ?_
  · unfold ech; rw [ValueKit.rect_emb_unit_val]; exact Nat.mod_eq_of_lt (by omega)
  · unfold ech; rw [ValueKit.rect_emb_unit_val]; exact (Nat.zero_add _).symm

theorem Efull_free {s : Fin 2} {k : ℕ} : Efull X s k c ⊢ Efree X s c := by
  unfold Efull Efree
  iintro ⟨H1, H2⟩
  isplitl [H1]; · iapply pts_any; iexact H1
  iexact H2

/-- Start fetching chunk k into a free slot. -/
theorem copy_E {Q : α → sProp 𝕄} (s : Fin 2) (k : ℕ) (hk : k < 8) {off : Fin 2 → ℕ} {inb : ∀ a, off a + S1024x1024.size a ≤ S8192x1024.size a} (ho : off = ![1024 * k, 0])
    {hu : ∀ a, (Rect.unit (s := S8192x1024) off S1024x1024.size inb).stride a = 1} {sm : DmaSem sig} {dst : Memref sig .tc .vmem S1024x1024 .f32}
    {hsrc : (EM.slice (Rect.unit (s := S8192x1024) off S1024x1024.size inb) hu).view.WordExact} {hdst : dst.view.WordExact}
    {hsem : DmaTarget.Typed (nD := nD) (τ := τ) (p := .tc) .hbm (.dma sm) (.here dst)}
    {k' : PUnit → Prog (TpuEff nD τ sig (Elt F) Λ .tc) α} (hd : dst = ebS s) (hs : sm = eS s) :
    Efree X s c
      ⊢ iprop((Efly X s k hk c -∗ wp frame (wpE defs 𝒱 c none) Set.univ (k' ⟨⟩) Q)
        -∗ wp frame (wpE defs 𝒱 c none) Set.univ
          (.op (.enqueueDma (EM.slice (Rect.unit (s := S8192x1024) off S1024x1024.size inb) hu) (.here dst) (.dma sm) hsrc hdst hsem) k') Q) := by
  subst ho hd hs
  unfold Efree Efly any
  iintro ⟨⟨%fd, Hd⟩, Hs, HE⟩ Hk
  ihave HE1 := (pts_set_eq (R₁ := Finset.univ) (R₂ := (ech k hk).set ∪ (Finset.univ \ (ech k hk).set)) (by simp)) $$ HE
  ihave HE2 := (pts_split Finset.disjoint_sdiff) $$ HE1
  icases HE2 with ⟨HE, HEr⟩
  ihave HE3 := (pts_slice (M := EM) (ech k hk) (fun _ => rfl) (u := eblk X c k) (eblk_emb X c k hk) rfl) $$ HE
  ihave HE4 := (show pts (EM.slice (ech k hk) (fun _ => rfl)) c Finset.univ (eq_ s) (eblk X c k)
      ⊢ iprop(∃ fs, ⌜∀ i ∈ (Finset.univ : Finset S1024x1024.Idx), (EM.slice (ech k hk) (fun _ => rfl)).view.read (Elt F) fs i = eblk X c k i⌝
        ∗ ((EM.slice (ech k hk) (fun _ => rfl)).view.loc (c : Thread nD τ) ↦[(EM.slice (ech k hk) (fun _ => rfl)).view.set]{eq_ s} fs)) from by
    unfold pts; rw [View.setOn_univ]; exact .rfl) $$ HE3
  icases HE4 with ⟨%fs, %hf, Hsrc⟩
  iapply (Transfers.wp_dmaLocal EC 𝒱 (c : Thread nD τ) none (src := EM.slice (ech k hk) (fun _ => rfl)) (via := .same) (dst := ebS s) (sm := .dma (eS s)) (q := eq_ s) (fs := fs) (fd := fd)
      (Sd := (ebS s).view.setOn Finset.univ) () NE (by fin_cases s <;> rfl) NE_pos (by rw [View.setOn_univ]; exact fun _ h => h)) $$ [Hsrc Hd Hs]
  · isplitl [Hsrc]; · iexact Hsrc
    isplitl [Hd]; · iexact Hd
    iexact Hs
  iintro Hf
  iapply Hk
  isplitl [Hf]
  · iapply (Transfers.Flight_mono EC (c : Thread nD τ) (D := _) ?_) $$ Hf
    refine BIClass.sep_mono ?_ ?_
    · rw [View.setOn_univ]; exact landed hf
    · refine BIBase.Entails.trans ?_ (pts_unslice (M := EM) (ech k hk) (fun _ => rfl) (u := eblk X c k) (eblk_emb X c k hk) rfl)
      unfold pts; rw [View.setOn_univ]
      iintro H; iexists fs
      isplitr; · ipureintro; exact hf
      iexact H
  iexact HEr

theorem wait_E {Q : α → sProp 𝕄} (s : Fin 2) (k n : ℕ) (hk : k < 8) (hlev : ∀ m, m < n → lvS (.dma (eS s)) < dueL m)
    {s' s'' : Shape} {e e' : EltTy} {sp sp' : Space} {sm : DmaSem sig} {src : Memref sig .tc sp' s' e'} {dst : Memref sig .tc sp s'' e}
    {hsrc : src.view.WordExact} {hdst : dst.view.WordExact} {k' : PUnit → Prog (TpuEff nD τ sig (Elt F) Λ .tc) α}
    (hs : sm = eS s) (hN : dst.view.dmaCredit = NE) :
    iprop(Ctx X K c ∗ Efly X s k hk c ∗ Ow c n)
      ⊢ iprop((iprop(Efull X s k c ∗ Ow c n) -∗ wp frame (wpE defs 𝒱 c none) Set.univ (k' ⟨⟩) Q)
        -∗ wp frame (wpE defs 𝒱 c none) Set.univ (.op (.waitDma2 sm src dst hsrc hdst) k') Q) := by
  subst hs
  unfold Ctx Efly Efull Ow
  iintro ⟨⟨#HI, #Hlev, #Hrs, #Hrb⟩, ⟨Hf, HEr⟩, ⟨%W, HO⟩⟩ Hk
  iapply (Transfers.wp_waitLocalO EC 𝒱 (c : Thread nD τ) none () (hN := hN) (O := OtR c n) (W := W)) $$ [Hf HO]
  · isplitl [Hf]; · iexact Hf
    isplitl [HO]; · iexact HO
    iapply (mayWait c (.dma (eS s)) n hlev); iexact Hlev
  iintro ⟨⟨Hd, HE⟩, Hs, HO⟩
  iapply Hk
  isplitl [Hd HE HEr Hs]
  · isplitl [Hd]; · iexact Hd
    isplitl [Hs]; · iexact Hs
    ihave HEw := (pts_join Finset.disjoint_sdiff) $$ [HE HEr]
    · isplitl [HE] <;> iassumption
    iapply (pts_set_eq (R₁ := (ech k hk).set ∪ (Finset.univ \ (ech k hk).set)) (R₂ := Finset.univ) (by simp)); iexact HEw
  iexists _; iexact HO

end Ops

end Cert.KP
-- ==== Proof.Steps.lean ====
/-
The operations of a channel, and of the sums' loop, at the buffers they name.
-/
module

public import proofs.«01_k».proof.Proof.Ops

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Where the slices start, and who is told -/

set_option maxRecDepth 100000

theorem off1_256 (c : Dev nD) : k0_off1 c 256#32 = ![ho false 0 (P false c), 0] := by revert c; decide +kernel
theorem off2_256 (c : Dev nD) : k0_off2 c 256#32 = ![ho true 0 (P true c), 0] := by revert c; decide +kernel
theorem off3_0 (c : Dev nD) : k0_off3 c 0#32 = ![ho false 0 c, 0] := by revert c; decide +kernel
theorem off4_0 (c : Dev nD) : k0_off4 c 0#32 = ![ho true 0 c, 0] := by revert c; decide +kernel
theorem off5_0 (c : Dev nD) : k0_off5 c 0#32 = ![qo false 0 (P (!false) c), 0] := by revert c; decide +kernel
theorem off6_0 (c : Dev nD) : k0_off6 c 0#32 = ![qo true 0 (P (!true) c), 0] := by revert c; decide +kernel
theorem off7_0 (c : Dev nD) : k0_off7 c 0#32 = ![qo false 0 c, 0] := by revert c; decide +kernel
theorem off8_0 (c : Dev nD) : k0_off8 c 0#32 = ![qo true 0 c, 0] := by revert c; decide +kernel
theorem off9_0 (c : Dev nD) : k0_off9 c 0#32 = ![qo false 0 c, 0] := by revert c; decide +kernel
theorem off10_0 (c : Dev nD) : k0_off10 c 0#32 = ![qo true 0 c, 0] := by revert c; decide +kernel
theorem off11_0 (c : Dev nD) : k0_off11 c 0#32 = ![ho false 0 c, 0] := by revert c; decide +kernel
theorem off12_0 (c : Dev nD) : k0_off12 c 0#32 = ![ho true 0 c, 0] := by revert c; decide +kernel
theorem off13_0 (c : Dev nD) : k0_off13 c 0#32 = ![ho false 0 c, oCol false] := by revert c; decide +kernel
theorem off14_0 (c : Dev nD) : k0_off14 c 0#32 = ![ho true 0 c, oCol true] := by revert c; decide +kernel
theorem off15_256 (c : Dev nD) : k0_off15 c 256#32 = ![ho false 0 (P false c), 0] := by revert c; decide +kernel
theorem off16_256 (c : Dev nD) : k0_off16 c 256#32 = ![ho false 0 (P false c), oCol false] := by revert c; decide +kernel
theorem off17_256 (c : Dev nD) : k0_off17 c 256#32 = ![ho true 0 (P true c), 0] := by revert c; decide +kernel
theorem off18_256 (c : Dev nD) : k0_off18 c 256#32 = ![ho true 0 (P true c), oCol true] := by revert c; decide +kernel
theorem off1_768 (c : Dev nD) : k0_off1 c 768#32 = ![ho false 1 (P false c), 0] := by revert c; decide +kernel
theorem off2_768 (c : Dev nD) : k0_off2 c 768#32 = ![ho true 1 (P true c), 0] := by revert c; decide +kernel
theorem off3_512 (c : Dev nD) : k0_off3 c 512#32 = ![ho false 1 c, 0] := by revert c; decide +kernel
theorem off4_512 (c : Dev nD) : k0_off4 c 512#32 = ![ho true 1 c, 0] := by revert c; decide +kernel
theorem off5_512 (c : Dev nD) : k0_off5 c 512#32 = ![qo false 1 (P (!false) c), 0] := by revert c; decide +kernel
theorem off6_512 (c : Dev nD) : k0_off6 c 512#32 = ![qo true 1 (P (!true) c), 0] := by revert c; decide +kernel
theorem off7_512 (c : Dev nD) : k0_off7 c 512#32 = ![qo false 1 c, 0] := by revert c; decide +kernel
theorem off8_512 (c : Dev nD) : k0_off8 c 512#32 = ![qo true 1 c, 0] := by revert c; decide +kernel
theorem off9_512 (c : Dev nD) : k0_off9 c 512#32 = ![qo false 1 c, 0] := by revert c; decide +kernel
theorem off10_512 (c : Dev nD) : k0_off10 c 512#32 = ![qo true 1 c, 0] := by revert c; decide +kernel
theorem off11_512 (c : Dev nD) : k0_off11 c 512#32 = ![ho false 1 c, 0] := by revert c; decide +kernel
theorem off12_512 (c : Dev nD) : k0_off12 c 512#32 = ![ho true 1 c, 0] := by revert c; decide +kernel
theorem off13_512 (c : Dev nD) : k0_off13 c 512#32 = ![ho false 1 c, oCol false] := by revert c; decide +kernel
theorem off14_512 (c : Dev nD) : k0_off14 c 512#32 = ![ho true 1 c, oCol true] := by revert c; decide +kernel
theorem off15_768 (c : Dev nD) : k0_off15 c 768#32 = ![ho false 1 (P false c), 0] := by revert c; decide +kernel
theorem off16_768 (c : Dev nD) : k0_off16 c 768#32 = ![ho false 1 (P false c), oCol false] := by revert c; decide +kernel
theorem off17_768 (c : Dev nD) : k0_off17 c 768#32 = ![ho true 1 (P true c), 0] := by revert c; decide +kernel
theorem off18_768 (c : Dev nD) : k0_off18 c 768#32 = ![ho true 1 (P true c), oCol true] := by revert c; decide +kernel

theorem dev1_eq (c : Dev nD) : (⟨k0_dev1 c, k0_dev1_lt c⟩ : Dev nD) = P false c := by revert c; decide +kernel
theorem dev3_eq (c : Dev nD) : (⟨k0_dev3 c, k0_dev3_lt c⟩ : Dev nD) = P false c := by revert c; decide +kernel
theorem dev6_eq (c : Dev nD) : (⟨k0_dev6 c, k0_dev6_lt c⟩ : Dev nD) = P false c := by revert c; decide +kernel
theorem dev7_eq (c : Dev nD) : (⟨k0_dev7 c, k0_dev7_lt c⟩ : Dev nD) = P false c := by revert c; decide +kernel
theorem dev10_eq (c : Dev nD) : (⟨k0_dev10 c, k0_dev10_lt c⟩ : Dev nD) = P false c := by revert c; decide +kernel
theorem dev12_eq (c : Dev nD) : (⟨k0_dev12 c, k0_dev12_lt c⟩ : Dev nD) = P false c := by revert c; decide +kernel
theorem dev13_eq (c : Dev nD) : (⟨k0_dev13 c, k0_dev13_lt c⟩ : Dev nD) = P false c := by revert c; decide +kernel
theorem dev16_eq (c : Dev nD) : (⟨k0_dev16 c, k0_dev16_lt c⟩ : Dev nD) = P false c := by revert c; decide +kernel
theorem dev17_eq (c : Dev nD) : (⟨k0_dev17 c, k0_dev17_lt c⟩ : Dev nD) = P false c := by revert c; decide +kernel
theorem dev2_eq (c : Dev nD) : (⟨k0_dev2 c, k0_dev2_lt c⟩ : Dev nD) = P true c := by revert c; decide +kernel
theorem dev4_eq (c : Dev nD) : (⟨k0_dev4 c, k0_dev4_lt c⟩ : Dev nD) = P true c := by revert c; decide +kernel
theorem dev5_eq (c : Dev nD) : (⟨k0_dev5 c, k0_dev5_lt c⟩ : Dev nD) = P true c := by revert c; decide +kernel
theorem dev8_eq (c : Dev nD) : (⟨k0_dev8 c, k0_dev8_lt c⟩ : Dev nD) = P true c := by revert c; decide +kernel
theorem dev9_eq (c : Dev nD) : (⟨k0_dev9 c, k0_dev9_lt c⟩ : Dev nD) = P true c := by revert c; decide +kernel
theorem dev11_eq (c : Dev nD) : (⟨k0_dev11 c, k0_dev11_lt c⟩ : Dev nD) = P true c := by revert c; decide +kernel
theorem dev14_eq (c : Dev nD) : (⟨k0_dev14 c, k0_dev14_lt c⟩ : Dev nD) = P true c := by revert c; decide +kernel
theorem dev15_eq (c : Dev nD) : (⟨k0_dev15 c, k0_dev15_lt c⟩ : Dev nD) = P true c := by revert c; decide +kernel
theorem dev18_eq (c : Dev nD) : (⟨k0_dev18 c, k0_dev18_lt c⟩ : Dev nD) = P true c := by revert c; decide +kernel

variable (X : In F) (K : GSem nD τ sig → ℕ)

section Steps

variable {Λ : Labels} {defs : Defs nD τ sig (Elt F) Λ} (𝒱 : Variants)
variable {c : Dev nD} {α : Type}

theorem recvPay_0 (rg : Fin 2) (x : Bool) (d : Dev nD) : recvPay X (rg, 0, x) d = iprop(pts (r1S x rg) d Finset.univ full (sub (ho x rg d) (A0 X x (P x d)))
      ∗ pts (accM x) (P x d) (Hs x rg d) full (A0 X x (P x d))) := rfl
theorem recvPay_1 (rg : Fin 2) (x : Bool) (d : Dev nD) : recvPay X (rg, 1, x) d = iprop(pts (r2S x rg) d Finset.univ full (sub (qo x rg d) (A1 X x (P (!x) d)))
      ∗ pts (accM x) (P (!x) d) (Qs x rg d) full (A1 X x (P (!x) d))) := rfl
theorem recvPay_2 (rg : Fin 2) (x : Bool) (d : Dev nD) : recvPay X (rg, 2, x) d = pts (accM x) d (Qs x rg (P (!x) d)) full (Fin_ X x) := rfl
theorem recvPay_3 (rg : Fin 2) (x : Bool) (d : Dev nD) : recvPay X (rg, 3, x) d = pts (accM x) d (Hs x rg (P x d)) full (Fin_ X x) := rfl

theorem sendPay_0 (rg : Fin 2) (x : Bool) (d : Dev nD) : sendPay X (rg, 0, x) d = iprop(emp) := rfl
theorem sendPay_1 (rg : Fin 2) (x : Bool) (d : Dev nD) : sendPay X (rg, 1, x) d = iprop(emp) := rfl
theorem sendPay_2 (rg : Fin 2) (x : Bool) (c : Dev nD) : sendPay X (rg, 2, x) c = pts (accM x) c (Qs x rg c) full.left (Fin_ X x) := rfl
theorem sendPay_3 (rg : Fin 2) (x : Bool) (c : Dev nD) : sendPay X (rg, 3, x) c = pts (accM x) c (Hs x rg c) full.right.left (Fin_ X x) := rfl

theorem any_slice {c : Dev nD} {s : Shape} {e : EltTy} {sp : Space} {M : Memref sig .tc sp s e} {R : Finset s.Idx} (r : Rect s) (hr : ∀ a, r.stride a = 1) (hR : R = r.set) :
    any (F := F) M c R ⊢ any (M.slice r hr) c Finset.univ := by
  subst hR
  unfold any
  rw [show (M.slice r hr).view.setOn Finset.univ = M.view.setOn r.set from View.set_slice _ _]

theorem send_r1 {Q : α → sProp 𝕄} (x : Bool) (rg : Fin 2) (n : ℕ) (ht : txOf n = (rg, 0, x)) (hn : n < 16)
    {off : Fin 2 → ℕ} {inb} {hu} {d : Dev nD} {s1 s2 : DmaSem sig} (hoff : off = ![ho x rg (P x c), 0]) (hd : d = P x c) (h1 : s1 = sS (rg, 0, x)) (h2 : s2 = rS (rg, 0, x))
    {hsc} {hsrc} {hdst} {hsem} {k : PUnit → Prog (TpuEff nD τ sig (Elt F) Λ .tc) α} :
    iprop(Ctx X K c ∗ Tk (rg, 0, x) c ∗ reached ER (rc (rg, 0, x) (P x c)) 0 ∗ Ow c (n + 1) ∗ pts (accM x) c (Hs x rg (P x c)) full (A0 X x c) ∗ any (r1S x rg) (P x c) Finset.univ)
      ⊢ iprop((iprop(Tk1 (rg, 0, x) c ∗ Ow c n) -∗ wp frame (wpE defs 𝒱 c none) Set.univ (k ⟨⟩) Q)
        -∗ wp frame (wpE defs 𝒱 c none) Set.univ (.op (.enqueueDma ((accM x).slice (Rect.unit (s := S1024x512) off S256x512.size inb) hu) (.remote d.tc (r1S x rg) (.dma s1) hsc) (.dma s2) hsrc hdst hsem) k) Q) := by
  subst hoff hd h1 h2
  iintro ⟨HC, Ht, Hr, HO, Hs, Hd⟩ Hk
  iapply (send_land X K 𝒱 (rg, 0, x) n ht hn (d := P x c) (dst := r1S x rg) (w := sub (ho x rg (P x c)) (A0 X x c)) rfl rfl rfl (by cases x <;> fin_cases rg <;> rfl) .rfl (by
      rw [recvPay_0, show pk (rg, 0, x) c = P x c from rfl, P_P]
      exact BIClass.sep_mono .rfl (pts_unslice (M := accM x) _ hu (sub_emb rfl _) (set_rows 256 rfl).symm))) $$ [HC Ht Hr HO Hs Hd] [Hk]
  · isplitl [HC]; · iexact HC
    isplitl [Ht]; · iexact Ht
    isplitl [Hr]; · iexact Hr
    isplitl [HO]; · iexact HO
    isplitl [Hs]
    · iapply (pts_slice (M := accM x) _ _ (sub_emb rfl _) (set_rows 256 rfl).symm); iexact Hs
    iexact Hd
  iexact Hk

theorem send_r2 {Q : α → sProp 𝕄} (x : Bool) (rg : Fin 2) (n : ℕ) (ht : txOf n = (rg, 1, x)) (hn : n < 16)
    {off : Fin 2 → ℕ} {inb} {hu} {d : Dev nD} {s1 s2 : DmaSem sig} (hoff : off = ![qo x rg (P (!x) c), 0]) (hd : d = P (!x) c) (h1 : s1 = sS (rg, 1, x)) (h2 : s2 = rS (rg, 1, x))
    {hsc} {hsrc} {hdst} {hsem} {k : PUnit → Prog (TpuEff nD τ sig (Elt F) Λ .tc) α} :
    iprop(Ctx X K c ∗ Tk (rg, 1, x) c ∗ reached ER (rc (rg, 1, x) (P (!x) c)) 0 ∗ Ow c (n + 1) ∗ pts (accM x) c (Qs x rg (P (!x) c)) full (A1 X x c) ∗ any (r2S x rg) (P (!x) c) Finset.univ)
      ⊢ iprop((iprop(Tk1 (rg, 1, x) c ∗ Ow c n) -∗ wp frame (wpE defs 𝒱 c none) Set.univ (k ⟨⟩) Q)
        -∗ wp frame (wpE defs 𝒱 c none) Set.univ (.op (.enqueueDma ((accM x).slice (Rect.unit (s := S1024x512) off S128x512.size inb) hu) (.remote d.tc (r2S x rg) (.dma s1) hsc) (.dma s2) hsrc hdst hsem) k) Q) := by
  subst hoff hd h1 h2
  iintro ⟨HC, Ht, Hr, HO, Hs, Hd⟩ Hk
  iapply (send_land X K 𝒱 (rg, 1, x) n ht hn (d := P (!x) c) (dst := r2S x rg) (w := sub (qo x rg (P (!x) c)) (A1 X x c)) rfl rfl rfl (by cases x <;> fin_cases rg <;> rfl) .rfl (by
      rw [recvPay_1, show pk (rg, 1, x) c = P (!x) c from rfl, P_P]
      exact BIClass.sep_mono .rfl (pts_unslice (M := accM x) _ hu (sub_emb rfl _) (set_rows 128 rfl).symm))) $$ [HC Ht Hr HO Hs Hd] [Hk]
  · isplitl [HC]; · iexact HC
    isplitl [Ht]; · iexact Ht
    isplitl [Hr]; · iexact Hr
    isplitl [HO]; · iexact HO
    isplitl [Hs]
    · iapply (pts_slice (M := accM x) _ _ (sub_emb rfl _) (set_rows 128 rfl).symm); iexact Hs
    iexact Hd
  iexact Hk

theorem send_ag1 {Q : α → sProp 𝕄} (x : Bool) (rg : Fin 2) (n : ℕ) (ht : txOf n = (rg, 2, x)) (hn : n < 16)
    {off : Fin 2 → ℕ} {inb} {hu} {d : Dev nD} {s1 s2 : DmaSem sig} (hoff : off = ![qo x rg c, 0]) {off' : Fin 2 → ℕ} {inb'} {hu'} (hoff' : off' = ![qo x rg c, 0]) (hd : d = P (!x) c) (h1 : s1 = sS (rg, 2, x)) (h2 : s2 = rS (rg, 2, x))
    {hsc} {hsrc} {hdst} {hsem} {k : PUnit → Prog (TpuEff nD τ sig (Elt F) Λ .tc) α} :
    iprop(Ctx X K c ∗ Tk (rg, 2, x) c ∗ reached ER (rc (rg, 2, x) (P (!x) c)) 0 ∗ Ow c (n + 1) ∗ pts (accM x) c (Qs x rg c) full.left (Fin_ X x) ∗ any (accM x) (P (!x) c) (Qs x rg c))
      ⊢ iprop((iprop(Tk1 (rg, 2, x) c ∗ Ow c n) -∗ wp frame (wpE defs 𝒱 c none) Set.univ (k ⟨⟩) Q)
        -∗ wp frame (wpE defs 𝒱 c none) Set.univ (.op (.enqueueDma ((accM x).slice (Rect.unit (s := S1024x512) off S128x512.size inb) hu) (.remote d.tc (((accM x).slice (Rect.unit (s := S1024x512) off' S128x512.size inb') hu')) (.dma s1) hsc) (.dma s2) hsrc hdst hsem) k) Q) := by
  subst hoff hd h1 h2 hoff'
  iintro ⟨HC, Ht, Hr, HO, Hs, Hd⟩ Hk
  iapply (send_keep X K 𝒱 (rg, 2, x) n ht hn (d := P (!x) c) (dst := ((accM x).slice (Rect.unit (s := S1024x512) ![qo x rg c, 0] S128x512.size inb') hu')) (w := sub (qo x rg c) (Fin_ X x)) rfl rfl rfl (by cases x <;> rfl) (pts_unslice (M := accM x) _ hu (sub_emb rfl _) (set_rows 128 rfl).symm) (by
      rw [recvPay_2, show pk (rg, 2, x) c = P (!x) c from rfl, P_P]
      exact pts_unslice (M := accM x) _ hu' (sub_emb rfl _) (set_rows 128 rfl).symm)) $$ [HC Ht Hr HO Hs Hd] [Hk]
  · isplitl [HC]; · iexact HC
    isplitl [Ht]; · iexact Ht
    isplitl [Hr]; · iexact Hr
    isplitl [HO]; · iexact HO
    isplitl [Hs]
    · iapply (pts_slice (M := accM x) _ _ (sub_emb rfl _) (set_rows 128 rfl).symm); iexact Hs
    iapply (any_slice (M := accM x) _ hu' (set_rows 128 rfl).symm); iexact Hd
  iexact Hk

theorem send_ag2 {Q : α → sProp 𝕄} (x : Bool) (rg : Fin 2) (n : ℕ) (ht : txOf n = (rg, 3, x)) (hn : n < 16)
    {off : Fin 2 → ℕ} {inb} {hu} {d : Dev nD} {s1 s2 : DmaSem sig} (hoff : off = ![ho x rg c, 0]) {off' : Fin 2 → ℕ} {inb'} {hu'} (hoff' : off' = ![ho x rg c, 0]) (hd : d = P x c) (h1 : s1 = sS (rg, 3, x)) (h2 : s2 = rS (rg, 3, x))
    {hsc} {hsrc} {hdst} {hsem} {k : PUnit → Prog (TpuEff nD τ sig (Elt F) Λ .tc) α} :
    iprop(Ctx X K c ∗ Tk (rg, 3, x) c ∗ reached ER (rc (rg, 3, x) (P x c)) 0 ∗ Ow c (n + 1) ∗ pts (accM x) c (Hs x rg c) full.right.left (Fin_ X x) ∗ any (accM x) (P x c) (Hs x rg c))
      ⊢ iprop((iprop(Tk1 (rg, 3, x) c ∗ Ow c n) -∗ wp frame (wpE defs 𝒱 c none) Set.univ (k ⟨⟩) Q)
        -∗ wp frame (wpE defs 𝒱 c none) Set.univ (.op (.enqueueDma ((accM x).slice (Rect.unit (s := S1024x512) off S256x512.size inb) hu) (.remote d.tc (((accM x).slice (Rect.unit (s := S1024x512) off' S256x512.size inb') hu')) (.dma s1) hsc) (.dma s2) hsrc hdst hsem) k) Q) := by
  subst hoff hd h1 h2 hoff'
  iintro ⟨HC, Ht, Hr, HO, Hs, Hd⟩ Hk
  iapply (send_keep X K 𝒱 (rg, 3, x) n ht hn (d := P x c) (dst := ((accM x).slice (Rect.unit (s := S1024x512) ![ho x rg c, 0] S256x512.size inb') hu')) (w := sub (ho x rg c) (Fin_ X x)) rfl rfl rfl (by cases x <;> rfl) (pts_unslice (M := accM x) _ hu (sub_emb rfl _) (set_rows 256 rfl).symm) (by
      rw [recvPay_3, show pk (rg, 3, x) c = P x c from rfl, P_P]
      exact pts_unslice (M := accM x) _ hu' (sub_emb rfl _) (set_rows 256 rfl).symm)) $$ [HC Ht Hr HO Hs Hd] [Hk]
  · isplitl [HC]; · iexact HC
    isplitl [Ht]; · iexact Ht
    isplitl [Hr]; · iexact Hr
    isplitl [HO]; · iexact HO
    isplitl [Hs]
    · iapply (pts_slice (M := accM x) _ _ (sub_emb rfl _) (set_rows 256 rfl).symm); iexact Hs
    iapply (any_slice (M := accM x) _ hu' (set_rows 256 rfl).symm); iexact Hd
  iexact Hk

theorem wr_0 {Q : α → sProp 𝕄} (x : Bool) (rg : Fin 2) (n : ℕ) (hlev : ∀ m, m < n → lvT (rg, 0, x) < dueL m)
    {s' : Shape} {e' : EltTy} {sp' : Space} {s2 : DmaSem sig} (h2 : s2 = rS (rg, 0, x)) {src : Memref sig .tc sp' s' e'}
    {hsrc : src.view.WordExact} {hdst : (r1S x rg).view.WordExact} {k : PUnit → Prog (TpuEff nD τ sig (Elt F) Λ .tc) α} :
    iprop(Ctx X K c ∗ Tk1 (rg, 0, x) c ∗ Ow c n)
      ⊢ iprop((iprop(Tk2 (rg, 0, x) c ∗ Ow c n ∗ recvPay X (rg, 0, x) c) -∗ wp frame (wpE defs 𝒱 c none) Set.univ (k ⟨⟩) Q)
        -∗ wp frame (wpE defs 𝒱 c none) Set.univ (.op (.waitDma2 s2 src (r1S x rg) hsrc hdst) k) Q) :=
  wait_recv X K 𝒱 (rg, 0, x) n hlev (dst := r1S x rg) h2 (by cases x <;> fin_cases rg <;> rfl)

theorem ws_0 {Q : α → sProp 𝕄} (x : Bool) (rg : Fin 2) {off : Fin 2 → ℕ} {inb} {hu}
    {s' : Shape} {e' : EltTy} {sp' : Space} {s2 : DmaSem sig} (h2 : s2 = sS (rg, 0, x)) {src : Memref sig .tc sp' s' e'}
    {hsrc : src.view.WordExact} {hdst : (((accM x).slice (Rect.unit (s := S1024x512) off S256x512.size inb) hu)).view.WordExact} {k : PUnit → Prog (TpuEff nD τ sig (Elt F) Λ .tc) α} :
    iprop(Ctx X K c ∗ Tk2 (rg, 0, x) c ∗ Ow c 0)
      ⊢ iprop((iprop(Tk3 (rg, 0, x) c ∗ Ow c 0 ∗ sendPay X (rg, 0, x) c) -∗ wp frame (wpE defs 𝒱 c none) Set.univ (k ⟨⟩) Q)
        -∗ wp frame (wpE defs 𝒱 c none) Set.univ (.op (.waitDma2 s2 src (((accM x).slice (Rect.unit (s := S1024x512) off S256x512.size inb) hu)) hsrc hdst) k) Q) :=
  wait_send X K 𝒱 (rg, 0, x) (dst := ((accM x).slice (Rect.unit (s := S1024x512) off S256x512.size inb) hu)) h2 (by cases x <;> rfl)

theorem wr_1 {Q : α → sProp 𝕄} (x : Bool) (rg : Fin 2) (n : ℕ) (hlev : ∀ m, m < n → lvT (rg, 1, x) < dueL m)
    {s' : Shape} {e' : EltTy} {sp' : Space} {s2 : DmaSem sig} (h2 : s2 = rS (rg, 1, x)) {src : Memref sig .tc sp' s' e'}
    {hsrc : src.view.WordExact} {hdst : (r2S x rg).view.WordExact} {k : PUnit → Prog (TpuEff nD τ sig (Elt F) Λ .tc) α} :
    iprop(Ctx X K c ∗ Tk1 (rg, 1, x) c ∗ Ow c n)
      ⊢ iprop((iprop(Tk2 (rg, 1, x) c ∗ Ow c n ∗ recvPay X (rg, 1, x) c) -∗ wp frame (wpE defs 𝒱 c none) Set.univ (k ⟨⟩) Q)
        -∗ wp frame (wpE defs 𝒱 c none) Set.univ (.op (.waitDma2 s2 src (r2S x rg) hsrc hdst) k) Q) :=
  wait_recv X K 𝒱 (rg, 1, x) n hlev (dst := r2S x rg) h2 (by cases x <;> fin_cases rg <;> rfl)

theorem ws_1 {Q : α → sProp 𝕄} (x : Bool) (rg : Fin 2) {off : Fin 2 → ℕ} {inb} {hu}
    {s' : Shape} {e' : EltTy} {sp' : Space} {s2 : DmaSem sig} (h2 : s2 = sS (rg, 1, x)) {src : Memref sig .tc sp' s' e'}
    {hsrc : src.view.WordExact} {hdst : (((accM x).slice (Rect.unit (s := S1024x512) off S128x512.size inb) hu)).view.WordExact} {k : PUnit → Prog (TpuEff nD τ sig (Elt F) Λ .tc) α} :
    iprop(Ctx X K c ∗ Tk2 (rg, 1, x) c ∗ Ow c 0)
      ⊢ iprop((iprop(Tk3 (rg, 1, x) c ∗ Ow c 0 ∗ sendPay X (rg, 1, x) c) -∗ wp frame (wpE defs 𝒱 c none) Set.univ (k ⟨⟩) Q)
        -∗ wp frame (wpE defs 𝒱 c none) Set.univ (.op (.waitDma2 s2 src (((accM x).slice (Rect.unit (s := S1024x512) off S128x512.size inb) hu)) hsrc hdst) k) Q) :=
  wait_send X K 𝒱 (rg, 1, x) (dst := ((accM x).slice (Rect.unit (s := S1024x512) off S128x512.size inb) hu)) h2 (by cases x <;> rfl)

theorem wr_2 {Q : α → sProp 𝕄} (x : Bool) (rg : Fin 2) (n : ℕ) (hlev : ∀ m, m < n → lvT (rg, 2, x) < dueL m) {off : Fin 2 → ℕ} {inb} {hu}
    {s' : Shape} {e' : EltTy} {sp' : Space} {s2 : DmaSem sig} (h2 : s2 = rS (rg, 2, x)) {src : Memref sig .tc sp' s' e'}
    {hsrc : src.view.WordExact} {hdst : (((accM x).slice (Rect.unit (s := S1024x512) off S128x512.size inb) hu)).view.WordExact} {k : PUnit → Prog (TpuEff nD τ sig (Elt F) Λ .tc) α} :
    iprop(Ctx X K c ∗ Tk1 (rg, 2, x) c ∗ Ow c n)
      ⊢ iprop((iprop(Tk2 (rg, 2, x) c ∗ Ow c n ∗ recvPay X (rg, 2, x) c) -∗ wp frame (wpE defs 𝒱 c none) Set.univ (k ⟨⟩) Q)
        -∗ wp frame (wpE defs 𝒱 c none) Set.univ (.op (.waitDma2 s2 src (((accM x).slice (Rect.unit (s := S1024x512) off S128x512.size inb) hu)) hsrc hdst) k) Q) :=
  wait_recv X K 𝒱 (rg, 2, x) n hlev (dst := ((accM x).slice (Rect.unit (s := S1024x512) off S128x512.size inb) hu)) h2 (by cases x <;> rfl)

theorem ws_2 {Q : α → sProp 𝕄} (x : Bool) (rg : Fin 2) {off : Fin 2 → ℕ} {inb} {hu}
    {s' : Shape} {e' : EltTy} {sp' : Space} {s2 : DmaSem sig} (h2 : s2 = sS (rg, 2, x)) {src : Memref sig .tc sp' s' e'}
    {hsrc : src.view.WordExact} {hdst : (((accM x).slice (Rect.unit (s := S1024x512) off S128x512.size inb) hu)).view.WordExact} {k : PUnit → Prog (TpuEff nD τ sig (Elt F) Λ .tc) α} :
    iprop(Ctx X K c ∗ Tk2 (rg, 2, x) c ∗ Ow c 0)
      ⊢ iprop((iprop(Tk3 (rg, 2, x) c ∗ Ow c 0 ∗ sendPay X (rg, 2, x) c) -∗ wp frame (wpE defs 𝒱 c none) Set.univ (k ⟨⟩) Q)
        -∗ wp frame (wpE defs 𝒱 c none) Set.univ (.op (.waitDma2 s2 src (((accM x).slice (Rect.unit (s := S1024x512) off S128x512.size inb) hu)) hsrc hdst) k) Q) :=
  wait_send X K 𝒱 (rg, 2, x) (dst := ((accM x).slice (Rect.unit (s := S1024x512) off S128x512.size inb) hu)) h2 (by cases x <;> rfl)

theorem wr_3 {Q : α → sProp 𝕄} (x : Bool) (rg : Fin 2) (n : ℕ) (hlev : ∀ m, m < n → lvT (rg, 3, x) < dueL m) {off : Fin 2 → ℕ} {inb} {hu}
    {s' : Shape} {e' : EltTy} {sp' : Space} {s2 : DmaSem sig} (h2 : s2 = rS (rg, 3, x)) {src : Memref sig .tc sp' s' e'}
    {hsrc : src.view.WordExact} {hdst : (((accM x).slice (Rect.unit (s := S1024x512) off S256x512.size inb) hu)).view.WordExact} {k : PUnit → Prog (TpuEff nD τ sig (Elt F) Λ .tc) α} :
    iprop(Ctx X K c ∗ Tk1 (rg, 3, x) c ∗ Ow c n)
      ⊢ iprop((iprop(Tk2 (rg, 3, x) c ∗ Ow c n ∗ recvPay X (rg, 3, x) c) -∗ wp frame (wpE defs 𝒱 c none) Set.univ (k ⟨⟩) Q)
        -∗ wp frame (wpE defs 𝒱 c none) Set.univ (.op (.waitDma2 s2 src (((accM x).slice (Rect.unit (s := S1024x512) off S256x512.size inb) hu)) hsrc hdst) k) Q) :=
  wait_recv X K 𝒱 (rg, 3, x) n hlev (dst := ((accM x).slice (Rect.unit (s := S1024x512) off S256x512.size inb) hu)) h2 (by cases x <;> rfl)

theorem ws_3 {Q : α → sProp 𝕄} (x : Bool) (rg : Fin 2) {off : Fin 2 → ℕ} {inb} {hu}
    {s' : Shape} {e' : EltTy} {sp' : Space} {s2 : DmaSem sig} (h2 : s2 = sS (rg, 3, x)) {src : Memref sig .tc sp' s' e'}
    {hsrc : src.view.WordExact} {hdst : (((accM x).slice (Rect.unit (s := S1024x512) off S256x512.size inb) hu)).view.WordExact} {k : PUnit → Prog (TpuEff nD τ sig (Elt F) Λ .tc) α} :
    iprop(Ctx X K c ∗ Tk2 (rg, 3, x) c ∗ Ow c 0)
      ⊢ iprop((iprop(Tk3 (rg, 3, x) c ∗ Ow c 0 ∗ sendPay X (rg, 3, x) c) -∗ wp frame (wpE defs 𝒱 c none) Set.univ (k ⟨⟩) Q)
        -∗ wp frame (wpE defs 𝒱 c none) Set.univ (.op (.waitDma2 s2 src (((accM x).slice (Rect.unit (s := S1024x512) off S256x512.size inb) hu)) hsrc hdst) k) Q) :=
  wait_send X K 𝒱 (rg, 3, x) (dst := ((accM x).slice (Rect.unit (s := S1024x512) off S256x512.size inb) hu)) h2 (by cases x <;> rfl)

/-! ## Loads and stores of the sums -/

theorem ld_acc {Q : α → sProp 𝕄} (x : Bool) (o n : ℕ) {R : Finset S1024x512.Idx} (hR : R = rows o n) {off : Fin 2 → ℕ} {inb} {hl} (hoff : off = ![o, 0]) {q : PosShare TreeShare} {w : S1024x512.Idx → Elt F .bf16}
    {k : (Shape.Idx ⟨2, ![n, 512]⟩ → Elt F .bf16) → Prog (TpuEff nD τ sig (Elt F) Λ .tc) α} :
    (pts (accM x) c R q w : sProp 𝕄)
      ⊢ iprop((pts (accM x) c R q w -∗ wp frame (wpE defs 𝒱 c none) Set.univ (k (sub o w)) Q)
        -∗ wp frame (wpE defs 𝒱 c none) Set.univ (.op (.load (accM x) (Rect.unit (s := S1024x512) off ![n, 512] inb).toLoadRect hl) k) Q) := by
  subst hR
  exact load_pts 𝒱 (M := accM x) (r := Rect.unit (s := S1024x512) off ![n, 512] inb) (R := rows o n) (w := w) (sub o w) (sub_emb hoff w) ((set_rows n hoff).subset)

theorem st_acc {Q : α → sProp 𝕄} (x : Bool) (o n : ℕ) {R : Finset S1024x512.Idx} (hR : R = rows o n) {off : Fin 2 → ℕ} {inb} {hx} {hm} (hoff : off = ![o, 0]) {w : S1024x512.Idx → Elt F .bf16}
    (w' : S1024x512.Idx → Elt F .bf16) {v : Shape.Idx ⟨2, ![n, 512]⟩ → Elt F .bf16} (hv : v = sub o w')
    {k : PUnit → Prog (TpuEff nD τ sig (Elt F) Λ .tc) α} :
    (pts (accM x) c R full w : sProp 𝕄)
      ⊢ iprop((pts (accM x) c R full w' -∗ wp frame (wpE defs 𝒱 c none) Set.univ (k ⟨⟩) Q)
        -∗ wp frame (wpE defs 𝒱 c none) Set.univ (.op (.store (accM x) (Rect.unit (s := S1024x512) off ![n, 512] inb) v Finset.univ hx hm) k) Q) := by
  subst hR
  exact store_pts 𝒱 (M := accM x) (r := Rect.unit (s := S1024x512) off ![n, 512] inb) (R := rows o n) (w := w) w' ((set_rows n hoff).subset) (fun y => by rw [hv]; exact (sub_emb hoff w' y).symm)
    (fun i hi hi' => absurd ((set_rows n hoff).symm.subset hi) hi')

/-! ## The result -/

theorem emb_row {n : ℕ} {off : Fin 2 → ℕ} {o p m : ℕ} {inb} (h : off = ![o, p]) (y) :
    (((Rect.unit (s := S1024x1024) off ![n, m] inb).emb y) 0).val = o + (y 0).val := by
  subst h; exact ValueKit.rect_emb_unit_val _ _ _ _ _
theorem emb_col {n : ℕ} {off : Fin 2 → ℕ} {o p m : ℕ} {inb} (h : off = ![o, p]) (y) :
    (((Rect.unit (s := S1024x1024) off ![n, m] inb).emb y) 1).val = p + (y 1).val := by
  subst h; exact ValueKit.rect_emb_unit_val _ _ _ _ _

/-- The dead load before a block of the result is stored. -/
theorem ld_blk {Q : α → sProp 𝕄} (x : Bool) (rg : Fin 2) (c' : Dev nD) {off : Fin 2 → ℕ} {inb} {hl} (hoff : off = ![ho x rg c', oCol x]) {w : S1024x1024.Idx → Elt F .f32}
    {k : (Shape.Idx ⟨2, ![256, 512]⟩ → Elt F .f32) → Prog (TpuEff nD τ sig (Elt F) Λ .tc) α} :
    (pts outM c (oBlk x rg c') full w : sProp 𝕄)
      ⊢ iprop((∀ u, pts outM c (oBlk x rg c') full w -∗ wp frame (wpE defs 𝒱 c none) Set.univ (k u) Q)
        -∗ wp frame (wpE defs 𝒱 c none) Set.univ (.op (.load outM (Rect.unit (s := S1024x1024) off ![256, 512] inb).toLoadRect hl) k) Q) :=
  load_pts_any 𝒱 (M := outM) (r := Rect.unit (s := S1024x1024) off ![256, 512] inb) (R := oBlk x rg c') ((set_oBlk hoff).symm.subset)

theorem OutF_at (x : Bool) (i : S1024x1024.Idx) (j : S1024x512.Idx) (h0 : (j 0).val = (i 0).val) (h1 : (j 1).val = (i 1).val % 512)
    (hx : decide (512 ≤ (i 1).val) = x) : OutF X i = FloatOps.extf .f32 bitsLt_bf16_f32 (Fin_ X x j) := by
  subst hx
  unfold OutF
  congr 2
  exact ext2 h0.symm h1.symm

theorem OutF_emb (x : Bool) (rg : Fin 2) (c' : Dev nD) {off : Fin 2 → ℕ} {inb} (hoff : off = ![ho x rg c', oCol x]) (y : Shape.Idx ⟨2, ![256, 512]⟩) :
    OutF X ((Rect.unit (s := S1024x1024) off ![256, 512] inb).emb y) = FloatOps.extf .f32 bitsLt_bf16_f32 (sub (ho x rg c') (Fin_ X x) y) := by
  have hr := emb_row (inb := inb) hoff y
  have hcol := emb_col (inb := inb) hoff y
  have hm := (set_oBlk (inb := inb) hoff).symm.subset (Rect.map_emb_univ (r := Rect.unit (s := S1024x1024) off ![256, 512] inb) ▸ Finset.mem_map_of_mem _ (Finset.mem_univ y))
  rw [mem_oBlk] at hm
  have hy : (y 1).val < 512 := (y 1).isLt
  have hlt : ((Rect.unit (s := S1024x1024) off ![256, 512] inb).emb y 0).val < 1024 := ((Rect.unit (s := S1024x1024) off ![256, 512] inb).emb y 0).isLt
  refine OutF_at X x _ _ ?_ ?_ hm.2
  · rw [hr] at hlt
    exact (Nat.mod_eq_of_lt hlt).trans hr.symm
  · refine Eq.trans ?_ (congrArg (· % 512) hcol).symm
    show (y 1).val = (oCol x + (y 1).val) % 512
    cases x <;> simp [oCol] <;> omega

theorem st_blk {Q : α → sProp 𝕄} (x : Bool) (rg : Fin 2) (c' : Dev nD) {off : Fin 2 → ℕ} {inb} {hx} {hm} (hoff : off = ![ho x rg c', oCol x]) {w : S1024x1024.Idx → Elt F .f32}
    {v : Shape.Idx ⟨2, ![256, 512]⟩ → Elt F .f32} (hv : v = extf (s := ⟨2, ![256, 512]⟩) .f32 (sub (ho x rg c') (Fin_ X x)) bitsLt_bf16_f32)
    {k : PUnit → Prog (TpuEff nD τ sig (Elt F) Λ .tc) α} :
    (pts outM c (oBlk x rg c') full w : sProp 𝕄)
      ⊢ iprop((pts outM c (oBlk x rg c') full (OutF X) -∗ wp frame (wpE defs 𝒱 c none) Set.univ (k ⟨⟩) Q)
        -∗ wp frame (wpE defs 𝒱 c none) Set.univ (.op (.store outM (Rect.unit (s := S1024x1024) off ![256, 512] inb) v Finset.univ hx hm) k) Q) :=
  store_pts 𝒱 (M := outM) (r := Rect.unit (s := S1024x1024) off ![256, 512] inb) (R := oBlk x rg c') (w := w) (OutF X) ((set_oBlk hoff).symm.subset)
    (fun y => by rw [hv]; exact OutF_emb X x rg c' hoff y) (fun i hi hi' => absurd ((set_oBlk hoff).subset hi) hi')

/-! ## The sums over the chunks -/

/-- A group's rows of the result while its sums run. -/
abbrev OutP (rg : Fin 2) (k : ℕ) (c : Dev nD) : sProp 𝕄 := pts outM c (oRows rg) full (psO X c rg k)

theorem set_oRows {rg : Fin 2} {off : Fin 2 → ℕ} {inb} (h : off = ![512 * rg.val, 0]) : oRows rg = (Rect.unit (s := S1024x1024) off ![512, 1024] inb).set := by
  subst h
  ext i
  rw [Rect.mem_set_unit, mem_oRows]
  constructor
  · intro h a
    refine Fin.cases h (fun b => ?_) a
    rw [Fin.fin_one_eq_zero b]
    exact ⟨Nat.zero_le _, by have := (i 1).isLt; exact this⟩
  · intro h; exact h 0

theorem psO_emb (rg : Fin 2) (j : ℕ) {off : Fin 2 → ℕ} {inb} (h : off = ![512 * rg.val, 0]) (y : Shape.Idx ⟨2, ![512, 1024]⟩) :
    psum X c rg j y = psO X c rg j ((Rect.unit (s := S1024x1024) off ![512, 1024] inb).emb y) := by
  unfold psO
  have hr := emb_row (inb := inb) h y
  have hcol := emb_col (inb := inb) h y
  have hy : (y 0).val < 512 := (y 0).isLt
  congr 1
  refine ext2 ?_ ?_
  · show _ = (_ - 512 * rg.val) % 512
    rw [hr, Nat.add_sub_cancel_left, Nat.mod_eq_of_lt hy]
  · exact (hcol.trans (Nat.zero_add _)).symm

theorem ld_out {Q : α → sProp 𝕄} (rg : Fin 2) (j : ℕ) {off : Fin 2 → ℕ} {inb} {hl} (hoff : off = ![512 * rg.val, 0])
    {k : (Shape.Idx ⟨2, ![512, 1024]⟩ → Elt F .f32) → Prog (TpuEff nD τ sig (Elt F) Λ .tc) α} :
    OutP X rg j c
      ⊢ iprop((OutP X rg j c -∗ wp frame (wpE defs 𝒱 c none) Set.univ (k (psum X c rg j)) Q)
        -∗ wp frame (wpE defs 𝒱 c none) Set.univ (.op (.load outM (Rect.unit (s := S1024x1024) off ![512, 1024] inb).toLoadRect hl) k) Q) :=
  load_pts 𝒱 (M := outM) (r := Rect.unit (s := S1024x1024) off ![512, 1024] inb) (R := oRows rg) (w := psO X c rg j) (psum X c rg j) (psO_emb X rg j hoff) ((set_oRows hoff).symm.subset)

theorem st_out {Q : α → sProp 𝕄} (rg : Fin 2) (j : ℕ) {off : Fin 2 → ℕ} {inb} {hx} {hm} (hoff : off = ![512 * rg.val, 0]) {w : S1024x1024.Idx → Elt F .f32}
    {v : Shape.Idx ⟨2, ![512, 1024]⟩ → Elt F .f32} (hv : v = psum X c rg j)
    {k : PUnit → Prog (TpuEff nD τ sig (Elt F) Λ .tc) α} :
    (pts outM c (oRows rg) full w : sProp 𝕄)
      ⊢ iprop((OutP X rg j c -∗ wp frame (wpE defs 𝒱 c none) Set.univ (k ⟨⟩) Q)
        -∗ wp frame (wpE defs 𝒱 c none) Set.univ (.op (.store outM (Rect.unit (s := S1024x1024) off ![512, 1024] inb) v Finset.univ hx hm) k) Q) :=
  store_pts 𝒱 (M := outM) (r := Rect.unit (s := S1024x1024) off ![512, 1024] inb) (R := oRows rg) (psO X c rg j) ((set_oRows hoff).symm.subset) (fun y => by rw [hv]; exact (psO_emb X rg j hoff y).symm)
    (fun i hi hi' => absurd ((set_oRows hoff).subset hi) hi')

theorem ld_any {Q : α → sProp 𝕄} (rg : Fin 2) {off : Fin 2 → ℕ} {inb} {hl} (hoff : off = ![512 * rg.val, 0]) {w : S1024x1024.Idx → Elt F .f32}
    {k : (Shape.Idx ⟨2, ![512, 1024]⟩ → Elt F .f32) → Prog (TpuEff nD τ sig (Elt F) Λ .tc) α} :
    (pts outM c (oRows rg) full w : sProp 𝕄)
      ⊢ iprop((∀ u, pts outM c (oRows rg) full w -∗ wp frame (wpE defs 𝒱 c none) Set.univ (k u) Q)
        -∗ wp frame (wpE defs 𝒱 c none) Set.univ (.op (.load outM (Rect.unit (s := S1024x1024) off ![512, 1024] inb).toLoadRect hl) k) Q) :=
  load_pts_any 𝒱 (M := outM) (r := Rect.unit (s := S1024x1024) off ![512, 1024] inb) (R := oRows rg) ((set_oRows hoff).symm.subset)

/-- A chunk of E, as the loop reads it. -/
theorem ld_E {Q : α → sProp 𝕄} (s : Fin 2) (j : ℕ) {hl}
    {k : (S1x1024x1024.Idx → Elt F .f32) → Prog (TpuEff nD τ sig (Elt F) Λ .tc) α} :
    Efull X s j c
      ⊢ iprop((∀ u : S1x1024x1024.Idx → Elt F .f32, ⌜shapeCast S1024x1024 u shapeCasts_S1x1024x1024_S1024x1024 = eblk X c j⌝ -∗ Efull X s j c -∗ wp frame (wpE defs 𝒱 c none) Set.univ (k u) Q)
        -∗ wp frame (wpE defs 𝒱 c none) Set.univ (.op (.load ebM (ebR s).toLoadRect hl) k) Q) := by
  unfold Efull
  iintro ⟨H, Hr⟩ Hk
  iapply (load_slot 𝒱 shapeCasts_S1x1024x1024_S1024x1024) $$ H
  iintro %u %hu H
  iapply Hk $$ %u %hu
  isplitl [H] <;> iassumption

abbrev Ids (c : Dev nD) : sProp 𝕄 := pts idsM c Finset.univ full (X.ids c)

theorem ld_ids {Q : α → sProp 𝕄} (rg : Fin 2) {off : Fin 2 → ℕ} {inb} {hl} (hoff : off = ![512 * rg.val, 0])
    {k : (Shape.Idx ⟨2, ![512, 1]⟩ → Elt F .i32) → Prog (TpuEff nD τ sig (Elt F) Λ .tc) α} :
    Ids X c
      ⊢ iprop((Ids X c -∗ wp frame (wpE defs 𝒱 c none) Set.univ (k (lid X c rg)) Q)
        -∗ wp frame (wpE defs 𝒱 c none) Set.univ (.op (.load idsM (Rect.unit (s := S1024x1) off ![512, 1] inb).toLoadRect hl) k) Q) := by
  refine load_pts 𝒱 (M := idsM) (r := Rect.unit (s := S1024x1) off ![512, 1] inb) (R := Finset.univ) (w := X.ids c) (lid X c rg) (fun y => ?_) (Finset.subset_univ _)
  subst hoff
  have hy : (y 0).val < 512 := (y 0).isLt
  have hg := rg.isLt
  unfold lid
  congr 1
  refine ext2 ?_ ?_
  · rw [ValueKit.rect_emb_unit_val]; exact Nat.mod_eq_of_lt (by omega)
  · rw [ValueKit.rect_emb_unit_val]; exact (Nat.zero_add _).symm

/-! ## The rounded sums -/

theorem ld_half {Q : α → sProp 𝕄} (x : Bool) (rg : Fin 2) {off : Fin 2 → ℕ} {inb} {hl} (hoff : off = ![512 * rg.val, oCol x]) {w : S1024x1024.Idx → Elt F .f32}
    {k : (Shape.Idx ⟨2, ![512, 512]⟩ → Elt F .f32) → Prog (TpuEff nD τ sig (Elt F) Λ .tc) α} :
    (pts outM c (oRows rg) full w : sProp 𝕄)
      ⊢ iprop((pts outM c (oRows rg) full w -∗ wp frame (wpE defs 𝒱 c none) Set.univ (k (fun y => w ((Rect.unit (s := S1024x1024) off ![512, 512] inb).emb y))) Q)
        -∗ wp frame (wpE defs 𝒱 c none) Set.univ (.op (.load outM (Rect.unit (s := S1024x1024) off ![512, 512] inb).toLoadRect hl) k) Q) := by
  refine load_pts 𝒱 (M := outM) (r := Rect.unit (s := S1024x1024) off ![512, 512] inb) (R := oRows rg) (w := w) (fun y => w ((Rect.unit (s := S1024x1024) off ![512, 512] inb).emb y)) (fun _ => rfl) (fun i hi => ?_)
  subst hoff
  rw [Rect.mem_set_unit] at hi
  rw [mem_oRows]
  exact hi 0

theorem A0_sub (x : Bool) (rg : Fin 2) {off : Fin 2 → ℕ} {inb} (hoff : off = ![512 * rg.val, oCol x]) :
    (truncf (s := ⟨2, ![512, 512]⟩) .bf16 (fun y => psO X c rg 7 ((Rect.unit (s := S1024x1024) off ![512, 512] inb).emb y)) bitsLt_bf16_f32)
      = sub (512 * rg.val) (A0 X x c) := by
  funext y
  have hr := emb_row (inb := inb) hoff y
  have hcol := emb_col (inb := inb) hoff y
  have hy : (y 0).val < 512 := (y 0).isLt
  have hg := rg.isLt
  have hrg : rgOf ((512 * rg.val + (y 0).val) % 1024) = rg := by
    unfold rgOf; refine Fin.ext ?_
    show (512 * rg.val + (y 0).val) % 1024 / 512 % 2 = rg.val
    omega
  show FloatOps.truncf .bf16 bitsLt_bf16_f32 (psum X c rg 7 _) = FloatOps.truncf .bf16 bitsLt_bf16_f32 (psum X c (rgOf ((512 * rg.val + (y 0).val) % 1024)) 7 _)
  rw [hrg]
  congr 2
  refine ext2 ?_ ?_
  · show (((Rect.unit (s := S1024x1024) off ![512, 512] inb).emb y 0).val - 512 * rg.val) % 512 = (512 * rg.val + (y 0).val) % 1024 % 512
    rw [hr]; omega
  · exact hcol

end Steps

end Cert.KP
-- ==== Proof.Chan.lean ====
/-
A channel's stages, and its operations from stage to stage.
-/
module

public import proofs.«01_k».proof.Proof.Steps

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : In F) (K : GSem nD τ sig → ℕ)

section Stages

variable (x : Bool) (rg : Fin 2) (c : Dev nD)

/-- Rounded sums made, both partners ready. -/
def C1 : sProp 𝕄 := iprop(((Tk (rg, 0, x) c ∗ reached ER (rc (rg, 0, x) (pk (rg, 0, x) c)) 0) ∗ (Tk (rg, 1, x) c ∗ reached ER (rc (rg, 1, x) (pk (rg, 1, x) c)) 0) ∗ (Tk (rg, 2, x) c ∗ reached ER (rc (rg, 2, x) (pk (rg, 2, x) c)) 0) ∗ (Tk (rg, 3, x) c ∗ reached ER (rc (rg, 3, x) (pk (rg, 3, x) c)) 0)) ∗ pts (accM x) c (Hs x rg c) full (A0 X x c) ∗ pts (accM x) c (Hs x rg (P x c)) full (A0 X x c)
  ∗ any (r1S x rg) (P x c) Finset.univ ∗ any (r2S x rg) (P (!x) c) Finset.univ)
/-- The first half sent. -/
def C2 : sProp 𝕄 := iprop((Tk1 (rg, 0, x) c ∗ (Tk (rg, 1, x) c ∗ reached ER (rc (rg, 1, x) (pk (rg, 1, x) c)) 0) ∗ (Tk (rg, 2, x) c ∗ reached ER (rc (rg, 2, x) (pk (rg, 2, x) c)) 0) ∗ (Tk (rg, 3, x) c ∗ reached ER (rc (rg, 3, x) (pk (rg, 3, x) c)) 0)) ∗ pts (accM x) c (Hs x rg c) full (A0 X x c) ∗ any (r2S x rg) (P (!x) c) Finset.univ)
/-- The first partner's half received. -/
def C3 : sProp 𝕄 := iprop((Tk2 (rg, 0, x) c ∗ (Tk (rg, 1, x) c ∗ reached ER (rc (rg, 1, x) (pk (rg, 1, x) c)) 0) ∗ (Tk (rg, 2, x) c ∗ reached ER (rc (rg, 2, x) (pk (rg, 2, x) c)) 0) ∗ (Tk (rg, 3, x) c ∗ reached ER (rc (rg, 3, x) (pk (rg, 3, x) c)) 0)) ∗ pts (accM x) c (Hs x rg c) full (A0 X x c) ∗ any (accM x) (P x c) (Hs x rg c)
  ∗ pts (r1S x rg) c Finset.univ full (sub (ho x rg c) (A0 X x (P x c))) ∗ any (r2S x rg) (P (!x) c) Finset.univ)
/-- ... and added. -/
def C4 : sProp 𝕄 := iprop((Tk2 (rg, 0, x) c ∗ (Tk (rg, 1, x) c ∗ reached ER (rc (rg, 1, x) (pk (rg, 1, x) c)) 0) ∗ (Tk (rg, 2, x) c ∗ reached ER (rc (rg, 2, x) (pk (rg, 2, x) c)) 0) ∗ (Tk (rg, 3, x) c ∗ reached ER (rc (rg, 3, x) (pk (rg, 3, x) c)) 0)) ∗ pts (accM x) c (Hs x rg c) full (A1 X x c) ∗ any (accM x) (P x c) (Hs x rg c)
  ∗ any (r1S x rg) c Finset.univ ∗ any (r2S x rg) (P (!x) c) Finset.univ)
/-- The quarter sent. -/
def C5 : sProp 𝕄 := iprop((Tk2 (rg, 0, x) c ∗ Tk1 (rg, 1, x) c ∗ (Tk (rg, 2, x) c ∗ reached ER (rc (rg, 2, x) (pk (rg, 2, x) c)) 0) ∗ (Tk (rg, 3, x) c ∗ reached ER (rc (rg, 3, x) (pk (rg, 3, x) c)) 0)) ∗ pts (accM x) c (Qs x rg c) full (A1 X x c) ∗ any (accM x) (P x c) (Hs x rg c) ∗ any (r1S x rg) c Finset.univ)
/-- The second partner's quarter received. -/
def C6 : sProp 𝕄 := iprop((Tk2 (rg, 0, x) c ∗ Tk2 (rg, 1, x) c ∗ (Tk (rg, 2, x) c ∗ reached ER (rc (rg, 2, x) (pk (rg, 2, x) c)) 0) ∗ (Tk (rg, 3, x) c ∗ reached ER (rc (rg, 3, x) (pk (rg, 3, x) c)) 0)) ∗ pts (accM x) c (Qs x rg c) full (A1 X x c) ∗ any (accM x) (P x c) (Hs x rg c)
  ∗ any (accM x) (P (!x) c) (Qs x rg c) ∗ any (r1S x rg) c Finset.univ ∗ pts (r2S x rg) c Finset.univ full (sub (qo x rg c) (A1 X x (P (!x) c))))
/-- ... and added: the own quarter is finished. -/
def C7 : sProp 𝕄 := iprop((Tk2 (rg, 0, x) c ∗ Tk2 (rg, 1, x) c ∗ (Tk (rg, 2, x) c ∗ reached ER (rc (rg, 2, x) (pk (rg, 2, x) c)) 0) ∗ (Tk (rg, 3, x) c ∗ reached ER (rc (rg, 3, x) (pk (rg, 3, x) c)) 0)) ∗ pts (accM x) c (Qs x rg c) full (Fin_ X x) ∗ any (accM x) (P x c) (Hs x rg c)
  ∗ any (accM x) (P (!x) c) (Qs x rg c) ∗ any (r1S x rg) c Finset.univ ∗ any (r2S x rg) c Finset.univ)
/-- The own quarter sent. -/
def C8 : sProp 𝕄 := iprop((Tk2 (rg, 0, x) c ∗ Tk2 (rg, 1, x) c ∗ Tk1 (rg, 2, x) c ∗ (Tk (rg, 3, x) c ∗ reached ER (rc (rg, 3, x) (pk (rg, 3, x) c)) 0)) ∗ pts (accM x) c (Qs x rg c) full.right (Fin_ X x) ∗ any (accM x) (P x c) (Hs x rg c)
  ∗ any (r1S x rg) c Finset.univ ∗ any (r2S x rg) c Finset.univ)
/-- The second partner's quarter received. -/
def C9 : sProp 𝕄 := iprop((Tk2 (rg, 0, x) c ∗ Tk2 (rg, 1, x) c ∗ Tk2 (rg, 2, x) c ∗ (Tk (rg, 3, x) c ∗ reached ER (rc (rg, 3, x) (pk (rg, 3, x) c)) 0)) ∗ pts (accM x) c (Qs x rg c) full.right (Fin_ X x) ∗ any (accM x) (P x c) (Hs x rg c)
  ∗ pts (accM x) c (Qs x rg (P (!x) c)) full (Fin_ X x) ∗ any (r1S x rg) c Finset.univ ∗ any (r2S x rg) c Finset.univ)
/-- The own half sent. -/
def C10 : sProp 𝕄 := iprop((Tk2 (rg, 0, x) c ∗ Tk2 (rg, 1, x) c ∗ Tk2 (rg, 2, x) c ∗ Tk1 (rg, 3, x) c) ∗ pts (accM x) c (Hs x rg c) full.right.right (Fin_ X x)
  ∗ pts (accM x) c (Qs x rg (P (!x) c)) full.left (Fin_ X x) ∗ any (r1S x rg) c Finset.univ ∗ any (r2S x rg) c Finset.univ)
/-- What stays with the device from here on, but for the copies still lent. -/
def Rest : sProp 𝕄 := iprop(pts (accM x) c (Hs x rg c) full.right.right (Fin_ X x)
  ∗ pts (accM x) c (Qs x rg (P (!x) c)) full.left (Fin_ X x) ∗ pts (accM x) c (Hs x rg (P x c)) full (Fin_ X x)
  ∗ any (r1S x rg) c Finset.univ ∗ any (r2S x rg) c Finset.univ)
/-- The first partner's half received. -/
def C12 : sProp 𝕄 := iprop((Tk2 (rg, 0, x) c ∗ Tk2 (rg, 1, x) c ∗ Tk2 (rg, 2, x) c ∗ Tk2 (rg, 3, x) c) ∗ pts (accM x) c (Hs x rg c) full.right.right (Fin_ X x)
  ∗ pts (accM x) c (Qs x rg (P (!x) c)) full.left (Fin_ X x) ∗ pts (accM x) c (Hs x rg (P x c)) full (Fin_ X x)
  ∗ any (r1S x rg) c Finset.univ ∗ any (r2S x rg) c Finset.univ)
def D1 : sProp 𝕄 := iprop((Tk3 (rg, 0, x) c ∗ Tk2 (rg, 1, x) c ∗ Tk2 (rg, 2, x) c ∗ Tk2 (rg, 3, x) c) ∗ Rest X x rg c)
def D2 : sProp 𝕄 := iprop((Tk3 (rg, 0, x) c ∗ Tk3 (rg, 1, x) c ∗ Tk2 (rg, 2, x) c ∗ Tk2 (rg, 3, x) c) ∗ Rest X x rg c)
def D3 : sProp 𝕄 := iprop((Tk3 (rg, 0, x) c ∗ Tk3 (rg, 1, x) c ∗ Tk3 (rg, 2, x) c ∗ Tk2 (rg, 3, x) c) ∗ pts (accM x) c (Qs x rg c) full.left (Fin_ X x) ∗ Rest X x rg c)
/-- All over. -/
def D4 : sProp 𝕄 := iprop((Tk3 (rg, 0, x) c ∗ Tk3 (rg, 1, x) c ∗ Tk3 (rg, 2, x) c ∗ Tk3 (rg, 3, x) c) ∗ pts (accM x) c (Hs x rg c) full.right.left (Fin_ X x) ∗ pts (accM x) c (Qs x rg c) full.left (Fin_ X x) ∗ Rest X x rg c)

theorem D4_end : D4 X x rg c ⊢ iprop((Tk3 (rg, 0, x) c ∗ Tk3 (rg, 1, x) c ∗ Tk3 (rg, 2, x) c ∗ Tk3 (rg, 3, x) c) ∗ any (accM x) c (Gs rg) ∗ any (r1S x rg) c Finset.univ ∗ any (r2S x rg) c Finset.univ) := by
  unfold D4 Rest
  iintro ⟨T, Hhl, Hq, Hhr, Hs, Hp, S1, S2⟩
  isplitl [T]; · iexact T
  isplitr [S1 S2]
  · ihave Hh := pts_unhalve $$ [Hhl Hhr]
    · isplitl [Hhl] <;> iassumption
    ihave Hl := (pts_join (Qs_disj x rg c)) $$ [Hq Hs]
    · isplitl [Hq] <;> iassumption
    ihave Hl := (pts_set_eq (Hs_eq x rg c).symm) $$ Hl
    ihave Hh := pts_unhalve $$ [Hl Hh]
    · isplitl [Hl] <;> iassumption
    ihave Hg := (pts_join (Hs_disj x rg c)) $$ [Hh Hp]
    · isplitl [Hh] <;> iassumption
    ihave Hg := (pts_set_eq (Gs_eq x rg c).symm) $$ Hg
    iapply pts_any; iexact Hg
  isplitl [S1] <;> iassumption

/-- What both partners' signals bring a channel. -/
def Ch0 : sProp 𝕄 := iprop(any (r1S x rg) (P x c) Finset.univ ∗ any (r2S x rg) (P (!x) c) Finset.univ
  ∗ reached ER (rc (rg, 0, x) (pk (rg, 0, x) c)) 0 ∗ reached ER (rc (rg, 1, x) (pk (rg, 1, x) c)) 0
  ∗ reached ER (rc (rg, 2, x) (pk (rg, 2, x) c)) 0 ∗ reached ER (rc (rg, 3, x) (pk (rg, 3, x) c)) 0)

theorem bar_out : iprop(barPay (F := F) false c ∗ barPay true c) ⊢ iprop(Ch0 false 0 c ∗ Ch0 true 0 c ∗ Ch0 false 1 c ∗ Ch0 true 1 c) := by
  unfold barPay barPay1 Ch0
  iintro ⟨⟨⟨F01, F02, #R1, #R2, #R3, #R4⟩, ⟨F11, F12, #R5, #R6, #R7, #R8⟩⟩, ⟨⟨T01, T02, #U1, #U2, #U3, #U4⟩, ⟨T11, T12, #U5, #U6, #U7, #U8⟩⟩⟩
  isplitl [F01 T02]
  · isplitl [F01]; · iexact F01
    isplitl [T02]; · iexact T02
    isplitr; · iexact R1
    isplitr; · iexact U2
    isplitr; · iexact U3
    iexact R4
  isplitl [T01 F02]
  · isplitl [T01]; · iexact T01
    isplitl [F02]; · iexact F02
    isplitr; · iexact U1
    isplitr; · iexact R2
    isplitr; · iexact R3
    iexact U4
  isplitl [F11 T12]
  · isplitl [F11]; · iexact F11
    isplitl [T12]; · iexact T12
    isplitr; · iexact R5
    isplitr; · iexact U6
    isplitr; · iexact U7
    iexact R8
  · isplitl [T11]; · iexact T11
    isplitl [F12]; · iexact F12
    isplitr; · iexact U5
    isplitr; · iexact R6
    isplitr; · iexact R7
    iexact U8

/-- A channel's tokens before the kernel runs. -/
def Tk4 : sProp 𝕄 := iprop(Tk (rg, 0, x) c ∗ Tk (rg, 1, x) c ∗ Tk (rg, 2, x) c ∗ Tk (rg, 3, x) c)

theorem C1_intro : iprop(Ch0 x rg c ∗ Tk4 x rg c ∗ pts (accM x) c (Gs rg) full (A0 X x c)) ⊢ C1 X x rg c := by
  unfold Ch0 Tk4 C1
  iintro ⟨⟨S1, S2, #R0, #R1, #R2, #R3⟩, ⟨T0, T1, T2, T3⟩, Hg⟩
  ihave Hg := (pts_set_eq (Gs_eq x rg c)) $$ Hg
  ihave Hg := (pts_split (Hs_disj x rg c)) $$ Hg
  icases Hg with ⟨Hh, Hp⟩
  isplitl [T0 T1 T2 T3]
  · isplitl [T0]
    · isplitl [T0]; · iexact T0
      iexact R0
    isplitl [T1]
    · isplitl [T1]; · iexact T1
      iexact R1
    isplitl [T2]
    · isplitl [T2]; · iexact T2
      iexact R2
    · isplitl [T3]; · iexact T3
      iexact R3
  isplitl [Hh]; · iexact Hh
  isplitl [Hp]; · iexact Hp
  isplitl [S1] <;> iassumption

end Stages

section Ops

variable {Λ : Labels} {defs : Defs nD τ sig (Elt F) Λ} (𝒱 : Variants)
variable {c : Dev nD} {α : Type}

theorem c_s1 {Q : α → sProp 𝕄} (x : Bool) (rg : Fin 2) (n : ℕ) (ht : txOf n = (rg, 0, x)) (hn : n < 16)
    {off : Fin 2 → ℕ} {inb} {hu} {d : Dev nD} {s1 s2 : DmaSem sig} (hoff : off = ![ho x rg (P x c), 0]) (hd : d = P x c) (h1 : s1 = sS (rg, 0, x)) (h2 : s2 = rS (rg, 0, x))
    {hsc} {hsrc} {hdst} {hsem} {k : PUnit → Prog (TpuEff nD τ sig (Elt F) Λ .tc) α} :
    iprop(Ctx X K c ∗ C1 X x rg c ∗ Ow c (n + 1))
      ⊢ iprop((iprop(C2 X x rg c ∗ Ow c n) -∗ wp frame (wpE defs 𝒱 c none) Set.univ (k ⟨⟩) Q)
        -∗ wp frame (wpE defs 𝒱 c none) Set.univ (.op (.enqueueDma ((accM x).slice (Rect.unit (s := S1024x512) off S256x512.size inb) hu) (.remote d.tc (r1S x rg) (.dma s1) hsc) (.dma s2) hsrc hdst hsem) k) Q) := by
  unfold C1 C2
  iintro ⟨HC, ⟨⟨T0, T1, T2, T3⟩, Hh, Hp, S1, S2⟩, HO⟩ Hk
  icases T0 with ⟨T0, #R0⟩
  iapply (send_r1 X K 𝒱 x rg n ht hn hoff hd h1 h2) $$ [HC T0 HO Hp S1]
  · isplitl [HC]; · iexact HC
    isplitl [T0]; · iexact T0
    isplitr; · iexact R0
    isplitl [HO]; · iexact HO
    isplitl [Hp] <;> iassumption
  iintro ⟨T0, HO⟩
  iapply Hk
  isplitr [HO]
  · isplitl [T0 T1 T2 T3]
    · isplitl [T0]; · iexact T0
      isplitl [T1]; · iexact T1
      isplitl [T2] <;> iassumption
    isplitl [Hh]; · iexact Hh
    iexact S2
  iexact HO

theorem c_s2 {Q : α → sProp 𝕄} (x : Bool) (rg : Fin 2) (n : ℕ) (ht : txOf n = (rg, 1, x)) (hn : n < 16)
    {off : Fin 2 → ℕ} {inb} {hu} {d : Dev nD} {s1 s2 : DmaSem sig} (hoff : off = ![qo x rg (P (!x) c), 0]) (hd : d = P (!x) c) (h1 : s1 = sS (rg, 1, x)) (h2 : s2 = rS (rg, 1, x))
    {hsc} {hsrc} {hdst} {hsem} {k : PUnit → Prog (TpuEff nD τ sig (Elt F) Λ .tc) α} :
    iprop(Ctx X K c ∗ C4 X x rg c ∗ Ow c (n + 1))
      ⊢ iprop((iprop(C5 X x rg c ∗ Ow c n) -∗ wp frame (wpE defs 𝒱 c none) Set.univ (k ⟨⟩) Q)
        -∗ wp frame (wpE defs 𝒱 c none) Set.univ (.op (.enqueueDma ((accM x).slice (Rect.unit (s := S1024x512) off S128x512.size inb) hu) (.remote d.tc (r2S x rg) (.dma s1) hsc) (.dma s2) hsrc hdst hsem) k) Q) := by
  unfold C4 C5
  iintro ⟨HC, ⟨⟨T0, T1, T2, T3⟩, Hh, Hp, S1, S2⟩, HO⟩ Hk
  ihave Hh' := (pts_set_eq (Hs_eq x rg c)) $$ Hh
  ihave Hh2 := (pts_split (Qs_disj x rg c)) $$ Hh'
  icases Hh2 with ⟨Hq, Hs⟩
  icases T1 with ⟨T1, #R1⟩
  iapply (send_r2 X K 𝒱 x rg n ht hn hoff hd h1 h2) $$ [HC T1 HO Hs S2]
  · isplitl [HC]; · iexact HC
    isplitl [T1]; · iexact T1
    isplitr; · iexact R1
    isplitl [HO]; · iexact HO
    isplitl [Hs] <;> iassumption
  iintro ⟨T1, HO⟩
  iapply Hk
  isplitr [HO]
  · isplitl [T0 T1 T2 T3]
    · isplitl [T0]; · iexact T0
      isplitl [T1]; · iexact T1
      isplitl [T2] <;> iassumption
    isplitl [Hq]; · iexact Hq
    isplitl [Hp]; · iexact Hp
    iexact S1
  iexact HO

theorem c_s3 {Q : α → sProp 𝕄} (x : Bool) (rg : Fin 2) (n : ℕ) (ht : txOf n = (rg, 2, x)) (hn : n < 16)
    {off : Fin 2 → ℕ} {inb} {hu} {d : Dev nD} {s1 s2 : DmaSem sig} (hoff : off = ![qo x rg c, 0]) {off' : Fin 2 → ℕ} {inb'} {hu'} (hoff' : off' = ![qo x rg c, 0]) (hd : d = P (!x) c) (h1 : s1 = sS (rg, 2, x)) (h2 : s2 = rS (rg, 2, x))
    {hsc} {hsrc} {hdst} {hsem} {k : PUnit → Prog (TpuEff nD τ sig (Elt F) Λ .tc) α} :
    iprop(Ctx X K c ∗ C7 X x rg c ∗ Ow c (n + 1))
      ⊢ iprop((iprop(C8 X x rg c ∗ Ow c n) -∗ wp frame (wpE defs 𝒱 c none) Set.univ (k ⟨⟩) Q)
        -∗ wp frame (wpE defs 𝒱 c none) Set.univ (.op (.enqueueDma ((accM x).slice (Rect.unit (s := S1024x512) off S128x512.size inb) hu) (.remote d.tc ((accM x).slice (Rect.unit (s := S1024x512) off' S128x512.size inb') hu') (.dma s1) hsc) (.dma s2) hsrc hdst hsem) k) Q) := by
  unfold C7 C8
  iintro ⟨HC, ⟨⟨T0, T1, T2, T3⟩, Hq, Hp, Hs, S1, S2⟩, HO⟩ Hk
  ihave Hq' := pts_halve $$ Hq
  icases Hq' with ⟨Hl, Hr⟩
  icases T2 with ⟨T2, #R2⟩
  iapply (send_ag1 X K 𝒱 x rg n ht hn hoff hoff' hd h1 h2) $$ [HC T2 HO Hl Hs]
  · isplitl [HC]; · iexact HC
    isplitl [T2]; · iexact T2
    isplitr; · iexact R2
    isplitl [HO]; · iexact HO
    isplitl [Hl] <;> iassumption
  iintro ⟨T2, HO⟩
  iapply Hk
  isplitr [HO]
  · isplitl [T0 T1 T2 T3]
    · isplitl [T0]; · iexact T0
      isplitl [T1]; · iexact T1
      isplitl [T2] <;> iassumption
    isplitl [Hr]; · iexact Hr
    isplitl [Hp]; · iexact Hp
    isplitl [S1]; · iexact S1
    iexact S2
  iexact HO

theorem c_s4 {Q : α → sProp 𝕄} (x : Bool) (rg : Fin 2) (n : ℕ) (ht : txOf n = (rg, 3, x)) (hn : n < 16)
    {off : Fin 2 → ℕ} {inb} {hu} {d : Dev nD} {s1 s2 : DmaSem sig} (hoff : off = ![ho x rg c, 0]) {off' : Fin 2 → ℕ} {inb'} {hu'} (hoff' : off' = ![ho x rg c, 0]) (hd : d = P x c) (h1 : s1 = sS (rg, 3, x)) (h2 : s2 = rS (rg, 3, x))
    {hsc} {hsrc} {hdst} {hsem} {k : PUnit → Prog (TpuEff nD τ sig (Elt F) Λ .tc) α} :
    iprop(Ctx X K c ∗ C9 X x rg c ∗ Ow c (n + 1))
      ⊢ iprop((iprop(C10 X x rg c ∗ Ow c n) -∗ wp frame (wpE defs 𝒱 c none) Set.univ (k ⟨⟩) Q)
        -∗ wp frame (wpE defs 𝒱 c none) Set.univ (.op (.enqueueDma ((accM x).slice (Rect.unit (s := S1024x512) off S256x512.size inb) hu) (.remote d.tc ((accM x).slice (Rect.unit (s := S1024x512) off' S256x512.size inb') hu') (.dma s1) hsc) (.dma s2) hsrc hdst hsem) k) Q) := by
  unfold C9 C10
  iintro ⟨HC, ⟨⟨T0, T1, T2, T3⟩, Hr, Hp, Hs, S1, S2⟩, HO⟩ Hk
  ihave Hs' := pts_halve $$ Hs
  icases Hs' with ⟨Hsl, Hsr⟩
  ihave Hh := (pts_join (Qs_disj x rg c)) $$ [Hr Hsr]
  · isplitl [Hr] <;> iassumption
  ihave Hh := (pts_set_eq (Hs_eq x rg c).symm) $$ Hh
  ihave Hh := pts_halve $$ Hh
  icases Hh with ⟨Hhl, Hhr⟩
  icases T3 with ⟨T3, #R3⟩
  iapply (send_ag2 X K 𝒱 x rg n ht hn hoff hoff' hd h1 h2) $$ [HC T3 HO Hhl Hp]
  · isplitl [HC]; · iexact HC
    isplitl [T3]; · iexact T3
    isplitr; · iexact R3
    isplitl [HO]; · iexact HO
    isplitl [Hhl] <;> iassumption
  iintro ⟨T3, HO⟩
  iapply Hk
  isplitr [HO]
  · isplitl [T0 T1 T2 T3]
    · isplitl [T0]; · iexact T0
      isplitl [T1]; · iexact T1
      isplitl [T2] <;> iassumption
    isplitl [Hhr]; · iexact Hhr
    isplitl [Hsl]; · iexact Hsl
    isplitl [S1]; · iexact S1
    iexact S2
  iexact HO

theorem c_w0 {Q : α → sProp 𝕄} (x : Bool) (rg : Fin 2) (n : ℕ) (hlev : ∀ m, m < n → lvT (rg, 0, x) < dueL m)
    {s' : Shape} {e' : EltTy} {sp' : Space} {s2 : DmaSem sig} (h2 : s2 = rS (rg, 0, x)) {src : Memref sig .tc sp' s' e'}
    {hsrc : src.view.WordExact} {hdst : ((r1S x rg)).view.WordExact} {k : PUnit → Prog (TpuEff nD τ sig (Elt F) Λ .tc) α} :
    iprop(Ctx X K c ∗ C2 X x rg c ∗ Ow c n)
      ⊢ iprop((iprop(C3 X x rg c ∗ Ow c n) -∗ wp frame (wpE defs 𝒱 c none) Set.univ (k ⟨⟩) Q)
        -∗ wp frame (wpE defs 𝒱 c none) Set.univ (.op (.waitDma2 s2 src (r1S x rg) hsrc hdst) k) Q) := by
  unfold C2 C3
  iintro ⟨HC, ⟨⟨T0, T1, T2, T3⟩, Hh, S2⟩, HO⟩ Hk
  iapply (wr_0 X K 𝒱 x rg n hlev h2) $$ [HC T0 HO]
  · isplitl [HC]; · iexact HC
    isplitl [T0] <;> iassumption
  iintro ⟨T0, HO, Hy⟩
  ihave Hy := (Entails.of_eq (recvPay_0 X rg x c)) $$ Hy
  icases Hy with ⟨Hr, Hp⟩
  iapply Hk
  isplitr [HO]
  · isplitl [T0 T1 T2 T3]
    · isplitl [T0]; · iexact T0
      isplitl [T1]; · iexact T1
      isplitl [T2] <;> iassumption
    isplitl [Hh]; · iexact Hh
    isplitl [Hp]; · iapply pts_any; iexact Hp
    isplitl [Hr] <;> iassumption
  iexact HO

theorem c_w1 {Q : α → sProp 𝕄} (x : Bool) (rg : Fin 2) (n : ℕ) (hlev : ∀ m, m < n → lvT (rg, 1, x) < dueL m)
    {s' : Shape} {e' : EltTy} {sp' : Space} {s2 : DmaSem sig} (h2 : s2 = rS (rg, 1, x)) {src : Memref sig .tc sp' s' e'}
    {hsrc : src.view.WordExact} {hdst : ((r2S x rg)).view.WordExact} {k : PUnit → Prog (TpuEff nD τ sig (Elt F) Λ .tc) α} :
    iprop(Ctx X K c ∗ C5 X x rg c ∗ Ow c n)
      ⊢ iprop((iprop(C6 X x rg c ∗ Ow c n) -∗ wp frame (wpE defs 𝒱 c none) Set.univ (k ⟨⟩) Q)
        -∗ wp frame (wpE defs 𝒱 c none) Set.univ (.op (.waitDma2 s2 src (r2S x rg) hsrc hdst) k) Q) := by
  unfold C5 C6
  iintro ⟨HC, ⟨⟨T0, T1, T2, T3⟩, Hq, Hp, S1⟩, HO⟩ Hk
  iapply (wr_1 X K 𝒱 x rg n hlev h2) $$ [HC T1 HO]
  · isplitl [HC]; · iexact HC
    isplitl [T1] <;> iassumption
  iintro ⟨T1, HO, Hy⟩
  ihave Hy := (Entails.of_eq (recvPay_1 X rg x c)) $$ Hy
  icases Hy with ⟨Hr, Hs⟩
  iapply Hk
  isplitr [HO]
  · isplitl [T0 T1 T2 T3]
    · isplitl [T0]; · iexact T0
      isplitl [T1]; · iexact T1
      isplitl [T2] <;> iassumption
    isplitl [Hq]; · iexact Hq
    isplitl [Hp]; · iexact Hp
    isplitl [Hs]; · iapply pts_any; iexact Hs
    isplitl [S1] <;> iassumption
  iexact HO

theorem c_w2 {Q : α → sProp 𝕄} (x : Bool) (rg : Fin 2) (n : ℕ) (hlev : ∀ m, m < n → lvT (rg, 2, x) < dueL m) {off : Fin 2 → ℕ} {inb} {hu}
    {s' : Shape} {e' : EltTy} {sp' : Space} {s2 : DmaSem sig} (h2 : s2 = rS (rg, 2, x)) {src : Memref sig .tc sp' s' e'}
    {hsrc : src.view.WordExact} {hdst : (((accM x).slice (Rect.unit (s := S1024x512) off S128x512.size inb) hu)).view.WordExact} {k : PUnit → Prog (TpuEff nD τ sig (Elt F) Λ .tc) α} :
    iprop(Ctx X K c ∗ C8 X x rg c ∗ Ow c n)
      ⊢ iprop((iprop(C9 X x rg c ∗ Ow c n) -∗ wp frame (wpE defs 𝒱 c none) Set.univ (k ⟨⟩) Q)
        -∗ wp frame (wpE defs 𝒱 c none) Set.univ (.op (.waitDma2 s2 src ((accM x).slice (Rect.unit (s := S1024x512) off S128x512.size inb) hu) hsrc hdst) k) Q) := by
  unfold C8 C9
  iintro ⟨HC, ⟨⟨T0, T1, T2, T3⟩, Hr, Hp, S1, S2⟩, HO⟩ Hk
  iapply (wr_2 X K 𝒱 x rg n hlev h2) $$ [HC T2 HO]
  · isplitl [HC]; · iexact HC
    isplitl [T2] <;> iassumption
  iintro ⟨T2, HO, Hy⟩
  ihave Hy := (Entails.of_eq (recvPay_2 X rg x c)) $$ Hy
  iapply Hk
  isplitr [HO]
  · isplitl [T0 T1 T2 T3]
    · isplitl [T0]; · iexact T0
      isplitl [T1]; · iexact T1
      isplitl [T2] <;> iassumption
    isplitl [Hr]; · iexact Hr
    isplitl [Hp]; · iexact Hp
    isplitl [Hy]; · iexact Hy
    isplitl [S1] <;> iassumption
  iexact HO

theorem c_w3 {Q : α → sProp 𝕄} (x : Bool) (rg : Fin 2) (n : ℕ) (hlev : ∀ m, m < n → lvT (rg, 3, x) < dueL m) {off : Fin 2 → ℕ} {inb} {hu}
    {s' : Shape} {e' : EltTy} {sp' : Space} {s2 : DmaSem sig} (h2 : s2 = rS (rg, 3, x)) {src : Memref sig .tc sp' s' e'}
    {hsrc : src.view.WordExact} {hdst : (((accM x).slice (Rect.unit (s := S1024x512) off S256x512.size inb) hu)).view.WordExact} {k : PUnit → Prog (TpuEff nD τ sig (Elt F) Λ .tc) α} :
    iprop(Ctx X K c ∗ C10 X x rg c ∗ Ow c n)
      ⊢ iprop((iprop(C12 X x rg c ∗ Ow c n) -∗ wp frame (wpE defs 𝒱 c none) Set.univ (k ⟨⟩) Q)
        -∗ wp frame (wpE defs 𝒱 c none) Set.univ (.op (.waitDma2 s2 src ((accM x).slice (Rect.unit (s := S1024x512) off S256x512.size inb) hu) hsrc hdst) k) Q) := by
  unfold C10 C12
  iintro ⟨HC, ⟨⟨T0, T1, T2, T3⟩, Hh, Hs, S1, S2⟩, HO⟩ Hk
  iapply (wr_3 X K 𝒱 x rg n hlev h2) $$ [HC T3 HO]
  · isplitl [HC]; · iexact HC
    isplitl [T3] <;> iassumption
  iintro ⟨T3, HO, Hy⟩
  ihave Hy := (Entails.of_eq (recvPay_3 X rg x c)) $$ Hy
  iapply Hk
  isplitr [HO]
  · isplitl [T0 T1 T2 T3]
    · isplitl [T0]; · iexact T0
      isplitl [T1]; · iexact T1
      isplitl [T2] <;> iassumption
    isplitl [Hh]; · iexact Hh
    isplitl [Hs]; · iexact Hs
    isplitl [Hy]; · iexact Hy
    isplitl [S1] <;> iassumption
  iexact HO

theorem c3_ld {Q : α → sProp 𝕄} (x : Bool) (rg : Fin 2) {off : Fin 2 → ℕ} {inb} {hl} (hoff : off = ![ho x rg c, 0])
    {k : (Shape.Idx ⟨2, ![256, 512]⟩ → Elt F .bf16) → Prog (TpuEff nD τ sig (Elt F) Λ .tc) α} :
    C3 X x rg c
      ⊢ iprop((C3 X x rg c -∗ wp frame (wpE defs 𝒱 c none) Set.univ (k (sub (ho x rg c) (A0 X x c))) Q)
        -∗ wp frame (wpE defs 𝒱 c none) Set.univ (.op (.load (accM x) (Rect.unit (s := S1024x512) off ![256, 512] inb).toLoadRect hl) k) Q) := by
  unfold C3
  iintro ⟨T, Hh, Hp, Hr, S2⟩ Hk
  iapply (ld_acc 𝒱 x (ho x rg c) 256 (R := Hs x rg c) rfl hoff) $$ Hh
  iintro Hh
  iapply Hk
  isplitl [T]; · iexact T
  isplitl [Hh]; · iexact Hh
  isplitl [Hp]; · iexact Hp
  isplitl [Hr]; · iexact Hr
  iexact S2

theorem c3_slot {Q : α → sProp 𝕄} (x : Bool) (rg : Fin 2) {hl} {k : (S1x256x512.Idx → Elt F .bf16) → Prog (TpuEff nD τ sig (Elt F) Λ .tc) α} :
    C3 X x rg c
      ⊢ iprop((∀ u : S1x256x512.Idx → Elt F .bf16, ⌜shapeCast S256x512 u shapeCasts_S1x256x512_S256x512 = sub (ho x rg c) (A0 X x (P x c))⌝ -∗ C3 X x rg c -∗ wp frame (wpE defs 𝒱 c none) Set.univ (k u) Q)
        -∗ wp frame (wpE defs 𝒱 c none) Set.univ (.op (.load (r1M x) (r1R rg).toLoadRect hl) k) Q) := by
  unfold C3
  iintro ⟨T, Hh, Hp, Hr, S2⟩ Hk
  iapply (load_slot 𝒱 shapeCasts_S1x256x512_S256x512) $$ Hr
  iintro %u %hu Hr
  iapply Hk $$ %u %hu
  isplitl [T]; · iexact T
  isplitl [Hh]; · iexact Hh
  isplitl [Hp]; · iexact Hp
  isplitl [Hr]; · iexact Hr
  iexact S2

theorem c3_st {Q : α → sProp 𝕄} (x : Bool) (rg : Fin 2) {off : Fin 2 → ℕ} {inb} {hx} {hm} (hoff : off = ![ho x rg c, 0])
    {v : Shape.Idx ⟨2, ![256, 512]⟩ → Elt F .bf16} (hv : v = sub (ho x rg c) (A1 X x c)) {k : PUnit → Prog (TpuEff nD τ sig (Elt F) Λ .tc) α} :
    C3 X x rg c
      ⊢ iprop((C4 X x rg c -∗ wp frame (wpE defs 𝒱 c none) Set.univ (k ⟨⟩) Q)
        -∗ wp frame (wpE defs 𝒱 c none) Set.univ (.op (.store (accM x) (Rect.unit (s := S1024x512) off ![256, 512] inb) v Finset.univ hx hm) k) Q) := by
  unfold C3 C4
  iintro ⟨T, Hh, Hp, Hr, S2⟩ Hk
  iapply (st_acc 𝒱 x (ho x rg c) 256 (R := Hs x rg c) rfl hoff (A1 X x c) hv) $$ Hh
  iintro Hh
  iapply Hk
  isplitl [T]; · iexact T
  isplitl [Hh]; · iexact Hh
  isplitl [Hp]; · iexact Hp
  isplitl [Hr]; · iapply pts_any; iexact Hr
  iexact S2

theorem c6_ld {Q : α → sProp 𝕄} (x : Bool) (rg : Fin 2) {off : Fin 2 → ℕ} {inb} {hl} (hoff : off = ![qo x rg c, 0])
    {k : (Shape.Idx ⟨2, ![128, 512]⟩ → Elt F .bf16) → Prog (TpuEff nD τ sig (Elt F) Λ .tc) α} :
    C6 X x rg c
      ⊢ iprop((C6 X x rg c -∗ wp frame (wpE defs 𝒱 c none) Set.univ (k (sub (qo x rg c) (A1 X x c))) Q)
        -∗ wp frame (wpE defs 𝒱 c none) Set.univ (.op (.load (accM x) (Rect.unit (s := S1024x512) off ![128, 512] inb).toLoadRect hl) k) Q) := by
  unfold C6
  iintro ⟨T, Hq, Hp, Hs, S1, Hr⟩ Hk
  iapply (ld_acc 𝒱 x (qo x rg c) 128 (R := Qs x rg c) rfl hoff) $$ Hq
  iintro Hq
  iapply Hk
  isplitl [T]; · iexact T
  isplitl [Hq]; · iexact Hq
  isplitl [Hp]; · iexact Hp
  isplitl [Hs]; · iexact Hs
  isplitl [S1]; · iexact S1
  iexact Hr

theorem c6_slot {Q : α → sProp 𝕄} (x : Bool) (rg : Fin 2) {hl} {k : (S1x128x512.Idx → Elt F .bf16) → Prog (TpuEff nD τ sig (Elt F) Λ .tc) α} :
    C6 X x rg c
      ⊢ iprop((∀ u : S1x128x512.Idx → Elt F .bf16, ⌜shapeCast S128x512 u shapeCasts_S1x128x512_S128x512 = sub (qo x rg c) (A1 X x (P (!x) c))⌝ -∗ C6 X x rg c -∗ wp frame (wpE defs 𝒱 c none) Set.univ (k u) Q)
        -∗ wp frame (wpE defs 𝒱 c none) Set.univ (.op (.load (r2M x) (r2R rg).toLoadRect hl) k) Q) := by
  unfold C6
  iintro ⟨T, Hq, Hp, Hs, S1, Hr⟩ Hk
  iapply (load_slot 𝒱 shapeCasts_S1x128x512_S128x512) $$ Hr
  iintro %u %hu Hr
  iapply Hk $$ %u %hu
  isplitl [T]; · iexact T
  isplitl [Hq]; · iexact Hq
  isplitl [Hp]; · iexact Hp
  isplitl [Hs]; · iexact Hs
  isplitl [S1]; · iexact S1
  iexact Hr

theorem c6_st {Q : α → sProp 𝕄} (x : Bool) (rg : Fin 2) {off : Fin 2 → ℕ} {inb} {hx} {hm} (hoff : off = ![qo x rg c, 0])
    {v : Shape.Idx ⟨2, ![128, 512]⟩ → Elt F .bf16} (hv : v = sub (qo x rg c) (A2 X x c)) {k : PUnit → Prog (TpuEff nD τ sig (Elt F) Λ .tc) α} :
    C6 X x rg c
      ⊢ iprop((C7 X x rg c -∗ wp frame (wpE defs 𝒱 c none) Set.univ (k ⟨⟩) Q)
        -∗ wp frame (wpE defs 𝒱 c none) Set.univ (.op (.store (accM x) (Rect.unit (s := S1024x512) off ![128, 512] inb) v Finset.univ hx hm) k) Q) := by
  unfold C6 C7
  iintro ⟨T, Hq, Hp, Hs, S1, Hr⟩ Hk
  iapply (st_acc 𝒱 x (qo x rg c) 128 (R := Qs x rg c) rfl hoff (A2 X x c) hv) $$ Hq
  iintro Hq
  iapply Hk
  isplitl [T]; · iexact T
  isplitl [Hq]; · iapply (pts_congr (A2_Fin X)); iexact Hq
  isplitl [Hp]; · iexact Hp
  isplitl [Hs]; · iexact Hs
  isplitl [S1]; · iexact S1
  iapply pts_any; iexact Hr

theorem c10_ld {Q : α → sProp 𝕄} (x : Bool) (rg : Fin 2) {off : Fin 2 → ℕ} {inb} {hl} (hoff : off = ![ho x rg c, 0])
    {k : (Shape.Idx ⟨2, ![256, 512]⟩ → Elt F .bf16) → Prog (TpuEff nD τ sig (Elt F) Λ .tc) α} :
    C10 X x rg c
      ⊢ iprop((C10 X x rg c -∗ wp frame (wpE defs 𝒱 c none) Set.univ (k (sub (ho x rg c) (Fin_ X x))) Q)
        -∗ wp frame (wpE defs 𝒱 c none) Set.univ (.op (.load (accM x) (Rect.unit (s := S1024x512) off ![256, 512] inb).toLoadRect hl) k) Q) := by
  unfold C10
  iintro ⟨T, Hh, Hs, S1, S2⟩ Hk
  iapply (ld_acc 𝒱 x (ho x rg c) 256 (R := Hs x rg c) rfl hoff) $$ Hh
  iintro Hh
  iapply Hk
  isplitl [T]; · iexact T
  isplitl [Hh]; · iexact Hh
  isplitl [Hs]; · iexact Hs
  isplitl [S1]; · iexact S1
  iexact S2

theorem c12_ld {Q : α → sProp 𝕄} (x : Bool) (rg : Fin 2) {off : Fin 2 → ℕ} {inb} {hl} (hoff : off = ![ho x rg (P x c), 0])
    {k : (Shape.Idx ⟨2, ![256, 512]⟩ → Elt F .bf16) → Prog (TpuEff nD τ sig (Elt F) Λ .tc) α} :
    C12 X x rg c
      ⊢ iprop((C12 X x rg c -∗ wp frame (wpE defs 𝒱 c none) Set.univ (k (sub (ho x rg (P x c)) (Fin_ X x))) Q)
        -∗ wp frame (wpE defs 𝒱 c none) Set.univ (.op (.load (accM x) (Rect.unit (s := S1024x512) off ![256, 512] inb).toLoadRect hl) k) Q) := by
  unfold C12
  iintro ⟨T, Hh, Hs, Hy, S1, S2⟩ Hk
  iapply (ld_acc 𝒱 x (ho x rg (P x c)) 256 (R := Hs x rg (P x c)) rfl hoff) $$ Hy
  iintro Hy
  iapply Hk
  isplitl [T]; · iexact T
  isplitl [Hh]; · iexact Hh
  isplitl [Hs]; · iexact Hs
  isplitl [Hy]; · iexact Hy
  isplitl [S1]; · iexact S1
  iexact S2

theorem c_ws0 {Q : α → sProp 𝕄} (x : Bool) (rg : Fin 2) {off : Fin 2 → ℕ} {inb} {hu}
    {s' : Shape} {e' : EltTy} {sp' : Space} {s2 : DmaSem sig} (h2 : s2 = sS (rg, 0, x)) {src : Memref sig .tc sp' s' e'}
    {hsrc : src.view.WordExact} {hdst : (((accM x).slice (Rect.unit (s := S1024x512) off S256x512.size inb) hu)).view.WordExact} {k : PUnit → Prog (TpuEff nD τ sig (Elt F) Λ .tc) α} :
    iprop(Ctx X K c ∗ C12 X x rg c ∗ Ow c 0)
      ⊢ iprop((iprop(D1 X x rg c ∗ Ow c 0) -∗ wp frame (wpE defs 𝒱 c none) Set.univ (k ⟨⟩) Q)
        -∗ wp frame (wpE defs 𝒱 c none) Set.univ (.op (.waitDma2 s2 src ((accM x).slice (Rect.unit (s := S1024x512) off S256x512.size inb) hu) hsrc hdst) k) Q) := by
  unfold C12 D1 Rest
  iintro ⟨HC, ⟨⟨T0, T1, T2, T3⟩, Hr⟩, HO⟩ Hk
  iapply (ws_0 X K 𝒱 x rg h2) $$ [HC T0 HO]
  · isplitl [HC]; · iexact HC
    isplitl [T0] <;> iassumption
  iintro ⟨T0, HO, Hy⟩
  ihave Hy := (Entails.of_eq (sendPay_0 X rg x c)) $$ Hy
  iapply Hk
  isplitr [HO]
  · isplitl [T0 T1 T2 T3]
    · isplitl [T0]; · iexact T0
      isplitl [T1]; · iexact T1
      isplitl [T2] <;> iassumption
    iexact Hr
  iexact HO

theorem c_ws1 {Q : α → sProp 𝕄} (x : Bool) (rg : Fin 2) {off : Fin 2 → ℕ} {inb} {hu}
    {s' : Shape} {e' : EltTy} {sp' : Space} {s2 : DmaSem sig} (h2 : s2 = sS (rg, 1, x)) {src : Memref sig .tc sp' s' e'}
    {hsrc : src.view.WordExact} {hdst : (((accM x).slice (Rect.unit (s := S1024x512) off S128x512.size inb) hu)).view.WordExact} {k : PUnit → Prog (TpuEff nD τ sig (Elt F) Λ .tc) α} :
    iprop(Ctx X K c ∗ D1 X x rg c ∗ Ow c 0)
      ⊢ iprop((iprop(D2 X x rg c ∗ Ow c 0) -∗ wp frame (wpE defs 𝒱 c none) Set.univ (k ⟨⟩) Q)
        -∗ wp frame (wpE defs 𝒱 c none) Set.univ (.op (.waitDma2 s2 src ((accM x).slice (Rect.unit (s := S1024x512) off S128x512.size inb) hu) hsrc hdst) k) Q) := by
  unfold D1 D2
  iintro ⟨HC, ⟨⟨T0, T1, T2, T3⟩, Hr⟩, HO⟩ Hk
  iapply (ws_1 X K 𝒱 x rg h2) $$ [HC T1 HO]
  · isplitl [HC]; · iexact HC
    isplitl [T1] <;> iassumption
  iintro ⟨T1, HO, Hy⟩
  ihave Hy := (Entails.of_eq (sendPay_1 X rg x c)) $$ Hy
  iapply Hk
  isplitr [HO]
  · isplitl [T0 T1 T2 T3]
    · isplitl [T0]; · iexact T0
      isplitl [T1]; · iexact T1
      isplitl [T2] <;> iassumption
    iexact Hr
  iexact HO

theorem c_ws2 {Q : α → sProp 𝕄} (x : Bool) (rg : Fin 2) {off : Fin 2 → ℕ} {inb} {hu}
    {s' : Shape} {e' : EltTy} {sp' : Space} {s2 : DmaSem sig} (h2 : s2 = sS (rg, 2, x)) {src : Memref sig .tc sp' s' e'}
    {hsrc : src.view.WordExact} {hdst : (((accM x).slice (Rect.unit (s := S1024x512) off S128x512.size inb) hu)).view.WordExact} {k : PUnit → Prog (TpuEff nD τ sig (Elt F) Λ .tc) α} :
    iprop(Ctx X K c ∗ D2 X x rg c ∗ Ow c 0)
      ⊢ iprop((iprop(D3 X x rg c ∗ Ow c 0) -∗ wp frame (wpE defs 𝒱 c none) Set.univ (k ⟨⟩) Q)
        -∗ wp frame (wpE defs 𝒱 c none) Set.univ (.op (.waitDma2 s2 src ((accM x).slice (Rect.unit (s := S1024x512) off S128x512.size inb) hu) hsrc hdst) k) Q) := by
  unfold D2 D3
  iintro ⟨HC, ⟨⟨T0, T1, T2, T3⟩, Hr⟩, HO⟩ Hk
  iapply (ws_2 X K 𝒱 x rg h2) $$ [HC T2 HO]
  · isplitl [HC]; · iexact HC
    isplitl [T2] <;> iassumption
  iintro ⟨T2, HO, Hy⟩
  ihave Hy := (Entails.of_eq (sendPay_2 X rg x c)) $$ Hy
  iapply Hk
  isplitr [HO]
  · isplitl [T0 T1 T2 T3]
    · isplitl [T0]; · iexact T0
      isplitl [T1]; · iexact T1
      isplitl [T2] <;> iassumption
    isplitl [Hy]; · iexact Hy
    iexact Hr
  iexact HO

theorem c_ws3 {Q : α → sProp 𝕄} (x : Bool) (rg : Fin 2) {off : Fin 2 → ℕ} {inb} {hu}
    {s' : Shape} {e' : EltTy} {sp' : Space} {s2 : DmaSem sig} (h2 : s2 = sS (rg, 3, x)) {src : Memref sig .tc sp' s' e'}
    {hsrc : src.view.WordExact} {hdst : (((accM x).slice (Rect.unit (s := S1024x512) off S256x512.size inb) hu)).view.WordExact} {k : PUnit → Prog (TpuEff nD τ sig (Elt F) Λ .tc) α} :
    iprop(Ctx X K c ∗ D3 X x rg c ∗ Ow c 0)
      ⊢ iprop((iprop(D4 X x rg c ∗ Ow c 0) -∗ wp frame (wpE defs 𝒱 c none) Set.univ (k ⟨⟩) Q)
        -∗ wp frame (wpE defs 𝒱 c none) Set.univ (.op (.waitDma2 s2 src ((accM x).slice (Rect.unit (s := S1024x512) off S256x512.size inb) hu) hsrc hdst) k) Q) := by
  unfold D3 D4
  iintro ⟨HC, ⟨⟨T0, T1, T2, T3⟩, Hr⟩, HO⟩ Hk
  iapply (ws_3 X K 𝒱 x rg h2) $$ [HC T3 HO]
  · isplitl [HC]; · iexact HC
    isplitl [T3] <;> iassumption
  iintro ⟨T3, HO, Hy⟩
  ihave Hy := (Entails.of_eq (sendPay_3 X rg x c)) $$ Hy
  iapply Hk
  isplitr [HO]
  · isplitl [T0 T1 T2 T3]
    · isplitl [T0]; · iexact T0
      isplitl [T1]; · iexact T1
      isplitl [T2] <;> iassumption
    isplitl [Hy]; · iexact Hy
    iexact Hr
  iexact HO

/-- The dead load before the rounded sums are stored. -/
theorem ld_accG {Q : α → sProp 𝕄} (x : Bool) (rg : Fin 2) {off : Fin 2 → ℕ} {inb} {hl} (hoff : off = ![512 * rg.val, 0])
    {k : (Shape.Idx ⟨2, ![512, 512]⟩ → Elt F .bf16) → Prog (TpuEff nD τ sig (Elt F) Λ .tc) α} :
    (any (accM x) c (Gs rg) : sProp 𝕄)
      ⊢ iprop((∀ u, any (accM x) c (Gs rg) -∗ wp frame (wpE defs 𝒱 c none) Set.univ (k u) Q)
        -∗ wp frame (wpE defs 𝒱 c none) Set.univ (.op (.load (accM x) (Rect.unit (s := S1024x512) off ![512, 512] inb).toLoadRect hl) k) Q) := by
  iintro H Hk
  ihave H := any_pts $$ H
  icases H with ⟨%w, H⟩
  iapply (load_pts_any 𝒱 (M := accM x) (r := Rect.unit (s := S1024x512) off ![512, 512] inb) (R := Gs rg) ((set_rows 512 hoff).subset)) $$ H
  iintro %u H
  iapply Hk $$ %u
  iapply pts_any; iexact H

theorem st_accG {Q : α → sProp 𝕄} (x : Bool) (rg : Fin 2) {off : Fin 2 → ℕ} {inb} {hx} {hm} (hoff : off = ![512 * rg.val, 0])
    {v : Shape.Idx ⟨2, ![512, 512]⟩ → Elt F .bf16} (hv : v = sub (512 * rg.val) (A0 X x c)) {k : PUnit → Prog (TpuEff nD τ sig (Elt F) Λ .tc) α} :
    (any (accM x) c (Gs rg) : sProp 𝕄)
      ⊢ iprop((pts (accM x) c (Gs rg) full (A0 X x c) -∗ wp frame (wpE defs 𝒱 c none) Set.univ (k ⟨⟩) Q)
        -∗ wp frame (wpE defs 𝒱 c none) Set.univ (.op (.store (accM x) (Rect.unit (s := S1024x512) off ![512, 512] inb) v Finset.univ hx hm) k) Q) := by
  iintro H Hk
  ihave H := any_pts $$ H
  icases H with ⟨%w, H⟩
  iapply (st_acc 𝒱 x (512 * rg.val) 512 (R := Gs rg) rfl hoff (A0 X x c) hv) $$ H
  iexact Hk

theorem ld_any' {Q : α → sProp 𝕄} (rg : Fin 2) {off : Fin 2 → ℕ} {inb} {hl} (hoff : off = ![512 * rg.val, 0])
    {k : (Shape.Idx ⟨2, ![512, 1024]⟩ → Elt F .f32) → Prog (TpuEff nD τ sig (Elt F) Λ .tc) α} :
    (any outM c (oRows rg) : sProp 𝕄)
      ⊢ iprop((∀ u, any outM c (oRows rg) -∗ wp frame (wpE defs 𝒱 c none) Set.univ (k u) Q)
        -∗ wp frame (wpE defs 𝒱 c none) Set.univ (.op (.load outM (Rect.unit (s := S1024x1024) off ![512, 1024] inb).toLoadRect hl) k) Q) := by
  iintro H Hk
  ihave H := any_pts $$ H
  icases H with ⟨%w, H⟩
  iapply (ld_any 𝒱 rg hoff) $$ H
  iintro %u H
  iapply Hk $$ %u
  iapply pts_any; iexact H

theorem st_out' {Q : α → sProp 𝕄} (rg : Fin 2) (j : ℕ) {off : Fin 2 → ℕ} {inb} {hx} {hm} (hoff : off = ![512 * rg.val, 0])
    {v : Shape.Idx ⟨2, ![512, 1024]⟩ → Elt F .f32} (hv : v = psum X c rg j) {k : PUnit → Prog (TpuEff nD τ sig (Elt F) Λ .tc) α} :
    (any outM c (oRows rg) : sProp 𝕄)
      ⊢ iprop((OutP X rg j c -∗ wp frame (wpE defs 𝒱 c none) Set.univ (k ⟨⟩) Q)
        -∗ wp frame (wpE defs 𝒱 c none) Set.univ (.op (.store outM (Rect.unit (s := S1024x1024) off ![512, 1024] inb) v Finset.univ hx hm) k) Q) := by
  iintro H Hk
  ihave H := any_pts $$ H
  icases H with ⟨%w, H⟩
  iapply (st_out X 𝒱 rg j hoff hv) $$ H
  iexact Hk

/-- The result's blocks. -/
theorem out_split {w : S1024x1024.Idx → Elt F .f32} (rg : Fin 2) :
    (pts outM c (oRows rg) full w : sProp 𝕄)
      ⊢ iprop((pts outM c (oBlk false rg c) full w ∗ pts outM c (oBlk false rg (P false c)) full w)
        ∗ (pts outM c (oBlk true rg c) full w ∗ pts outM c (oBlk true rg (P true c)) full w)) := by
  iintro H
  ihave H := (pts_set_eq (oRows_eq rg)) $$ H
  ihave H := (pts_split (oHalf_disj rg)) $$ H
  icases H with ⟨H1, H2⟩
  ihave H1 := (pts_set_eq (oHalf_eq false rg c)) $$ H1
  ihave H2 := (pts_set_eq (oHalf_eq true rg c)) $$ H2
  isplitl [H1]
  · iapply (pts_split (oBlk_disj false rg c)); iexact H1
  · iapply (pts_split (oBlk_disj true rg c)); iexact H2

theorem out_join {w : S1024x1024.Idx → Elt F .f32} (rg : Fin 2) :
    iprop((pts outM c (oBlk false rg c) full w ∗ pts outM c (oBlk false rg (P false c)) full w)
        ∗ (pts outM c (oBlk true rg c) full w ∗ pts outM c (oBlk true rg (P true c)) full w))
      ⊢ (pts outM c (oRows rg) full w : sProp 𝕄) := by
  iintro ⟨H1, H2⟩
  ihave H1 := (pts_join (oBlk_disj false rg c)) $$ H1
  ihave H1 := (pts_set_eq (oHalf_eq false rg c).symm) $$ H1
  ihave H2 := (pts_join (oBlk_disj true rg c)) $$ H2
  ihave H2 := (pts_set_eq (oHalf_eq true rg c).symm) $$ H2
  ihave H := (pts_join (oHalf_disj rg)) $$ [H1 H2]
  · isplitl [H1] <;> iassumption
  iapply (pts_set_eq (oRows_eq rg).symm); iexact H

end Ops

end Cert.KP
-- ==== Proof.BodyA.lean ====
/-
The kernel's parts 1 to 8: the barrier's signals and the first row group's sums.
-/
module

public import proofs.«01_k».proof.Proof.Chan

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : In F) (K : GSem nD τ sig → ℕ)

section Parts

variable {defs : Defs nD τ sig (Elt F) Λ₀} (𝒱 : Variants) {c : Dev nD}
variable {h0 : (idsM).IsWhole} {h1 : (EM).IsWhole} {h2 : (outM).IsWhole} {h3 : (accM false).IsWhole} {h4 : (accM true).IsWhole}
  {h5 : (ebM).IsWhole} {h6 : (r1M false).IsWhole} {h7 : (r1M true).IsWhole} {h8 : (r2M false).IsWhole} {h9 : (r2M true).IsWhole}

theorem ret_intro {α : Type} {a : α} {Φ : α → sProp 𝕄} : Φ a ⊢ wp frame (wpE defs 𝒱 (c : Thread nD τ) none) Set.univ (Prog.ret a) Φ := by
  rw [wp_ret]
  exact fupd_intro

theorem OtR_bar_false (c : Dev nD) : OtR c (17 + 1) = OtR c 17 + tallyAt (bar (P false c)) () 1 := rfl
theorem OtR_bar_true (c : Dev nD) : OtR c (16 + 1) = OtR c 16 + tallyAt (bar (P true c)) () 1 := rfl

theorem part1  {Φ : _ → sProp 𝕄} :
    iprop(Ctx X K c ∗ iprop(dutyTok ER (bar (P false c)) 0 false ∗ barPay false (P false c)) ∗ Ow c 18 ∗ iprop(dutyTok ER (bar (P true c)) 0 true ∗ barPay true (P true c)) ∗ Efree X 0 c ∗ Ids X c ∗ Efree X 1 c)
      ⊢ iprop((∀ v2 v3 v4, iprop(Ow c 16 ∗ Efly X 0 0 (by decide) c ∗ Ids X c ∗ Efly X 1 1 (by decide) c) -∗ Φ ⟨c, v2, v3, v4, SemArray.scalar (sig.barrier 0 rfl), k0_pay1 (lid X c 0)⟩) -∗ wp frame (wpE defs 𝒱 c none) Set.univ (k0_part1 (F := F) idsM h0 EM h1 outM h2 (accM false) h3 (accM true) h4 ebM h5 (r1M false) h6 (r1M true) h7 (r2M false) h8 (r2M true) h9 cc0_scratch7 cc0_scratch8 cc0_scratch9 ) Φ) := by
  rw [k0_part1_eq_skeleton]
  unfold k0_part1_skel
  simp only [semSignalWord, semWaitWord, Prog.lift, Prog.bind_op, Prog.bind_ret, Prog.pure_eq_ret, wp_deviceId]
  iintro ⟨#HC, Tf, O, Tt, E0, I, E1⟩ Hk
  icases Tf with ⟨Tf, Yf⟩
  iapply (signal_bar X K 𝒱 false 17 (OtR_bar_false c) (dev1_eq c)) $$ [Tf O Yf]
  · isplitr; · iexact HC
    isplitl [Tf]; · iexact Tf
    isplitl [O]; · iexact O
    iexact Yf
  iintro O
  icases Tt with ⟨Tt, Yt⟩
  iapply (signal_bar X K 𝒱 true 16 (OtR_bar_true c) (dev2_eq c)) $$ [Tt O Yt]
  · isplitr; · iexact HC
    isplitl [Tt]; · iexact Tt
    isplitl [O]; · iexact O
    iexact Yt
  iintro O
  iapply (copy_E X 𝒱 0 0 (by decide) rfl rfl rfl) $$ E0
  iintro E0
  iapply (ld_ids X 𝒱 0 rfl) $$ I
  iintro I
  iapply (copy_E X 𝒱 1 1 (by decide) rfl rfl rfl) $$ E1
  iintro E1
  iapply ret_intro
  iapply Hk $$ %_ %_ %_
  isplitl [O]; · iexact O
  isplitl [E0]; · iexact E0
  isplitl [I]; · iexact I
  iexact E1

theorem part2  {Φ : _ → sProp 𝕄} :
    iprop(Ctx X K c ∗ Efly X 0 0 (by decide) c ∗ Ow c 16 ∗ any outM c (oRows 0) ∗ Efly X 1 1 (by decide) c)
      ⊢ iprop((∀ e, ⌜e = eblk X c 1⌝ -∗ iprop(Efly X 0 2 (by decide) c ∗ Ow c 16 ∗ OutP X 0 0 c ∗ Efull X 1 1 c) -∗ Φ ⟨k0_pay3 (k0_pay1 (lid X c 0)), e, constant S512x1024 .f32 0x00000000#32⟩) -∗ wp frame (wpE defs 𝒱 c none) Set.univ (k0_part2 (F := F) idsM h0 EM h1 outM h2 (accM false) h3 (accM true) h4 ebM h5 (r1M false) h6 (r1M true) h7 (r2M false) h8 (r2M true) h9 cc0_scratch7 cc0_scratch8 cc0_scratch9 (k0_pay1 (lid X c 0))) Φ) := by
  rw [k0_part2_eq_skeleton]
  unfold k0_part2_skel
  simp only [semSignalWord, semWaitWord, Prog.lift, Prog.bind_op, Prog.bind_ret, Prog.pure_eq_ret, wp_deviceId]
  iintro ⟨#HC, E0, O, R0, E1⟩ Hk
  iapply (wait_E X K 𝒱 0 0 16 (by decide) (by decide) (dst := ebS 0) rfl rfl) $$ [E0 O]
  · isplitr; · iexact HC
    isplitl [E0]; · iexact E0
    iexact O
  iintro ⟨E0, O⟩
  iapply (ld_E X 𝒱 0 0) $$ E0
  iintro %u34 %hu34 E0
  iapply (ld_any' 𝒱 0 rfl) $$ R0
  iintro %u37 R0
  iapply (st_out' X 𝒱 0 0 rfl ?_) $$ R0
  · simp only [k0_pay2, hu34, shapeCast_self]; try rfl
  iintro R0
  ihave E0 := Efull_free X $$ E0
  iapply (copy_E X 𝒱 0 2 (by decide) rfl rfl rfl) $$ E0
  iintro E0
  iapply (wait_E X K 𝒱 1 1 16 (by decide) (by decide) (dst := ebS 1) rfl rfl) $$ [E1 O]
  · isplitr; · iexact HC
    isplitl [E1]; · iexact E1
    iexact O
  iintro ⟨E1, O⟩
  iapply (ld_E X 𝒱 1 1) $$ E1
  iintro %u55 %hu55 E1
  iapply ret_intro
  iapply Hk $$ %_ %(by simp only [k0_pay4, hu34, hu55, shapeCast_self]; try rfl)
  isplitl [E0]; · iexact E0
  isplitl [O]; · iexact O
  isplitl [R0]; · iexact R0
  iexact E1

theorem part3  {Φ : _ → sProp 𝕄} :
    iprop(Ctx X K c ∗ OutP X 0 0 c ∗ Efull X 1 1 c ∗ Efly X 0 2 (by decide) c ∗ Ow c 16)
      ⊢ iprop((iprop(OutP X 0 2 c ∗ Efly X 1 3 (by decide) c ∗ Efull X 0 2 c ∗ Ow c 16) -∗ Φ ⟨⟩) -∗ wp frame (wpE defs 𝒱 c none) Set.univ (k0_part3 (F := F) idsM h0 EM h1 outM h2 (accM false) h3 (accM true) h4 ebM h5 (r1M false) h6 (r1M true) h7 (r2M false) h8 (r2M true) h9 cc0_scratch7 cc0_scratch8 cc0_scratch9 (k0_pay1 (lid X c 0)) (k0_pay3 (k0_pay1 (lid X c 0))) (eblk X c 1) (constant S512x1024 .f32 0x00000000#32)) Φ) := by
  rw [k0_part3_eq_skeleton]
  unfold k0_part3_skel
  simp only [semSignalWord, semWaitWord, Prog.lift, Prog.bind_op, Prog.bind_ret, Prog.pure_eq_ret, wp_deviceId]
  iintro ⟨#HC, R0, E1, E0, O⟩ Hk
  iapply (ld_out X 𝒱 0 0 rfl) $$ R0
  iintro R0
  iapply (ld_out X 𝒱 0 0 rfl) $$ R0
  iintro R0
  iapply (st_out X 𝒱 0 1 rfl ?_) $$ R0
  · simp only [k0_pay5, k0_pay3, k0_pay4, shapeCast_self]; try rfl
  iintro R0
  ihave E1 := Efull_free X $$ E1
  iapply (copy_E X 𝒱 1 3 (by decide) rfl rfl rfl) $$ E1
  iintro E1
  iapply (wait_E X K 𝒱 0 2 16 (by decide) (by decide) (dst := ebS 0) rfl rfl) $$ [E0 O]
  · isplitr; · iexact HC
    isplitl [E0]; · iexact E0
    iexact O
  iintro ⟨E0, O⟩
  iapply (ld_E X 𝒱 0 2) $$ E0
  iintro %u79 %hu79 E0
  iapply (ld_out X 𝒱 0 1 rfl) $$ R0
  iintro R0
  iapply (ld_out X 𝒱 0 1 rfl) $$ R0
  iintro R0
  iapply (st_out X 𝒱 0 2 rfl ?_) $$ R0
  · simp only [k0_pay6, k0_pay3, k0_pay4, hu79, shapeCast_self]; try rfl
  iintro R0
  iapply ret_intro
  iapply Hk
  isplitl [R0]; · iexact R0
  isplitl [E1]; · iexact E1
  isplitl [E0]; · iexact E0
  iexact O

theorem part4  {Φ : _ → sProp 𝕄} :
    iprop(Ctx X K c ∗ Efull X 0 2 c ∗ Efly X 1 3 (by decide) c ∗ Ow c 16 ∗ OutP X 0 2 c)
      ⊢ iprop((iprop(Efly X 0 4 (by decide) c ∗ Efly X 1 5 (by decide) c ∗ Ow c 16 ∗ OutP X 0 3 c) -∗ Φ ⟨⟩) -∗ wp frame (wpE defs 𝒱 c none) Set.univ (k0_part4 (F := F) idsM h0 EM h1 outM h2 (accM false) h3 (accM true) h4 ebM h5 (r1M false) h6 (r1M true) h7 (r2M false) h8 (r2M true) h9 cc0_scratch7 cc0_scratch8 cc0_scratch9 (k0_pay1 (lid X c 0))) Φ) := by
  rw [k0_part4_eq_skeleton]
  unfold k0_part4_skel
  simp only [semSignalWord, semWaitWord, Prog.lift, Prog.bind_op, Prog.bind_ret, Prog.pure_eq_ret, wp_deviceId]
  iintro ⟨#HC, E0, E1, O, R0⟩ Hk
  ihave E0 := Efull_free X $$ E0
  iapply (copy_E X 𝒱 0 4 (by decide) rfl rfl rfl) $$ E0
  iintro E0
  iapply (wait_E X K 𝒱 1 3 16 (by decide) (by decide) (dst := ebS 1) rfl rfl) $$ [E1 O]
  · isplitr; · iexact HC
    isplitl [E1]; · iexact E1
    iexact O
  iintro ⟨E1, O⟩
  iapply (ld_E X 𝒱 1 3) $$ E1
  iintro %u103 %hu103 E1
  iapply (ld_out X 𝒱 0 2 rfl) $$ R0
  iintro R0
  iapply (ld_out X 𝒱 0 2 rfl) $$ R0
  iintro R0
  iapply (st_out X 𝒱 0 3 rfl ?_) $$ R0
  · simp only [k0_pay7, hu103, shapeCast_self]; try rfl
  iintro R0
  ihave E1 := Efull_free X $$ E1
  iapply (copy_E X 𝒱 1 5 (by decide) rfl rfl rfl) $$ E1
  iintro E1
  iapply ret_intro
  iapply Hk
  isplitl [E0]; · iexact E0
  isplitl [E1]; · iexact E1
  isplitl [O]; · iexact O
  iexact R0

theorem part5  {Φ : _ → sProp 𝕄} :
    iprop(Ctx X K c ∗ Efly X 0 4 (by decide) c ∗ Ow c 16 ∗ OutP X 0 3 c ∗ Efly X 1 5 (by decide) c)
      ⊢ iprop((iprop(Efly X 0 6 (by decide) c ∗ Ow c 16 ∗ OutP X 0 4 c ∗ Efull X 1 5 c) -∗ Φ ⟨iota .tc S512x1024 32 [1] iota_S512x1024_d1_w32, 5120#32⟩) -∗ wp frame (wpE defs 𝒱 c none) Set.univ (k0_part5 (F := F) idsM h0 EM h1 outM h2 (accM false) h3 (accM true) h4 ebM h5 (r1M false) h6 (r1M true) h7 (r2M false) h8 (r2M true) h9 cc0_scratch7 cc0_scratch8 cc0_scratch9 (k0_pay1 (lid X c 0))) Φ) := by
  rw [k0_part5_eq_skeleton]
  unfold k0_part5_skel
  simp only [semSignalWord, semWaitWord, Prog.lift, Prog.bind_op, Prog.bind_ret, Prog.pure_eq_ret, wp_deviceId]
  iintro ⟨#HC, E0, O, R0, E1⟩ Hk
  iapply (wait_E X K 𝒱 0 4 16 (by decide) (by decide) (dst := ebS 0) rfl rfl) $$ [E0 O]
  · isplitr; · iexact HC
    isplitl [E0]; · iexact E0
    iexact O
  iintro ⟨E0, O⟩
  iapply (ld_E X 𝒱 0 4) $$ E0
  iintro %u127 %hu127 E0
  iapply (ld_out X 𝒱 0 3 rfl) $$ R0
  iintro R0
  iapply (ld_out X 𝒱 0 3 rfl) $$ R0
  iintro R0
  iapply (st_out X 𝒱 0 4 rfl ?_) $$ R0
  · simp only [k0_pay8, hu127, shapeCast_self]; try rfl
  iintro R0
  ihave E0 := Efull_free X $$ E0
  iapply (copy_E X 𝒱 0 6 (by decide) rfl rfl rfl) $$ E0
  iintro E0
  iapply (wait_E X K 𝒱 1 5 16 (by decide) (by decide) (dst := ebS 1) rfl rfl) $$ [E1 O]
  · isplitr; · iexact HC
    isplitl [E1]; · iexact E1
    iexact O
  iintro ⟨E1, O⟩
  iapply ret_intro
  iapply Hk
  isplitl [E0]; · iexact E0
  isplitl [O]; · iexact O
  isplitl [R0]; · iexact R0
  iexact E1

theorem part6  {Φ : _ → sProp 𝕄} :
    iprop(Ctx X K c ∗ Efull X 1 5 c ∗ OutP X 0 4 c ∗ Efly X 0 6 (by decide) c ∗ Ow c 16)
      ⊢ iprop((∀ e, ⌜e = eblk X c 6⌝ -∗ iprop(Efly X 1 7 (by decide) c ∗ OutP X 0 5 c ∗ Efull X 0 6 c ∗ Ow c 16) -∗ Φ ⟨k0_pay10 (k0_pay1 (lid X c 0)), e, constant S512x1024 .f32 0x00000000#32⟩) -∗ wp frame (wpE defs 𝒱 c none) Set.univ (k0_part6 (F := F) idsM h0 EM h1 outM h2 (accM false) h3 (accM true) h4 ebM h5 (r1M false) h6 (r1M true) h7 (r2M false) h8 (r2M true) h9 cc0_scratch7 cc0_scratch8 cc0_scratch9 (k0_pay1 (lid X c 0)) (iota .tc S512x1024 32 [1] iota_S512x1024_d1_w32) 5120#32) Φ) := by
  rw [k0_part6_eq_skeleton]
  unfold k0_part6_skel
  simp only [semSignalWord, semWaitWord, Prog.lift, Prog.bind_op, Prog.bind_ret, Prog.pure_eq_ret, wp_deviceId]
  iintro ⟨#HC, E1, R0, E0, O⟩ Hk
  iapply (ld_E X 𝒱 1 5) $$ E1
  iintro %u151 %hu151 E1
  iapply (ld_out X 𝒱 0 4 rfl) $$ R0
  iintro R0
  iapply (ld_out X 𝒱 0 4 rfl) $$ R0
  iintro R0
  iapply (st_out X 𝒱 0 5 rfl ?_) $$ R0
  · simp only [k0_pay9, hu151, shapeCast_self]; try rfl
  iintro R0
  ihave E1 := Efull_free X $$ E1
  iapply (copy_E X 𝒱 1 7 (by decide) rfl rfl rfl) $$ E1
  iintro E1
  iapply (wait_E X K 𝒱 0 6 16 (by decide) (by decide) (dst := ebS 0) rfl rfl) $$ [E0 O]
  · isplitr; · iexact HC
    isplitl [E0]; · iexact E0
    iexact O
  iintro ⟨E0, O⟩
  iapply (ld_E X 𝒱 0 6) $$ E0
  iintro %u175 %hu175 E0
  iapply ret_intro
  iapply Hk $$ %_ %(by simp only [k0_pay11, hu151, hu175, shapeCast_self]; try rfl)
  isplitl [E1]; · iexact E1
  isplitl [R0]; · iexact R0
  isplitl [E0]; · iexact E0
  iexact O

theorem part7  {Φ : _ → sProp 𝕄} :
    iprop(Ctx X K c ∗ OutP X 0 5 c ∗ Efull X 0 6 c ∗ Efly X 1 7 (by decide) c ∗ Ow c 16)
      ⊢ iprop((iprop(OutP X 0 7 c ∗ Efly X 0 0 (by decide) c ∗ Efull X 1 7 c ∗ Ow c 16) -∗ Φ ⟨⟩) -∗ wp frame (wpE defs 𝒱 c none) Set.univ (k0_part7 (F := F) idsM h0 EM h1 outM h2 (accM false) h3 (accM true) h4 ebM h5 (r1M false) h6 (r1M true) h7 (r2M false) h8 (r2M true) h9 cc0_scratch7 cc0_scratch8 cc0_scratch9 (k0_pay1 (lid X c 0)) (k0_pay10 (k0_pay1 (lid X c 0))) (eblk X c 6) (constant S512x1024 .f32 0x00000000#32)) Φ) := by
  rw [k0_part7_eq_skeleton]
  unfold k0_part7_skel
  simp only [semSignalWord, semWaitWord, Prog.lift, Prog.bind_op, Prog.bind_ret, Prog.pure_eq_ret, wp_deviceId]
  iintro ⟨#HC, R0, E0, E1, O⟩ Hk
  iapply (ld_out X 𝒱 0 5 rfl) $$ R0
  iintro R0
  iapply (ld_out X 𝒱 0 5 rfl) $$ R0
  iintro R0
  iapply (st_out X 𝒱 0 6 rfl ?_) $$ R0
  · simp only [k0_pay12, k0_pay10, k0_pay11, shapeCast_self]; try rfl
  iintro R0
  ihave E0 := Efull_free X $$ E0
  iapply (copy_E X 𝒱 0 0 (by decide) rfl rfl rfl) $$ E0
  iintro E0
  iapply (wait_E X K 𝒱 1 7 16 (by decide) (by decide) (dst := ebS 1) rfl rfl) $$ [E1 O]
  · isplitr; · iexact HC
    isplitl [E1]; · iexact E1
    iexact O
  iintro ⟨E1, O⟩
  iapply (ld_E X 𝒱 1 7) $$ E1
  iintro %u199 %hu199 E1
  iapply (ld_out X 𝒱 0 6 rfl) $$ R0
  iintro R0
  iapply (ld_out X 𝒱 0 6 rfl) $$ R0
  iintro R0
  iapply (st_out X 𝒱 0 7 rfl ?_) $$ R0
  · simp only [k0_pay13, k0_pay10, k0_pay11, hu199, shapeCast_self]; try rfl
  iintro R0
  iapply ret_intro
  iapply Hk
  isplitl [R0]; · iexact R0
  isplitl [E0]; · iexact E0
  isplitl [E1]; · iexact E1
  iexact O

theorem part8 (v2 : BitVec 32) {Φ : _ → sProp 𝕄} :
    iprop(Ctx X K c ∗ OutP X 0 7 c ∗ any (accM false) c (Gs 0) ∗ any (accM true) c (Gs 0))
      ⊢ iprop((∀ r, iprop(OutP X 0 7 c ∗ pts (accM false) c (Gs 0) full (A0 X false c) ∗ pts (accM true) c (Gs 0) full (A0 X true c)) -∗ Φ r) -∗ wp frame (wpE defs 𝒱 c none) Set.univ (k0_part8 (F := F) idsM h0 EM h1 outM h2 (accM false) h3 (accM true) h4 ebM h5 (r1M false) h6 (r1M true) h7 (r2M false) h8 (r2M true) h9 cc0_scratch7 cc0_scratch8 cc0_scratch9 v2) Φ) := by
  rw [k0_part8_eq_skeleton]
  unfold k0_part8_skel
  simp only [semSignalWord, semWaitWord, Prog.lift, Prog.bind_op, Prog.bind_ret, Prog.pure_eq_ret, wp_deviceId]
  iintro ⟨#HC, R0, Af0, At0⟩ Hk
  iapply (ld_half 𝒱 false 0 rfl) $$ R0
  iintro R0
  iapply (ld_accG 𝒱 false 0 rfl) $$ Af0
  iintro %u209 Af0
  iapply (st_accG X 𝒱 false 0 rfl ?_) $$ Af0
  · simp only [k0_pay14, shapeCast_self]; exact (A0_sub X false 0 rfl)
  iintro Af0
  iapply (ld_half 𝒱 true 0 rfl) $$ R0
  iintro R0
  iapply (ld_accG 𝒱 true 0 rfl) $$ At0
  iintro %u215 At0
  iapply (st_accG X 𝒱 true 0 rfl ?_) $$ At0
  · simp only [k0_pay15, shapeCast_self]; exact (A0_sub X true 0 rfl)
  iintro At0
  iapply ret_intro
  iapply Hk $$ %_
  isplitl [R0]; · iexact R0
  isplitl [Af0]; · iexact Af0
  iexact At0

end Parts

end Cert.KP
-- ==== Proof.BodyB.lean ====
/-
The kernel's parts 9 to 19: the barrier, the first copies and the second row group's sums.
-/
module

public import proofs.«01_k».proof.Proof.BodyA

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : In F) (K : GSem nD τ sig → ℕ)

section Parts

variable {defs : Defs nD τ sig (Elt F) Λ₀} (𝒱 : Variants) {c : Dev nD}
variable {h0 : (idsM).IsWhole} {h1 : (EM).IsWhole} {h2 : (outM).IsWhole} {h3 : (accM false).IsWhole} {h4 : (accM true).IsWhole}
  {h5 : (ebM).IsWhole} {h6 : (r1M false).IsWhole} {h7 : (r1M true).IsWhole} {h8 : (r2M false).IsWhole} {h9 : (r2M true).IsWhole}

theorem part9 (v2 : BitVec 32) (v4 : BitVec 32) (c2_i32_184 : BitVec 32) (v237 : BitVec 32) (v242 : BitVec 32) (v244 : BitVec 32) {Φ : _ → sProp 𝕄} :
    iprop(Ctx X K c)
      ⊢ iprop((∀ r, Φ r) -∗ wp frame (wpE defs 𝒱 c none) Set.univ (k0_part9 (F := F) idsM h0 EM h1 outM h2 (accM false) h3 (accM true) h4 ebM h5 (r1M false) h6 (r1M true) h7 (r2M false) h8 (r2M true) h9 cc0_scratch7 cc0_scratch8 cc0_scratch9 v2 v4 c2_i32_184 v237 v242 v244) Φ) := by
  rw [k0_part9_eq_skeleton]
  unfold k0_part9_skel
  simp only [semSignalWord, semWaitWord, Prog.lift, Prog.bind_op, Prog.bind_ret, Prog.pure_eq_ret, wp_deviceId]
  iintro #HC Hk
  iapply ret_intro
  iapply Hk

theorem part10 (v2 : BitVec 32) (v3 : BitVec 32) (v263 : BitVec 32) (v266 : BitVec 32) (v267 : BitVec 32) (v281 : BitVec 1) (c1_i32_209 : BitVec 32) {Φ : _ → sProp 𝕄} :
    iprop(Ctx X K c)
      ⊢ iprop((∀ r, Φ r) -∗ wp frame (wpE defs 𝒱 c none) Set.univ (k0_part10 (F := F) idsM h0 EM h1 outM h2 (accM false) h3 (accM true) h4 ebM h5 (r1M false) h6 (r1M true) h7 (r2M false) h8 (r2M true) h9 cc0_scratch7 cc0_scratch8 cc0_scratch9 v2 v3 v263 v266 v267 v281 c1_i32_209) Φ) := by
  rw [k0_part10_eq_skeleton]
  unfold k0_part10_skel
  simp only [semSignalWord, semWaitWord, Prog.lift, Prog.bind_op, Prog.bind_ret, Prog.pure_eq_ret, wp_deviceId]
  iintro #HC Hk
  iapply ret_intro
  iapply Hk

theorem part11 (v2 : BitVec 32) (v4 : BitVec 32) (v323 : BitVec 32) {Φ : _ → sProp 𝕄} :
    iprop(Ctx X K c)
      ⊢ iprop((∀ r, Φ r) -∗ wp frame (wpE defs 𝒱 c none) Set.univ (k0_part11 (F := F) idsM h0 EM h1 outM h2 (accM false) h3 (accM true) h4 ebM h5 (r1M false) h6 (r1M true) h7 (r2M false) h8 (r2M true) h9 cc0_scratch7 cc0_scratch8 cc0_scratch9 v2 v4 v323) Φ) := by
  rw [k0_part11_eq_skeleton]
  unfold k0_part11_skel
  simp only [semSignalWord, semWaitWord, Prog.lift, Prog.bind_op, Prog.bind_ret, Prog.pure_eq_ret, wp_deviceId]
  iintro #HC Hk
  iapply ret_intro
  iapply Hk

theorem part12 (v2 : BitVec 32) (v3 : BitVec 32) (v351 : BitVec 32) (v354 : BitVec 32) (c2_i32_247 : BitVec 32) (v355 : BitVec 32) (v357 : BitVec 32) (v359 : BitVec 32) {Φ : _ → sProp 𝕄} :
    iprop(Ctx X K c ∗ iprop(atPos ER (bar c) 0 ∅ 0 ∗ cred (tallyAt (bar c) () 2)) ∗ Ow c 16)
      ⊢ iprop((∀ r, iprop(atPos ER (bar c) (0 + 1) ∅ 0 ∗ Ow c 16 ∗ barPay (F := F) false c ∗ barPay (F := F) true c) -∗ Φ r) -∗ wp frame (wpE defs 𝒱 c none) Set.univ (k0_part12 (F := F) idsM h0 EM h1 outM h2 (accM false) h3 (accM true) h4 ebM h5 (r1M false) h6 (r1M true) h7 (r2M false) h8 (r2M true) h9 cc0_scratch7 cc0_scratch8 cc0_scratch9 v2 v3 (SemArray.scalar (sig.barrier 0 rfl)) v351 v354 c2_i32_247 v355 v357 v359) Φ) := by
  rw [k0_part12_eq_skeleton]
  unfold k0_part12_skel
  simp only [semSignalWord, semWaitWord, Prog.lift, Prog.bind_op, Prog.bind_ret, Prog.pure_eq_ret, wp_deviceId]
  iintro ⟨#HC, W, O⟩ Hk
  icases W with ⟨Wa, Wc⟩
  iapply (wait_bar X K 𝒱) $$ [Wa Wc O]
  · isplitr; · iexact HC
    isplitl [Wa]; · iexact Wa
    isplitl [Wc]; · iexact Wc
    iexact O
  iintro ⟨W, O, Yf, Yt⟩
  iapply ret_intro
  iapply Hk $$ %_
  isplitl [W]; · iexact W
  isplitl [O]; · iexact O
  isplitl [Yf]; · iexact Yf
  iexact Yt

theorem part13 (v4 : BitVec 32) {Φ : _ → sProp 𝕄} :
    iprop(Ctx X K c ∗ C1 X false 0 c ∗ Ow c 16 ∗ C1 X true 0 c ∗ Ids X c ∗ Efull X 1 7 c ∗ Efly X 0 0 (by decide) c)
      ⊢ iprop((iprop(C2 X false 0 c ∗ Ow c 14 ∗ C2 X true 0 c ∗ Ids X c ∗ Efly X 1 1 (by decide) c ∗ Efull X 0 0 c) -∗ Φ ⟨k0_pay16 (lid X c 1), k0_pay17, k0_pay18 (lid X c 1)⟩) -∗ wp frame (wpE defs 𝒱 c none) Set.univ (k0_part13 (F := F) idsM h0 EM h1 outM h2 (accM false) h3 (accM true) h4 ebM h5 (r1M false) h6 (r1M true) h7 (r2M false) h8 (r2M true) h9 cc0_scratch7 cc0_scratch8 cc0_scratch9 c v4) Φ) := by
  rw [k0_part13_eq_skeleton]
  unfold k0_part13_skel
  simp only [semSignalWord, semWaitWord, Prog.lift, Prog.bind_op, Prog.bind_ret, Prog.pure_eq_ret, wp_deviceId]
  iintro ⟨#HC, Cf0, O, Ct0, I, E1, E0⟩ Hk
  iapply (c_s1 X K 𝒱 false 0 15 rfl (by decide) (off1_256 c) (dev3_eq c) rfl rfl) $$ [Cf0 O]
  · isplitr; · iexact HC
    isplitl [Cf0]; · iexact Cf0
    iexact O
  iintro ⟨Cf0, O⟩
  iapply (c_s1 X K 𝒱 true 0 14 rfl (by decide) (off2_256 c) (dev4_eq c) rfl rfl) $$ [Ct0 O]
  · isplitr; · iexact HC
    isplitl [Ct0]; · iexact Ct0
    iexact O
  iintro ⟨Ct0, O⟩
  iapply (ld_ids X 𝒱 1 rfl) $$ I
  iintro I
  ihave E1 := Efull_free X $$ E1
  iapply (copy_E X 𝒱 1 1 (by decide) rfl rfl rfl) $$ E1
  iintro E1
  iapply (wait_E X K 𝒱 0 0 14 (by decide) (by decide) (dst := ebS 0) rfl rfl) $$ [E0 O]
  · isplitr; · iexact HC
    isplitl [E0]; · iexact E0
    iexact O
  iintro ⟨E0, O⟩
  iapply ret_intro
  iapply Hk
  isplitl [Cf0]; · iexact Cf0
  isplitl [O]; · iexact O
  isplitl [Ct0]; · iexact Ct0
  isplitl [I]; · iexact I
  isplitl [E1]; · iexact E1
  iexact E0

theorem part14  {Φ : _ → sProp 𝕄} :
    iprop(Ctx X K c ∗ Efull X 0 0 c ∗ any outM c (oRows 1) ∗ Efly X 1 1 (by decide) c ∗ Ow c 14)
      ⊢ iprop((∀ e, ⌜e = psum X c 1 1⌝ -∗ iprop(Efly X 0 2 (by decide) c ∗ OutP X 1 0 c ∗ Efull X 1 1 c ∗ Ow c 14) -∗ Φ e) -∗ wp frame (wpE defs 𝒱 c none) Set.univ (k0_part14 (F := F) idsM h0 EM h1 outM h2 (accM false) h3 (accM true) h4 ebM h5 (r1M false) h6 (r1M true) h7 (r2M false) h8 (r2M true) h9 cc0_scratch7 cc0_scratch8 cc0_scratch9 (k0_pay16 (lid X c 1)) k0_pay17 (k0_pay18 (lid X c 1))) Φ) := by
  rw [k0_part14_eq_skeleton]
  unfold k0_part14_skel
  simp only [semSignalWord, semWaitWord, Prog.lift, Prog.bind_op, Prog.bind_ret, Prog.pure_eq_ret, wp_deviceId]
  iintro ⟨#HC, E0, R1, E1, O⟩ Hk
  iapply (ld_E X 𝒱 0 0) $$ E0
  iintro %u431 %hu431 E0
  iapply (ld_any' 𝒱 1 rfl) $$ R1
  iintro %u434 R1
  iapply (st_out' X 𝒱 1 0 rfl ?_) $$ R1
  · simp only [k0_pay19, k0_pay17, k0_pay18, hu431, shapeCast_self]; try rfl
  iintro R1
  ihave E0 := Efull_free X $$ E0
  iapply (copy_E X 𝒱 0 2 (by decide) rfl rfl rfl) $$ E0
  iintro E0
  iapply (wait_E X K 𝒱 1 1 14 (by decide) (by decide) (dst := ebS 1) rfl rfl) $$ [E1 O]
  · isplitr; · iexact HC
    isplitl [E1]; · iexact E1
    iexact O
  iintro ⟨E1, O⟩
  iapply (ld_E X 𝒱 1 1) $$ E1
  iintro %u452 %hu452 E1
  iapply (ld_out X 𝒱 1 0 rfl) $$ R1
  iintro R1
  iapply ret_intro
  iapply Hk $$ %_ %(by simp only [k0_pay20, hu431, hu452, shapeCast_self]; try rfl)
  isplitl [E0]; · iexact E0
  isplitl [R1]; · iexact R1
  isplitl [E1]; · iexact E1
  iexact O

theorem part15  {Φ : _ → sProp 𝕄} :
    iprop(Ctx X K c ∗ OutP X 1 0 c ∗ Efull X 1 1 c ∗ Efly X 0 2 (by decide) c ∗ Ow c 14)
      ⊢ iprop((iprop(OutP X 1 2 c ∗ Efly X 1 3 (by decide) c ∗ Efull X 0 2 c ∗ Ow c 14) -∗ Φ ⟨⟩) -∗ wp frame (wpE defs 𝒱 c none) Set.univ (k0_part15 (F := F) idsM h0 EM h1 outM h2 (accM false) h3 (accM true) h4 ebM h5 (r1M false) h6 (r1M true) h7 (r2M false) h8 (r2M true) h9 cc0_scratch7 cc0_scratch8 cc0_scratch9 (k0_pay16 (lid X c 1)) (psum X c 1 1)) Φ) := by
  rw [k0_part15_eq_skeleton]
  unfold k0_part15_skel
  simp only [semSignalWord, semWaitWord, Prog.lift, Prog.bind_op, Prog.bind_ret, Prog.pure_eq_ret, wp_deviceId]
  iintro ⟨#HC, R1, E1, E0, O⟩ Hk
  iapply (ld_out X 𝒱 1 0 rfl) $$ R1
  iintro R1
  iapply (st_out X 𝒱 1 1 rfl ?_) $$ R1
  · rfl
  iintro R1
  ihave E1 := Efull_free X $$ E1
  iapply (copy_E X 𝒱 1 3 (by decide) rfl rfl rfl) $$ E1
  iintro E1
  iapply (wait_E X K 𝒱 0 2 14 (by decide) (by decide) (dst := ebS 0) rfl rfl) $$ [E0 O]
  · isplitr; · iexact HC
    isplitl [E0]; · iexact E0
    iexact O
  iintro ⟨E0, O⟩
  iapply (ld_E X 𝒱 0 2) $$ E0
  iintro %u476 %hu476 E0
  iapply (ld_out X 𝒱 1 1 rfl) $$ R1
  iintro R1
  iapply (ld_out X 𝒱 1 1 rfl) $$ R1
  iintro R1
  iapply (st_out X 𝒱 1 2 rfl ?_) $$ R1
  · simp only [k0_pay21, hu476, shapeCast_self]; try rfl
  iintro R1
  iapply ret_intro
  iapply Hk
  isplitl [R1]; · iexact R1
  isplitl [E1]; · iexact E1
  isplitl [E0]; · iexact E0
  iexact O

theorem part16  {Φ : _ → sProp 𝕄} :
    iprop(Ctx X K c ∗ Efull X 0 2 c ∗ Efly X 1 3 (by decide) c ∗ Ow c 14 ∗ OutP X 1 2 c)
      ⊢ iprop((iprop(Efly X 0 4 (by decide) c ∗ Efly X 1 5 (by decide) c ∗ Ow c 14 ∗ OutP X 1 3 c) -∗ Φ ⟨⟩) -∗ wp frame (wpE defs 𝒱 c none) Set.univ (k0_part16 (F := F) idsM h0 EM h1 outM h2 (accM false) h3 (accM true) h4 ebM h5 (r1M false) h6 (r1M true) h7 (r2M false) h8 (r2M true) h9 cc0_scratch7 cc0_scratch8 cc0_scratch9 (k0_pay16 (lid X c 1))) Φ) := by
  rw [k0_part16_eq_skeleton]
  unfold k0_part16_skel
  simp only [semSignalWord, semWaitWord, Prog.lift, Prog.bind_op, Prog.bind_ret, Prog.pure_eq_ret, wp_deviceId]
  iintro ⟨#HC, E0, E1, O, R1⟩ Hk
  ihave E0 := Efull_free X $$ E0
  iapply (copy_E X 𝒱 0 4 (by decide) rfl rfl rfl) $$ E0
  iintro E0
  iapply (wait_E X K 𝒱 1 3 14 (by decide) (by decide) (dst := ebS 1) rfl rfl) $$ [E1 O]
  · isplitr; · iexact HC
    isplitl [E1]; · iexact E1
    iexact O
  iintro ⟨E1, O⟩
  iapply (ld_E X 𝒱 1 3) $$ E1
  iintro %u500 %hu500 E1
  iapply (ld_out X 𝒱 1 2 rfl) $$ R1
  iintro R1
  iapply (ld_out X 𝒱 1 2 rfl) $$ R1
  iintro R1
  iapply (st_out X 𝒱 1 3 rfl ?_) $$ R1
  · simp only [k0_pay22, hu500, shapeCast_self]; try rfl
  iintro R1
  ihave E1 := Efull_free X $$ E1
  iapply (copy_E X 𝒱 1 5 (by decide) rfl rfl rfl) $$ E1
  iintro E1
  iapply ret_intro
  iapply Hk
  isplitl [E0]; · iexact E0
  isplitl [E1]; · iexact E1
  isplitl [O]; · iexact O
  iexact R1

theorem part17  {Φ : _ → sProp 𝕄} :
    iprop(Ctx X K c ∗ Efly X 0 4 (by decide) c ∗ Ow c 14 ∗ OutP X 1 3 c ∗ Efly X 1 5 (by decide) c)
      ⊢ iprop((iprop(Efly X 0 6 (by decide) c ∗ Ow c 14 ∗ OutP X 1 4 c ∗ Efull X 1 5 c) -∗ Φ (k0_pay24 (k0_pay16 (lid X c 1)))) -∗ wp frame (wpE defs 𝒱 c none) Set.univ (k0_part17 (F := F) idsM h0 EM h1 outM h2 (accM false) h3 (accM true) h4 ebM h5 (r1M false) h6 (r1M true) h7 (r2M false) h8 (r2M true) h9 cc0_scratch7 cc0_scratch8 cc0_scratch9 (k0_pay16 (lid X c 1))) Φ) := by
  rw [k0_part17_eq_skeleton]
  unfold k0_part17_skel
  simp only [semSignalWord, semWaitWord, Prog.lift, Prog.bind_op, Prog.bind_ret, Prog.pure_eq_ret, wp_deviceId]
  iintro ⟨#HC, E0, O, R1, E1⟩ Hk
  iapply (wait_E X K 𝒱 0 4 14 (by decide) (by decide) (dst := ebS 0) rfl rfl) $$ [E0 O]
  · isplitr; · iexact HC
    isplitl [E0]; · iexact E0
    iexact O
  iintro ⟨E0, O⟩
  iapply (ld_E X 𝒱 0 4) $$ E0
  iintro %u524 %hu524 E0
  iapply (ld_out X 𝒱 1 3 rfl) $$ R1
  iintro R1
  iapply (ld_out X 𝒱 1 3 rfl) $$ R1
  iintro R1
  iapply (st_out X 𝒱 1 4 rfl ?_) $$ R1
  · simp only [k0_pay23, hu524, shapeCast_self]; try rfl
  iintro R1
  ihave E0 := Efull_free X $$ E0
  iapply (copy_E X 𝒱 0 6 (by decide) rfl rfl rfl) $$ E0
  iintro E0
  iapply (wait_E X K 𝒱 1 5 14 (by decide) (by decide) (dst := ebS 1) rfl rfl) $$ [E1 O]
  · isplitr; · iexact HC
    isplitl [E1]; · iexact E1
    iexact O
  iintro ⟨E1, O⟩
  iapply ret_intro
  iapply Hk
  isplitl [E0]; · iexact E0
  isplitl [O]; · iexact O
  isplitl [R1]; · iexact R1
  iexact E1

theorem part18  {Φ : _ → sProp 𝕄} :
    iprop(Ctx X K c ∗ Efull X 1 5 c ∗ OutP X 1 4 c ∗ Efly X 0 6 (by decide) c ∗ Ow c 14)
      ⊢ iprop((∀ e, ⌜e = psum X c 1 6⌝ -∗ iprop(Efly X 1 7 (by decide) c ∗ OutP X 1 5 c ∗ Efull X 0 6 c ∗ Ow c 14) -∗ Φ e) -∗ wp frame (wpE defs 𝒱 c none) Set.univ (k0_part18 (F := F) idsM h0 EM h1 outM h2 (accM false) h3 (accM true) h4 ebM h5 (r1M false) h6 (r1M true) h7 (r2M false) h8 (r2M true) h9 cc0_scratch7 cc0_scratch8 cc0_scratch9 (k0_pay16 (lid X c 1)) (k0_pay24 (k0_pay16 (lid X c 1)))) Φ) := by
  rw [k0_part18_eq_skeleton]
  unfold k0_part18_skel
  simp only [semSignalWord, semWaitWord, Prog.lift, Prog.bind_op, Prog.bind_ret, Prog.pure_eq_ret, wp_deviceId]
  iintro ⟨#HC, E1, R1, E0, O⟩ Hk
  iapply (ld_E X 𝒱 1 5) $$ E1
  iintro %u548 %hu548 E1
  iapply (ld_out X 𝒱 1 4 rfl) $$ R1
  iintro R1
  iapply (ld_out X 𝒱 1 4 rfl) $$ R1
  iintro R1
  iapply (st_out X 𝒱 1 5 rfl ?_) $$ R1
  · simp only [k0_pay25, k0_pay24, hu548, shapeCast_self]; try rfl
  iintro R1
  ihave E1 := Efull_free X $$ E1
  iapply (copy_E X 𝒱 1 7 (by decide) rfl rfl rfl) $$ E1
  iintro E1
  iapply (wait_E X K 𝒱 0 6 14 (by decide) (by decide) (dst := ebS 0) rfl rfl) $$ [E0 O]
  · isplitr; · iexact HC
    isplitl [E0]; · iexact E0
    iexact O
  iintro ⟨E0, O⟩
  iapply (ld_E X 𝒱 0 6) $$ E0
  iintro %u572 %hu572 E0
  iapply (ld_out X 𝒱 1 5 rfl) $$ R1
  iintro R1
  iapply ret_intro
  iapply Hk $$ %_ %(by simp only [k0_pay26, hu548, hu572, shapeCast_self]; try rfl)
  isplitl [E1]; · iexact E1
  isplitl [R1]; · iexact R1
  isplitl [E0]; · iexact E0
  iexact O

theorem part19  {Φ : _ → sProp 𝕄} :
    iprop(Ctx X K c ∗ OutP X 1 5 c ∗ Efly X 1 7 (by decide) c ∗ Ow c 14 ∗ any (accM false) c (Gs 1) ∗ any (accM true) c (Gs 1))
      ⊢ iprop((iprop(OutP X 1 7 c ∗ Efull X 1 7 c ∗ Ow c 14 ∗ pts (accM false) c (Gs 1) full (A0 X false c) ∗ pts (accM true) c (Gs 1) full (A0 X true c)) -∗ Φ ⟨⟩) -∗ wp frame (wpE defs 𝒱 c none) Set.univ (k0_part19 (F := F) idsM h0 EM h1 outM h2 (accM false) h3 (accM true) h4 ebM h5 (r1M false) h6 (r1M true) h7 (r2M false) h8 (r2M true) h9 cc0_scratch7 cc0_scratch8 cc0_scratch9 (k0_pay16 (lid X c 1)) (psum X c 1 6)) Φ) := by
  rw [k0_part19_eq_skeleton]
  unfold k0_part19_skel
  simp only [semSignalWord, semWaitWord, Prog.lift, Prog.bind_op, Prog.bind_ret, Prog.pure_eq_ret, wp_deviceId]
  iintro ⟨#HC, R1, E1, O, Af1, At1⟩ Hk
  iapply (ld_out X 𝒱 1 5 rfl) $$ R1
  iintro R1
  iapply (st_out X 𝒱 1 6 rfl ?_) $$ R1
  · rfl
  iintro R1
  iapply (wait_E X K 𝒱 1 7 14 (by decide) (by decide) (dst := ebS 1) rfl rfl) $$ [E1 O]
  · isplitr; · iexact HC
    isplitl [E1]; · iexact E1
    iexact O
  iintro ⟨E1, O⟩
  iapply (ld_E X 𝒱 1 7) $$ E1
  iintro %u591 %hu591 E1
  iapply (ld_out X 𝒱 1 6 rfl) $$ R1
  iintro R1
  iapply (ld_out X 𝒱 1 6 rfl) $$ R1
  iintro R1
  iapply (st_out X 𝒱 1 7 rfl ?_) $$ R1
  · simp only [k0_pay27, hu591, shapeCast_self]; try rfl
  iintro R1
  iapply (ld_half 𝒱 false 1 rfl) $$ R1
  iintro R1
  iapply (ld_accG 𝒱 false 1 rfl) $$ Af1
  iintro %u601 Af1
  iapply (st_accG X 𝒱 false 1 rfl ?_) $$ Af1
  · simp only [k0_pay28, shapeCast_self]; exact (A0_sub X false 1 rfl)
  iintro Af1
  iapply (ld_half 𝒱 true 1 rfl) $$ R1
  iintro R1
  iapply (ld_accG 𝒱 true 1 rfl) $$ At1
  iintro %u607 At1
  iapply (st_accG X 𝒱 true 1 rfl ?_) $$ At1
  · simp only [k0_pay29, shapeCast_self]; exact (A0_sub X true 1 rfl)
  iintro At1
  iapply ret_intro
  iapply Hk
  isplitl [R1]; · iexact R1
  isplitl [E1]; · iexact E1
  isplitl [O]; · iexact O
  isplitl [Af1]; · iexact Af1
  iexact At1

end Parts

end Cert.KP
-- ==== Proof.BodyC.lean ====
/-
The kernel's parts 20 to 27: the exchanges.
-/
module

public import proofs.«01_k».proof.Proof.BodyA

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : In F) (K : GSem nD τ sig → ℕ)

section Parts

variable {defs : Defs nD τ sig (Elt F) Λ₀} (𝒱 : Variants) {c : Dev nD}
variable {h0 : (idsM).IsWhole} {h1 : (EM).IsWhole} {h2 : (outM).IsWhole} {h3 : (accM false).IsWhole} {h4 : (accM true).IsWhole}
  {h5 : (ebM).IsWhole} {h6 : (r1M false).IsWhole} {h7 : (r1M true).IsWhole} {h8 : (r2M false).IsWhole} {h9 : (r2M true).IsWhole}

theorem part20 (v3 : BitVec 32) (v4 : BitVec 32) (v236 : BitVec 32) (v264 : BitVec 32) {Φ : _ → sProp 𝕄} :
    iprop(Ctx X K c ∗ C2 X false 0 c ∗ Ow c 14 ∗ C2 X true 0 c)
      ⊢ iprop((∀ e, ⌜e = sub (ho true 0 c) (A1 X true c)⌝ -∗ iprop(C4 X false 0 c ∗ Ow c 14 ∗ C3 X true 0 c) -∗ Φ e) -∗ wp frame (wpE defs 𝒱 c none) Set.univ (k0_part20 (F := F) idsM h0 EM h1 outM h2 (accM false) h3 (accM true) h4 ebM h5 (r1M false) h6 (r1M true) h7 (r2M false) h8 (r2M true) h9 cc0_scratch7 cc0_scratch8 cc0_scratch9 c v3 v4 v236 v264) Φ) := by
  rw [k0_part20_eq_skeleton]
  unfold k0_part20_skel
  simp only [semSignalWord, semWaitWord, Prog.lift, Prog.bind_op, Prog.bind_ret, Prog.pure_eq_ret, wp_deviceId]
  iintro ⟨#HC, Cf0, O, Ct0⟩ Hk
  iapply (c_w0 X K 𝒱 false 0 14 (by decide) rfl) $$ [Cf0 O]
  · isplitr; · iexact HC
    isplitl [Cf0]; · iexact Cf0
    iexact O
  iintro ⟨Cf0, O⟩
  iapply (c3_ld X 𝒱 false 0 (off3_0 c)) $$ Cf0
  iintro Cf0
  iapply (c3_slot X 𝒱 false 0) $$ Cf0
  iintro %u619 %hu619 Cf0
  iapply (c3_ld X 𝒱 false 0 (off3_0 c)) $$ Cf0
  iintro Cf0
  iapply (c3_st X 𝒱 false 0 (off3_0 c) ?_) $$ Cf0
  · simp only [k0_pay30, hu619, shapeCast_self]; try rfl
  iintro Cf0
  iapply (c_w0 X K 𝒱 true 0 14 (by decide) rfl) $$ [Ct0 O]
  · isplitr; · iexact HC
    isplitl [Ct0]; · iexact Ct0
    iexact O
  iintro ⟨Ct0, O⟩
  iapply (c3_ld X 𝒱 true 0 (off4_0 c)) $$ Ct0
  iintro Ct0
  iapply (c3_slot X 𝒱 true 0) $$ Ct0
  iintro %u635 %hu635 Ct0
  iapply (c3_ld X 𝒱 true 0 (off4_0 c)) $$ Ct0
  iintro Ct0
  iapply ret_intro
  iapply Hk $$ %_ %(by simp only [k0_pay31, hu619, hu635, shapeCast_self]; try rfl)
  isplitl [Cf0]; · iexact Cf0
  isplitl [O]; · iexact O
  iexact Ct0

theorem part21 (v3 : BitVec 32) (v4 : BitVec 32) {Φ : _ → sProp 𝕄} :
    iprop(Ctx X K c ∗ C3 X true 0 c ∗ C4 X false 0 c ∗ Ow c 14 ∗ C1 X false 1 c)
      ⊢ iprop((∀ r, iprop(C5 X true 0 c ∗ C5 X false 0 c ∗ Ow c 11 ∗ C2 X false 1 c) -∗ Φ r) -∗ wp frame (wpE defs 𝒱 c none) Set.univ (k0_part21 (F := F) idsM h0 EM h1 outM h2 (accM false) h3 (accM true) h4 ebM h5 (r1M false) h6 (r1M true) h7 (r2M false) h8 (r2M true) h9 cc0_scratch7 cc0_scratch8 cc0_scratch9 c v3 v4 (sub (ho true 0 c) (A1 X true c))) Φ) := by
  rw [k0_part21_eq_skeleton]
  unfold k0_part21_skel
  simp only [semSignalWord, semWaitWord, Prog.lift, Prog.bind_op, Prog.bind_ret, Prog.pure_eq_ret, wp_deviceId]
  iintro ⟨#HC, Ct0, Cf0, O, Cf1⟩ Hk
  iapply (c3_st X 𝒱 true 0 (off4_0 c) ?_) $$ Ct0
  · simp only [k0_pay32, shapeCast_self]; try rfl
  iintro Ct0
  iapply (c_s2 X K 𝒱 false 0 13 rfl (by decide) (off5_0 c) (dev5_eq c) rfl rfl) $$ [Cf0 O]
  · isplitr; · iexact HC
    isplitl [Cf0]; · iexact Cf0
    iexact O
  iintro ⟨Cf0, O⟩
  iapply (c_s2 X K 𝒱 true 0 12 rfl (by decide) (off6_0 c) (dev6_eq c) rfl rfl) $$ [Ct0 O]
  · isplitr; · iexact HC
    isplitl [Ct0]; · iexact Ct0
    iexact O
  iintro ⟨Ct0, O⟩
  iapply (c_s1 X K 𝒱 false 1 11 rfl (by decide) (off1_768 c) (dev7_eq c) rfl rfl) $$ [Cf1 O]
  · isplitr; · iexact HC
    isplitl [Cf1]; · iexact Cf1
    iexact O
  iintro ⟨Cf1, O⟩
  iapply ret_intro
  iapply Hk $$ %_
  isplitl [Ct0]; · iexact Ct0
  isplitl [Cf0]; · iexact Cf0
  isplitl [O]; · iexact O
  iexact Cf1

theorem part22 (v3 : BitVec 32) (v4 : BitVec 32) (v257 : BitVec 32) (c1_i32_502 : BitVec 32) {Φ : _ → sProp 𝕄} :
    iprop(Ctx X K c ∗ C1 X true 1 c ∗ Ow c 11 ∗ C5 X false 0 c)
      ⊢ iprop((iprop(C2 X true 1 c ∗ Ow c 10 ∗ C7 X false 0 c) -∗ Φ ⟨⟩) -∗ wp frame (wpE defs 𝒱 c none) Set.univ (k0_part22 (F := F) idsM h0 EM h1 outM h2 (accM false) h3 (accM true) h4 ebM h5 (r1M false) h6 (r1M true) h7 (r2M false) h8 (r2M true) h9 cc0_scratch7 cc0_scratch8 cc0_scratch9 c v3 v4 v257 c1_i32_502) Φ) := by
  rw [k0_part22_eq_skeleton]
  unfold k0_part22_skel
  simp only [semSignalWord, semWaitWord, Prog.lift, Prog.bind_op, Prog.bind_ret, Prog.pure_eq_ret, wp_deviceId]
  iintro ⟨#HC, Ct1, O, Cf0⟩ Hk
  iapply (c_s1 X K 𝒱 true 1 10 rfl (by decide) (off2_768 c) (dev8_eq c) rfl rfl) $$ [Ct1 O]
  · isplitr; · iexact HC
    isplitl [Ct1]; · iexact Ct1
    iexact O
  iintro ⟨Ct1, O⟩
  iapply (c_w1 X K 𝒱 false 0 10 (by decide) rfl) $$ [Cf0 O]
  · isplitr; · iexact HC
    isplitl [Cf0]; · iexact Cf0
    iexact O
  iintro ⟨Cf0, O⟩
  iapply (c6_ld X 𝒱 false 0 (off7_0 c)) $$ Cf0
  iintro Cf0
  iapply (c6_slot X 𝒱 false 0) $$ Cf0
  iintro %u687 %hu687 Cf0
  iapply (c6_ld X 𝒱 false 0 (off7_0 c)) $$ Cf0
  iintro Cf0
  iapply (c6_st X 𝒱 false 0 (off7_0 c) ?_) $$ Cf0
  · simp only [k0_pay33, hu687, shapeCast_self]; try rfl
  iintro Cf0
  iapply ret_intro
  iapply Hk
  isplitl [Ct1]; · iexact Ct1
  isplitl [O]; · iexact O
  iexact Cf0

theorem part23 (v3 : BitVec 32) (v4 : BitVec 32) (v285 : BitVec 32) {Φ : _ → sProp 𝕄} :
    iprop(Ctx X K c ∗ C5 X true 0 c ∗ Ow c 10 ∗ C7 X false 0 c)
      ⊢ iprop((iprop(C8 X true 0 c ∗ Ow c 8 ∗ C8 X false 0 c) -∗ Φ ⟨⟩) -∗ wp frame (wpE defs 𝒱 c none) Set.univ (k0_part23 (F := F) idsM h0 EM h1 outM h2 (accM false) h3 (accM true) h4 ebM h5 (r1M false) h6 (r1M true) h7 (r2M false) h8 (r2M true) h9 cc0_scratch7 cc0_scratch8 cc0_scratch9 c v3 v4 v285) Φ) := by
  rw [k0_part23_eq_skeleton]
  unfold k0_part23_skel
  simp only [semSignalWord, semWaitWord, Prog.lift, Prog.bind_op, Prog.bind_ret, Prog.pure_eq_ret, wp_deviceId]
  iintro ⟨#HC, Ct0, O, Cf0⟩ Hk
  iapply (c_w1 X K 𝒱 true 0 10 (by decide) rfl) $$ [Ct0 O]
  · isplitr; · iexact HC
    isplitl [Ct0]; · iexact Ct0
    iexact O
  iintro ⟨Ct0, O⟩
  iapply (c6_ld X 𝒱 true 0 (off8_0 c)) $$ Ct0
  iintro Ct0
  iapply (c6_slot X 𝒱 true 0) $$ Ct0
  iintro %u703 %hu703 Ct0
  iapply (c6_ld X 𝒱 true 0 (off8_0 c)) $$ Ct0
  iintro Ct0
  iapply (c6_st X 𝒱 true 0 (off8_0 c) ?_) $$ Ct0
  · simp only [k0_pay34, hu703, shapeCast_self]; try rfl
  iintro Ct0
  iapply (c_s3 X K 𝒱 false 0 9 rfl (by decide) (off9_0 c) (off9_0 c) (dev9_eq c) rfl rfl) $$ [Cf0 O]
  · isplitr; · iexact HC
    isplitl [Cf0]; · iexact Cf0
    iexact O
  iintro ⟨Cf0, O⟩
  iapply (c_s3 X K 𝒱 true 0 8 rfl (by decide) (off10_0 c) (off10_0 c) (dev10_eq c) rfl rfl) $$ [Ct0 O]
  · isplitr; · iexact HC
    isplitl [Ct0]; · iexact Ct0
    iexact O
  iintro ⟨Ct0, O⟩
  iapply ret_intro
  iapply Hk
  isplitl [Ct0]; · iexact Ct0
  isplitl [O]; · iexact O
  iexact Cf0

theorem part24 (v4 : BitVec 32) (v324 : BitVec 32) (v352 : BitVec 32) {Φ : _ → sProp 𝕄} :
    iprop(Ctx X K c ∗ C2 X false 1 c ∗ Ow c 8 ∗ C2 X true 1 c)
      ⊢ iprop((iprop(C4 X false 1 c ∗ Ow c 8 ∗ C4 X true 1 c) -∗ Φ ⟨⟩) -∗ wp frame (wpE defs 𝒱 c none) Set.univ (k0_part24 (F := F) idsM h0 EM h1 outM h2 (accM false) h3 (accM true) h4 ebM h5 (r1M false) h6 (r1M true) h7 (r2M false) h8 (r2M true) h9 cc0_scratch7 cc0_scratch8 cc0_scratch9 c v4 v324 v352) Φ) := by
  rw [k0_part24_eq_skeleton]
  unfold k0_part24_skel
  simp only [semSignalWord, semWaitWord, Prog.lift, Prog.bind_op, Prog.bind_ret, Prog.pure_eq_ret, wp_deviceId]
  iintro ⟨#HC, Cf1, O, Ct1⟩ Hk
  iapply (c_w0 X K 𝒱 false 1 8 (by decide) rfl) $$ [Cf1 O]
  · isplitr; · iexact HC
    isplitl [Cf1]; · iexact Cf1
    iexact O
  iintro ⟨Cf1, O⟩
  iapply (c3_ld X 𝒱 false 1 (off3_512 c)) $$ Cf1
  iintro Cf1
  iapply (c3_slot X 𝒱 false 1) $$ Cf1
  iintro %u735 %hu735 Cf1
  iapply (c3_ld X 𝒱 false 1 (off3_512 c)) $$ Cf1
  iintro Cf1
  iapply (c3_st X 𝒱 false 1 (off3_512 c) ?_) $$ Cf1
  · simp only [k0_pay35, hu735, shapeCast_self]; try rfl
  iintro Cf1
  iapply (c_w0 X K 𝒱 true 1 8 (by decide) rfl) $$ [Ct1 O]
  · isplitr; · iexact HC
    isplitl [Ct1]; · iexact Ct1
    iexact O
  iintro ⟨Ct1, O⟩
  iapply (c3_ld X 𝒱 true 1 (off4_512 c)) $$ Ct1
  iintro Ct1
  iapply (c3_slot X 𝒱 true 1) $$ Ct1
  iintro %u751 %hu751 Ct1
  iapply (c3_ld X 𝒱 true 1 (off4_512 c)) $$ Ct1
  iintro Ct1
  iapply (c3_st X 𝒱 true 1 (off4_512 c) ?_) $$ Ct1
  · simp only [k0_pay36, hu735, hu751, shapeCast_self]; try rfl
  iintro Ct1
  iapply ret_intro
  iapply Hk
  isplitl [Cf1]; · iexact Cf1
  isplitl [O]; · iexact O
  iexact Ct1

theorem part25 (v3 : BitVec 32) (v4 : BitVec 32) {Φ : _ → sProp 𝕄} :
    iprop(Ctx X K c ∗ C4 X false 1 c ∗ Ow c 8 ∗ C4 X true 1 c ∗ C8 X false 0 c ∗ C8 X true 0 c)
      ⊢ iprop((iprop(C5 X false 1 c ∗ Ow c 6 ∗ C5 X true 1 c ∗ C9 X false 0 c ∗ C9 X true 0 c) -∗ Φ ⟨⟩) -∗ wp frame (wpE defs 𝒱 c none) Set.univ (k0_part25 (F := F) idsM h0 EM h1 outM h2 (accM false) h3 (accM true) h4 ebM h5 (r1M false) h6 (r1M true) h7 (r2M false) h8 (r2M true) h9 cc0_scratch7 cc0_scratch8 cc0_scratch9 c v3 v4) Φ) := by
  rw [k0_part25_eq_skeleton]
  unfold k0_part25_skel
  simp only [semSignalWord, semWaitWord, Prog.lift, Prog.bind_op, Prog.bind_ret, Prog.pure_eq_ret, wp_deviceId]
  iintro ⟨#HC, Cf1, O, Ct1, Cf0, Ct0⟩ Hk
  iapply (c_s2 X K 𝒱 false 1 7 rfl (by decide) (off5_512 c) (dev11_eq c) rfl rfl) $$ [Cf1 O]
  · isplitr; · iexact HC
    isplitl [Cf1]; · iexact Cf1
    iexact O
  iintro ⟨Cf1, O⟩
  iapply (c_s2 X K 𝒱 true 1 6 rfl (by decide) (off6_512 c) (dev12_eq c) rfl rfl) $$ [Ct1 O]
  · isplitr; · iexact HC
    isplitl [Ct1]; · iexact Ct1
    iexact O
  iintro ⟨Ct1, O⟩
  iapply (c_w2 X K 𝒱 false 0 6 (by decide) rfl) $$ [Cf0 O]
  · isplitr; · iexact HC
    isplitl [Cf0]; · iexact Cf0
    iexact O
  iintro ⟨Cf0, O⟩
  iapply (c_w2 X K 𝒱 true 0 6 (by decide) rfl) $$ [Ct0 O]
  · isplitr; · iexact HC
    isplitl [Ct0]; · iexact Ct0
    iexact O
  iintro ⟨Ct0, O⟩
  iapply ret_intro
  iapply Hk
  isplitl [Cf1]; · iexact Cf1
  isplitl [O]; · iexact O
  isplitl [Ct1]; · iexact Ct1
  isplitl [Cf0]; · iexact Cf0
  iexact Ct0

theorem part26 (v4 : BitVec 32) (v236 : BitVec 32) (v264 : BitVec 32) (v345 : BitVec 32) {Φ : _ → sProp 𝕄} :
    iprop(Ctx X K c ∗ C9 X false 0 c ∗ Ow c 6 ∗ C9 X true 0 c ∗ pts outM c (oBlk false 0 c) full (psO X c 0 7) ∗ pts outM c (oBlk true 0 c) full (psO X c 0 7) ∗ C5 X false 1 c)
      ⊢ iprop((∀ e, ⌜e = sub (qo false 1 c) (A1 X false (P true c))⌝ -∗ iprop(C10 X false 0 c ∗ Ow c 4 ∗ C10 X true 0 c ∗ pts outM c (oBlk false 0 c) full (OutF X) ∗ pts outM c (oBlk true 0 c) full (OutF X) ∗ C6 X false 1 c) -∗ Φ ⟨sub (qo false 1 c) (A1 X false c), e⟩) -∗ wp frame (wpE defs 𝒱 c none) Set.univ (k0_part26 (F := F) idsM h0 EM h1 outM h2 (accM false) h3 (accM true) h4 ebM h5 (r1M false) h6 (r1M true) h7 (r2M false) h8 (r2M true) h9 cc0_scratch7 cc0_scratch8 cc0_scratch9 c v4 v236 v264 v345) Φ) := by
  rw [k0_part26_eq_skeleton]
  unfold k0_part26_skel
  simp only [semSignalWord, semWaitWord, Prog.lift, Prog.bind_op, Prog.bind_ret, Prog.pure_eq_ret, wp_deviceId]
  iintro ⟨#HC, Cf0, O, Ct0, Bf0o, Bt0o, Cf1⟩ Hk
  iapply (c_s4 X K 𝒱 false 0 5 rfl (by decide) (off11_0 c) (off11_0 c) (dev13_eq c) rfl rfl) $$ [Cf0 O]
  · isplitr; · iexact HC
    isplitl [Cf0]; · iexact Cf0
    iexact O
  iintro ⟨Cf0, O⟩
  iapply (c_s4 X K 𝒱 true 0 4 rfl (by decide) (off12_0 c) (off12_0 c) (dev14_eq c) rfl rfl) $$ [Ct0 O]
  · isplitr; · iexact HC
    isplitl [Ct0]; · iexact Ct0
    iexact O
  iintro ⟨Ct0, O⟩
  iapply (c10_ld X 𝒱 false 0 (off3_0 c)) $$ Cf0
  iintro Cf0
  iapply (ld_blk 𝒱 false 0 c (off13_0 c)) $$ Bf0o
  iintro %u808 Bf0o
  iapply (st_blk X 𝒱 false 0 c (off13_0 c) ?_) $$ Bf0o
  · simp only [k0_pay37, shapeCast_self]; try rfl
  iintro Bf0o
  iapply (c10_ld X 𝒱 true 0 (off4_0 c)) $$ Ct0
  iintro Ct0
  iapply (ld_blk 𝒱 true 0 c (off14_0 c)) $$ Bt0o
  iintro %u813 Bt0o
  iapply (st_blk X 𝒱 true 0 c (off14_0 c) ?_) $$ Bt0o
  · simp only [k0_pay38, shapeCast_self]; try rfl
  iintro Bt0o
  iapply (c_w1 X K 𝒱 false 1 4 (by decide) rfl) $$ [Cf1 O]
  · isplitr; · iexact HC
    isplitl [Cf1]; · iexact Cf1
    iexact O
  iintro ⟨Cf1, O⟩
  iapply (c6_ld X 𝒱 false 1 (off7_512 c)) $$ Cf1
  iintro Cf1
  iapply (c6_slot X 𝒱 false 1) $$ Cf1
  iintro %u823 %hu823 Cf1
  iapply ret_intro
  iapply Hk $$ %_ %(by simp only [k0_pay39, hu823, shapeCast_self]; try rfl)
  isplitl [Cf0]; · iexact Cf0
  isplitl [O]; · iexact O
  isplitl [Ct0]; · iexact Ct0
  isplitl [Bf0o]; · iexact Bf0o
  isplitl [Bt0o]; · iexact Bt0o
  iexact Cf1

theorem part27 (v3 : BitVec 32) (v4 : BitVec 32) (v345 : BitVec 32) (v373 : BitVec 32) {Φ : _ → sProp 𝕄} :
    iprop(Ctx X K c ∗ C6 X false 1 c ∗ C5 X true 1 c ∗ Ow c 4)
      ⊢ iprop((iprop(C8 X false 1 c ∗ C7 X true 1 c ∗ Ow c 3) -∗ Φ ⟨⟩) -∗ wp frame (wpE defs 𝒱 c none) Set.univ (k0_part27 (F := F) idsM h0 EM h1 outM h2 (accM false) h3 (accM true) h4 ebM h5 (r1M false) h6 (r1M true) h7 (r2M false) h8 (r2M true) h9 cc0_scratch7 cc0_scratch8 cc0_scratch9 c v3 v4 v345 v373 (sub (qo false 1 c) (A1 X false c)) (sub (qo false 1 c) (A1 X false (P true c)))) Φ) := by
  rw [k0_part27_eq_skeleton]
  unfold k0_part27_skel
  simp only [semSignalWord, semWaitWord, Prog.lift, Prog.bind_op, Prog.bind_ret, Prog.pure_eq_ret, wp_deviceId]
  iintro ⟨#HC, Cf1, Ct1, O⟩ Hk
  iapply (c6_ld X 𝒱 false 1 (off7_512 c)) $$ Cf1
  iintro Cf1
  iapply (c6_st X 𝒱 false 1 (off7_512 c) ?_) $$ Cf1
  · simp only [k0_pay40, shapeCast_self]; try rfl
  iintro Cf1
  iapply (c_w1 X K 𝒱 true 1 4 (by decide) rfl) $$ [Ct1 O]
  · isplitr; · iexact HC
    isplitl [Ct1]; · iexact Ct1
    iexact O
  iintro ⟨Ct1, O⟩
  iapply (c6_ld X 𝒱 true 1 (off8_512 c)) $$ Ct1
  iintro Ct1
  iapply (c6_slot X 𝒱 true 1) $$ Ct1
  iintro %u839 %hu839 Ct1
  iapply (c6_ld X 𝒱 true 1 (off8_512 c)) $$ Ct1
  iintro Ct1
  iapply (c6_st X 𝒱 true 1 (off8_512 c) ?_) $$ Ct1
  · simp only [k0_pay41, hu839, shapeCast_self]; try rfl
  iintro Ct1
  iapply (c_s3 X K 𝒱 false 1 3 rfl (by decide) (off9_512 c) (off9_512 c) (dev15_eq c) rfl rfl) $$ [Cf1 O]
  · isplitr; · iexact HC
    isplitl [Cf1]; · iexact Cf1
    iexact O
  iintro ⟨Cf1, O⟩
  iapply ret_intro
  iapply Hk
  isplitl [Cf1]; · iexact Cf1
  isplitl [Ct1]; · iexact Ct1
  iexact O

end Parts

end Cert.KP
-- ==== Proof.BodyD.lean ====
/-
The kernel's parts 28 to 33: the last exchanges and the waits for its own copies.
-/
module

public import proofs.«01_k».proof.Proof.BodyA

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : In F) (K : GSem nD τ sig → ℕ)

section Parts

variable {defs : Defs nD τ sig (Elt F) Λ₀} (𝒱 : Variants) {c : Dev nD}
variable {h0 : (idsM).IsWhole} {h1 : (EM).IsWhole} {h2 : (outM).IsWhole} {h3 : (accM false).IsWhole} {h4 : (accM true).IsWhole}
  {h5 : (ebM).IsWhole} {h6 : (r1M false).IsWhole} {h7 : (r1M true).IsWhole} {h8 : (r2M false).IsWhole} {h9 : (r2M true).IsWhole}

theorem part28 (v3 : BitVec 32) (v4 : BitVec 32) (v255 : BitVec 32) (v265 : BitVec 32) {Φ : _ → sProp 𝕄} :
    iprop(Ctx X K c ∗ C7 X true 1 c ∗ Ow c 3 ∗ C10 X false 0 c ∗ pts outM c (oBlk false 0 (P false c)) full (psO X c 0 7) ∗ C10 X true 0 c ∗ pts outM c (oBlk true 0 (P true c)) full (psO X c 0 7))
      ⊢ iprop((iprop(C8 X true 1 c ∗ Ow c 2 ∗ C12 X false 0 c ∗ pts outM c (oBlk false 0 (P false c)) full (OutF X) ∗ C12 X true 0 c ∗ pts outM c (oBlk true 0 (P true c)) full (OutF X)) -∗ Φ ⟨⟩) -∗ wp frame (wpE defs 𝒱 c none) Set.univ (k0_part28 (F := F) idsM h0 EM h1 outM h2 (accM false) h3 (accM true) h4 ebM h5 (r1M false) h6 (r1M true) h7 (r2M false) h8 (r2M true) h9 cc0_scratch7 cc0_scratch8 cc0_scratch9 c v3 v4 v255 v265) Φ) := by
  rw [k0_part28_eq_skeleton]
  unfold k0_part28_skel
  simp only [semSignalWord, semWaitWord, Prog.lift, Prog.bind_op, Prog.bind_ret, Prog.pure_eq_ret, wp_deviceId]
  iintro ⟨#HC, Ct1, O, Cf0, Bf0p, Ct0, Bt0p⟩ Hk
  iapply (c_s3 X K 𝒱 true 1 2 rfl (by decide) (off10_512 c) (off10_512 c) (dev16_eq c) rfl rfl) $$ [Ct1 O]
  · isplitr; · iexact HC
    isplitl [Ct1]; · iexact Ct1
    iexact O
  iintro ⟨Ct1, O⟩
  iapply (c_w3 X K 𝒱 false 0 2 (by decide) rfl) $$ [Cf0 O]
  · isplitr; · iexact HC
    isplitl [Cf0]; · iexact Cf0
    iexact O
  iintro ⟨Cf0, O⟩
  iapply (c12_ld X 𝒱 false 0 (off15_256 c)) $$ Cf0
  iintro Cf0
  iapply (ld_blk 𝒱 false 0 (P false c) (off16_256 c)) $$ Bf0p
  iintro %u872 Bf0p
  iapply (st_blk X 𝒱 false 0 (P false c) (off16_256 c) ?_) $$ Bf0p
  · simp only [k0_pay42, shapeCast_self]; try rfl
  iintro Bf0p
  iapply (c_w3 X K 𝒱 true 0 2 (by decide) rfl) $$ [Ct0 O]
  · isplitr; · iexact HC
    isplitl [Ct0]; · iexact Ct0
    iexact O
  iintro ⟨Ct0, O⟩
  iapply (c12_ld X 𝒱 true 0 (off17_256 c)) $$ Ct0
  iintro Ct0
  iapply (ld_blk 𝒱 true 0 (P true c) (off18_256 c)) $$ Bt0p
  iintro %u883 Bt0p
  iapply (st_blk X 𝒱 true 0 (P true c) (off18_256 c) ?_) $$ Bt0p
  · simp only [k0_pay43, shapeCast_self]; try rfl
  iintro Bt0p
  iapply ret_intro
  iapply Hk
  isplitl [Ct1]; · iexact Ct1
  isplitl [O]; · iexact O
  isplitl [Cf0]; · iexact Cf0
  isplitl [Bf0p]; · iexact Bf0p
  isplitl [Ct0]; · iexact Ct0
  iexact Bt0p

theorem part29 (v3 : BitVec 32) (v4 : BitVec 32) (v324 : BitVec 32) (v352 : BitVec 32) {Φ : _ → sProp 𝕄} :
    iprop(Ctx X K c ∗ C8 X false 1 c ∗ Ow c 2 ∗ C8 X true 1 c ∗ pts outM c (oBlk false 1 c) full (psO X c 1 7))
      ⊢ iprop((∀ e, ⌜e = extf .f32 (sub (ho true 1 c) (Fin_ X true)) bitsLt_bf16_f32⌝ -∗ iprop(C10 X false 1 c ∗ Ow c 0 ∗ C10 X true 1 c ∗ pts outM c (oBlk false 1 c) full (OutF X)) -∗ Φ e) -∗ wp frame (wpE defs 𝒱 c none) Set.univ (k0_part29 (F := F) idsM h0 EM h1 outM h2 (accM false) h3 (accM true) h4 ebM h5 (r1M false) h6 (r1M true) h7 (r2M false) h8 (r2M true) h9 cc0_scratch7 cc0_scratch8 cc0_scratch9 c v3 v4 v324 v352) Φ) := by
  rw [k0_part29_eq_skeleton]
  unfold k0_part29_skel
  simp only [semSignalWord, semWaitWord, Prog.lift, Prog.bind_op, Prog.bind_ret, Prog.pure_eq_ret, wp_deviceId]
  iintro ⟨#HC, Cf1, O, Ct1, Bf1o⟩ Hk
  iapply (c_w2 X K 𝒱 false 1 2 (by decide) rfl) $$ [Cf1 O]
  · isplitr; · iexact HC
    isplitl [Cf1]; · iexact Cf1
    iexact O
  iintro ⟨Cf1, O⟩
  iapply (c_w2 X K 𝒱 true 1 2 (by decide) rfl) $$ [Ct1 O]
  · isplitr; · iexact HC
    isplitl [Ct1]; · iexact Ct1
    iexact O
  iintro ⟨Ct1, O⟩
  iapply (c_s4 X K 𝒱 false 1 1 rfl (by decide) (off11_512 c) (off11_512 c) (dev17_eq c) rfl rfl) $$ [Cf1 O]
  · isplitr; · iexact HC
    isplitl [Cf1]; · iexact Cf1
    iexact O
  iintro ⟨Cf1, O⟩
  iapply (c_s4 X K 𝒱 true 1 0 rfl (by decide) (off12_512 c) (off12_512 c) (dev18_eq c) rfl rfl) $$ [Ct1 O]
  · isplitr; · iexact HC
    isplitl [Ct1]; · iexact Ct1
    iexact O
  iintro ⟨Ct1, O⟩
  iapply (c10_ld X 𝒱 false 1 (off3_512 c)) $$ Cf1
  iintro Cf1
  iapply (ld_blk 𝒱 false 1 c (off13_512 c)) $$ Bf1o
  iintro %u916 Bf1o
  iapply (st_blk X 𝒱 false 1 c (off13_512 c) ?_) $$ Bf1o
  · simp only [k0_pay44, shapeCast_self]; try rfl
  iintro Bf1o
  iapply (c10_ld X 𝒱 true 1 (off4_512 c)) $$ Ct1
  iintro Ct1
  iapply ret_intro
  iapply Hk $$ %_ %(by simp only [k0_pay45, shapeCast_self]; try rfl)
  isplitl [Cf1]; · iexact Cf1
  isplitl [O]; · iexact O
  isplitl [Ct1]; · iexact Ct1
  iexact Bf1o

theorem part30 (v3 : BitVec 32) (v4 : BitVec 32) (v343 : BitVec 32) (v353 : BitVec 32) {Φ : _ → sProp 𝕄} :
    iprop(Ctx X K c ∗ pts outM c (oBlk true 1 c) full (psO X c 1 7) ∗ C10 X false 1 c ∗ Ow c 0 ∗ pts outM c (oBlk false 1 (P false c)) full (psO X c 1 7) ∗ C10 X true 1 c ∗ pts outM c (oBlk true 1 (P true c)) full (psO X c 1 7) ∗ C12 X false 0 c)
      ⊢ iprop((iprop(pts outM c (oBlk true 1 c) full (OutF X) ∗ C12 X false 1 c ∗ Ow c 0 ∗ pts outM c (oBlk false 1 (P false c)) full (OutF X) ∗ C12 X true 1 c ∗ pts outM c (oBlk true 1 (P true c)) full (OutF X) ∗ D1 X false 0 c) -∗ Φ ⟨⟩) -∗ wp frame (wpE defs 𝒱 c none) Set.univ (k0_part30 (F := F) idsM h0 EM h1 outM h2 (accM false) h3 (accM true) h4 ebM h5 (r1M false) h6 (r1M true) h7 (r2M false) h8 (r2M true) h9 cc0_scratch7 cc0_scratch8 cc0_scratch9 c v3 v4 v343 v353 (extf .f32 (sub (ho true 1 c) (Fin_ X true)) bitsLt_bf16_f32)) Φ) := by
  rw [k0_part30_eq_skeleton]
  unfold k0_part30_skel
  simp only [semSignalWord, semWaitWord, Prog.lift, Prog.bind_op, Prog.bind_ret, Prog.pure_eq_ret, wp_deviceId]
  iintro ⟨#HC, Bt1o, Cf1, O, Bf1p, Ct1, Bt1p, Cf0⟩ Hk
  iapply (ld_blk 𝒱 true 1 c (off14_512 c)) $$ Bt1o
  iintro %u921 Bt1o
  iapply (st_blk X 𝒱 true 1 c (off14_512 c) ?_) $$ Bt1o
  · rfl
  iintro Bt1o
  iapply (c_w3 X K 𝒱 false 1 0 (by decide) rfl) $$ [Cf1 O]
  · isplitr; · iexact HC
    isplitl [Cf1]; · iexact Cf1
    iexact O
  iintro ⟨Cf1, O⟩
  iapply (c12_ld X 𝒱 false 1 (off15_768 c)) $$ Cf1
  iintro Cf1
  iapply (ld_blk 𝒱 false 1 (P false c) (off16_768 c)) $$ Bf1p
  iintro %u932 Bf1p
  iapply (st_blk X 𝒱 false 1 (P false c) (off16_768 c) ?_) $$ Bf1p
  · simp only [k0_pay46, shapeCast_self]; try rfl
  iintro Bf1p
  iapply (c_w3 X K 𝒱 true 1 0 (by decide) rfl) $$ [Ct1 O]
  · isplitr; · iexact HC
    isplitl [Ct1]; · iexact Ct1
    iexact O
  iintro ⟨Ct1, O⟩
  iapply (c12_ld X 𝒱 true 1 (off17_768 c)) $$ Ct1
  iintro Ct1
  iapply (ld_blk 𝒱 true 1 (P true c) (off18_768 c)) $$ Bt1p
  iintro %u943 Bt1p
  iapply (st_blk X 𝒱 true 1 (P true c) (off18_768 c) ?_) $$ Bt1p
  · simp only [k0_pay47, shapeCast_self]; try rfl
  iintro Bt1p
  iapply (c_ws0 X K 𝒱 false 0 rfl) $$ [Cf0 O]
  · isplitr; · iexact HC
    isplitl [Cf0]; · iexact Cf0
    iexact O
  iintro ⟨Cf0, O⟩
  iapply ret_intro
  iapply Hk
  isplitl [Bt1o]; · iexact Bt1o
  isplitl [Cf1]; · iexact Cf1
  isplitl [O]; · iexact O
  isplitl [Bf1p]; · iexact Bf1p
  isplitl [Ct1]; · iexact Ct1
  isplitl [Bt1p]; · iexact Bt1p
  iexact Cf0

theorem part31  {Φ : _ → sProp 𝕄} :
    iprop(Ctx X K c ∗ C12 X true 0 c ∗ Ow c 0 ∗ D1 X false 0 c)
      ⊢ iprop((iprop(D3 X true 0 c ∗ Ow c 0 ∗ D3 X false 0 c) -∗ Φ ⟨⟩) -∗ wp frame (wpE defs 𝒱 c none) Set.univ (k0_part31 (F := F) idsM h0 EM h1 outM h2 (accM false) h3 (accM true) h4 ebM h5 (r1M false) h6 (r1M true) h7 (r2M false) h8 (r2M true) h9 cc0_scratch7 cc0_scratch8 cc0_scratch9 c) Φ) := by
  rw [k0_part31_eq_skeleton]
  unfold k0_part31_skel
  simp only [semSignalWord, semWaitWord, Prog.lift, Prog.bind_op, Prog.bind_ret, Prog.pure_eq_ret, wp_deviceId]
  iintro ⟨#HC, Ct0, O, Cf0⟩ Hk
  iapply (c_ws0 X K 𝒱 true 0 rfl) $$ [Ct0 O]
  · isplitr; · iexact HC
    isplitl [Ct0]; · iexact Ct0
    iexact O
  iintro ⟨Ct0, O⟩
  iapply (c_ws1 X K 𝒱 false 0 rfl) $$ [Cf0 O]
  · isplitr; · iexact HC
    isplitl [Cf0]; · iexact Cf0
    iexact O
  iintro ⟨Cf0, O⟩
  iapply (c_ws1 X K 𝒱 true 0 rfl) $$ [Ct0 O]
  · isplitr; · iexact HC
    isplitl [Ct0]; · iexact Ct0
    iexact O
  iintro ⟨Ct0, O⟩
  iapply (c_ws2 X K 𝒱 false 0 rfl) $$ [Cf0 O]
  · isplitr; · iexact HC
    isplitl [Cf0]; · iexact Cf0
    iexact O
  iintro ⟨Cf0, O⟩
  iapply (c_ws2 X K 𝒱 true 0 rfl) $$ [Ct0 O]
  · isplitr; · iexact HC
    isplitl [Ct0]; · iexact Ct0
    iexact O
  iintro ⟨Ct0, O⟩
  iapply ret_intro
  iapply Hk
  isplitl [Ct0]; · iexact Ct0
  isplitl [O]; · iexact O
  iexact Cf0

theorem part32  {Φ : _ → sProp 𝕄} :
    iprop(Ctx X K c ∗ D3 X false 0 c ∗ Ow c 0 ∗ D3 X true 0 c ∗ C12 X false 1 c ∗ C12 X true 1 c)
      ⊢ iprop((iprop(D4 X false 0 c ∗ Ow c 0 ∗ D4 X true 0 c ∗ D2 X false 1 c ∗ D1 X true 1 c) -∗ Φ ⟨⟩) -∗ wp frame (wpE defs 𝒱 c none) Set.univ (k0_part32 (F := F) idsM h0 EM h1 outM h2 (accM false) h3 (accM true) h4 ebM h5 (r1M false) h6 (r1M true) h7 (r2M false) h8 (r2M true) h9 cc0_scratch7 cc0_scratch8 cc0_scratch9 c) Φ) := by
  rw [k0_part32_eq_skeleton]
  unfold k0_part32_skel
  simp only [semSignalWord, semWaitWord, Prog.lift, Prog.bind_op, Prog.bind_ret, Prog.pure_eq_ret, wp_deviceId]
  iintro ⟨#HC, Cf0, O, Ct0, Cf1, Ct1⟩ Hk
  iapply (c_ws3 X K 𝒱 false 0 rfl) $$ [Cf0 O]
  · isplitr; · iexact HC
    isplitl [Cf0]; · iexact Cf0
    iexact O
  iintro ⟨Cf0, O⟩
  iapply (c_ws3 X K 𝒱 true 0 rfl) $$ [Ct0 O]
  · isplitr; · iexact HC
    isplitl [Ct0]; · iexact Ct0
    iexact O
  iintro ⟨Ct0, O⟩
  iapply (c_ws0 X K 𝒱 false 1 rfl) $$ [Cf1 O]
  · isplitr; · iexact HC
    isplitl [Cf1]; · iexact Cf1
    iexact O
  iintro ⟨Cf1, O⟩
  iapply (c_ws0 X K 𝒱 true 1 rfl) $$ [Ct1 O]
  · isplitr; · iexact HC
    isplitl [Ct1]; · iexact Ct1
    iexact O
  iintro ⟨Ct1, O⟩
  iapply (c_ws1 X K 𝒱 false 1 rfl) $$ [Cf1 O]
  · isplitr; · iexact HC
    isplitl [Cf1]; · iexact Cf1
    iexact O
  iintro ⟨Cf1, O⟩
  iapply ret_intro
  iapply Hk
  isplitl [Cf0]; · iexact Cf0
  isplitl [O]; · iexact O
  isplitl [Ct0]; · iexact Ct0
  isplitl [Cf1]; · iexact Cf1
  iexact Ct1

end Parts

end Cert.KP
-- ==== Proof.Body.lean ====
/-
The kernel's body, its parts one after another.
-/
module

public import proofs.«01_k».proof.Proof.BodyB
public import proofs.«01_k».proof.Proof.BodyC
public import proofs.«01_k».proof.Proof.BodyD

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : In F) (K : GSem nD τ sig → ℕ)

section Parts

variable {defs : Defs nD τ sig (Elt F) Λ₀} (𝒱 : Variants) {c : Dev nD}
variable {h0 : (idsM).IsWhole} {h1 : (EM).IsWhole} {h2 : (outM).IsWhole} {h3 : (accM false).IsWhole} {h4 : (accM true).IsWhole}
  {h5 : (ebM).IsWhole} {h6 : (r1M false).IsWhole} {h7 : (r1M true).IsWhole} {h8 : (r2M false).IsWhole} {h9 : (r2M true).IsWhole}

theorem bind_intro {α β : Type} {p : Prog (TpuEff nD τ sig (Elt F) Λ₀ .tc) β} {k : β → Prog (TpuEff nD τ sig (Elt F) Λ₀ .tc) α} {Q : α → sProp 𝕄} :
    wp frame (wpE defs 𝒱 (c : Thread nD τ) none) Set.univ p (fun x => wp frame (wpE defs 𝒱 (c : Thread nD τ) none) Set.univ (k x) Q)
      ⊢ wp frame (wpE defs 𝒱 (c : Thread nD τ) none) Set.univ (p >>= k) Q := by
  rw [wp_bind]

theorem out_whole {w : S1024x1024.Idx → Elt F .f32} :
    iprop(pts outM c (oRows 0) full w ∗ pts outM c (oRows 1) full w) ⊢ (pts outM c Finset.univ full w : sProp 𝕄) := by
  iintro H
  ihave H := (pts_join oRows_disj) $$ H
  iapply (pts_set_eq oRows_univ.symm); iexact H

/-- What a device's body is given. -/
def BPre (c : Dev nD) : sProp 𝕄 :=
  iprop(Ow c 18
      ∗ Ids X c
      ∗ Efree X 0 c
      ∗ Efree X 1 c
      ∗ any outM c (oRows 0)
      ∗ any outM c (oRows 1)
      ∗ any (accM false) c (Gs 0)
      ∗ any (accM true) c (Gs 0)
      ∗ any (accM false) c (Gs 1)
      ∗ any (accM true) c (Gs 1)
      ∗ iprop(dutyTok ER (bar (P false c)) 0 false ∗ barPay false (P false c))
      ∗ iprop(dutyTok ER (bar (P true c)) 0 true ∗ barPay true (P true c))
      ∗ iprop(atPos ER (bar c) 0 ∅ 0 ∗ cred (tallyAt (bar c) () 2))
      ∗ Tk4 false 0 c
      ∗ Tk4 true 0 c
      ∗ Tk4 false 1 c
      ∗ Tk4 true 1 c)
/-- What it leaves. -/
def BPost (c : Dev nD) : sProp 𝕄 :=
  iprop(Ow c 0
      ∗ Ids X c
      ∗ Efree X 0 c
      ∗ Efree X 1 c
      ∗ pts outM c Finset.univ full (OutF X)
      ∗ D4 X false 0 c
      ∗ D4 X true 0 c
      ∗ D4 X false 1 c
      ∗ D4 X true 1 c
      ∗ atPos ER (bar c) (0 + 1) ∅ 0)

set_option maxRecDepth 65536 in
theorem run_body {Q : PUnit → sProp 𝕄} :
    iprop(Ctx X K c ∗ BPre X c)
      ⊢ iprop((BPost X c -∗ Q ⟨⟩)
        -∗ wp frame (wpE defs 𝒱 (c : Thread nD τ) none) Set.univ (cc0_body (F := F) idsM h0 EM h1 outM h2 (accM false) h3 (accM true) h4 ebM h5 (r1M false) h6 (r1M true) h7 (r2M false) h8 (r2M true) h9 cc0_scratch7 cc0_scratch8 cc0_scratch9) Q) := by
  rw [cc0_body_eq_skeleton]
  unfold cc0_body_skel
  rw [k0_part33_eq_skeleton]
  unfold k0_part33_skel BPre BPost
  iintro ⟨#HC, ⟨O, I, E0, E1, R0, R1, Af0, At0, Af1, At1, Tf, Tt, W, Kf0, Kt0, Kf1, Kt1⟩⟩ Hk
  iapply bind_intro
  iapply bind_intro
  iapply (part1 X K 𝒱) $$ [Tf O Tt E0 I E1]
  · isplitr; · iexact HC
    isplitl [Tf]; · iexact Tf
    isplitl [O]; · iexact O
    isplitl [Tt]; · iexact Tt
    isplitl [E0]; · iexact E0
    isplitl [I]; · iexact I
    iexact E1
  iintro %v2 %v3 %v4
  iintro ⟨O, E0, I, E1⟩
  iapply bind_intro
  iapply (part2 X K 𝒱) $$ [E0 O R0 E1]
  · isplitr; · iexact HC
    isplitl [E0]; · iexact E0
    isplitl [O]; · iexact O
    isplitl [R0]; · iexact R0
    iexact E1
  iintro %e
  iintro %he
  subst he
  iintro ⟨E0, O, R0, E1⟩
  iapply bind_intro
  iapply (part3 X K 𝒱) $$ [R0 E1 E0 O]
  · isplitr; · iexact HC
    isplitl [R0]; · iexact R0
    isplitl [E1]; · iexact E1
    isplitl [E0]; · iexact E0
    iexact O
  iintro ⟨R0, E1, E0, O⟩
  iapply bind_intro
  iapply (part4 X K 𝒱) $$ [E0 E1 O R0]
  · isplitr; · iexact HC
    isplitl [E0]; · iexact E0
    isplitl [E1]; · iexact E1
    isplitl [O]; · iexact O
    iexact R0
  iintro ⟨E0, E1, O, R0⟩
  iapply bind_intro
  iapply (part5 X K 𝒱) $$ [E0 O R0 E1]
  · isplitr; · iexact HC
    isplitl [E0]; · iexact E0
    isplitl [O]; · iexact O
    isplitl [R0]; · iexact R0
    iexact E1
  iintro ⟨E0, O, R0, E1⟩
  iapply bind_intro
  iapply (part6 X K 𝒱) $$ [E1 R0 E0 O]
  · isplitr; · iexact HC
    isplitl [E1]; · iexact E1
    isplitl [R0]; · iexact R0
    isplitl [E0]; · iexact E0
    iexact O
  iintro %e
  iintro %he
  subst he
  iintro ⟨E1, R0, E0, O⟩
  iapply bind_intro
  iapply (part7 X K 𝒱) $$ [R0 E0 E1 O]
  · isplitr; · iexact HC
    isplitl [R0]; · iexact R0
    isplitl [E0]; · iexact E0
    isplitl [E1]; · iexact E1
    iexact O
  iintro ⟨R0, E0, E1, O⟩
  iapply bind_intro
  iapply (part8 X K 𝒱 _) $$ [R0 Af0 At0]
  · isplitr; · iexact HC
    isplitl [R0]; · iexact R0
    isplitl [Af0]; · iexact Af0
    iexact At0
  iintro %r
  obtain ⟨v236, c2, v237, v242, v244⟩ := r
  iintro ⟨R0, Af0, At0⟩
  iapply bind_intro
  iapply (part9 X K 𝒱 _ _ _ _ _ _) $$ HC
  iintro %r
  obtain ⟨v255, v257, v263, v264, v265, v266, v267, v281, c1⟩ := r
  iapply bind_intro
  iapply (part10 X K 𝒱 _ _ _ _ _ _ _) $$ HC
  iintro %r
  obtain ⟨v285, v323⟩ := r
  iapply bind_intro
  iapply (part11 X K 𝒱 _ _ _) $$ HC
  iintro %r
  obtain ⟨v324, v343, v345, v351, v352, v353, v354, c2, v355, v357, v359⟩ := r
  iapply bind_intro
  iapply (part12 X K 𝒱 _ _ _ _ _ _ _ _) $$ [W O]
  · isplitr; · iexact HC
    isplitl [W]; · iexact W
    iexact O
  iintro %r
  iintro ⟨W, O, Yf, Yt⟩
  ihave HH := (bar_out c) $$ [Yf Yt]
  · isplitl [Yf]; · iexact Yf
    iexact Yt
  icases HH with ⟨Hf0, Ht0, Hf1, Ht1⟩
  ihave Cf0 := (C1_intro X false 0 c) $$ [Hf0 Kf0 Af0]
  · isplitl [Hf0]; · iexact Hf0
    isplitl [Kf0]; · iexact Kf0
    iexact Af0
  ihave Ct0 := (C1_intro X true 0 c) $$ [Ht0 Kt0 At0]
  · isplitl [Ht0]; · iexact Ht0
    isplitl [Kt0]; · iexact Kt0
    iexact At0
  iapply bind_intro
  iapply (part13 X K 𝒱 _) $$ [Cf0 O Ct0 I E1 E0]
  · isplitr; · iexact HC
    isplitl [Cf0]; · iexact Cf0
    isplitl [O]; · iexact O
    isplitl [Ct0]; · iexact Ct0
    isplitl [I]; · iexact I
    isplitl [E1]; · iexact E1
    iexact E0
  iintro ⟨Cf0, O, Ct0, I, E1, E0⟩
  iapply bind_intro
  iapply (part14 X K 𝒱) $$ [E0 R1 E1 O]
  · isplitr; · iexact HC
    isplitl [E0]; · iexact E0
    isplitl [R1]; · iexact R1
    isplitl [E1]; · iexact E1
    iexact O
  iintro %e
  iintro %he
  subst he
  iintro ⟨E0, R1, E1, O⟩
  iapply bind_intro
  iapply (part15 X K 𝒱) $$ [R1 E1 E0 O]
  · isplitr; · iexact HC
    isplitl [R1]; · iexact R1
    isplitl [E1]; · iexact E1
    isplitl [E0]; · iexact E0
    iexact O
  iintro ⟨R1, E1, E0, O⟩
  iapply bind_intro
  iapply (part16 X K 𝒱) $$ [E0 E1 O R1]
  · isplitr; · iexact HC
    isplitl [E0]; · iexact E0
    isplitl [E1]; · iexact E1
    isplitl [O]; · iexact O
    iexact R1
  iintro ⟨E0, E1, O, R1⟩
  iapply bind_intro
  iapply (part17 X K 𝒱) $$ [E0 O R1 E1]
  · isplitr; · iexact HC
    isplitl [E0]; · iexact E0
    isplitl [O]; · iexact O
    isplitl [R1]; · iexact R1
    iexact E1
  iintro ⟨E0, O, R1, E1⟩
  iapply bind_intro
  iapply (part18 X K 𝒱) $$ [E1 R1 E0 O]
  · isplitr; · iexact HC
    isplitl [E1]; · iexact E1
    isplitl [R1]; · iexact R1
    isplitl [E0]; · iexact E0
    iexact O
  iintro %e
  iintro %he
  subst he
  iintro ⟨E1, R1, E0, O⟩
  iapply bind_intro
  iapply (part19 X K 𝒱) $$ [R1 E1 O Af1 At1]
  · isplitr; · iexact HC
    isplitl [R1]; · iexact R1
    isplitl [E1]; · iexact E1
    isplitl [O]; · iexact O
    isplitl [Af1]; · iexact Af1
    iexact At1
  iintro ⟨R1, E1, O, Af1, At1⟩
  ihave Cf1 := (C1_intro X false 1 c) $$ [Hf1 Kf1 Af1]
  · isplitl [Hf1]; · iexact Hf1
    isplitl [Kf1]; · iexact Kf1
    iexact Af1
  ihave Ct1 := (C1_intro X true 1 c) $$ [Ht1 Kt1 At1]
  · isplitl [Ht1]; · iexact Ht1
    isplitl [Kt1]; · iexact Kt1
    iexact At1
  ihave R0 := (out_split 0) $$ R0
  icases R0 with ⟨⟨Bf0o, Bf0p⟩, ⟨Bt0o, Bt0p⟩⟩
  ihave R1 := (out_split 1) $$ R1
  icases R1 with ⟨⟨Bf1o, Bf1p⟩, ⟨Bt1o, Bt1p⟩⟩
  iapply bind_intro
  iapply (part20 X K 𝒱 _ _ _ _) $$ [Cf0 O Ct0]
  · isplitr; · iexact HC
    isplitl [Cf0]; · iexact Cf0
    isplitl [O]; · iexact O
    iexact Ct0
  iintro %e
  iintro %he
  subst he
  iintro ⟨Cf0, O, Ct0⟩
  iapply bind_intro
  iapply (part21 X K 𝒱 _ _) $$ [Ct0 Cf0 O Cf1]
  · isplitr; · iexact HC
    isplitl [Ct0]; · iexact Ct0
    isplitl [Cf0]; · iexact Cf0
    isplitl [O]; · iexact O
    iexact Cf1
  iintro %r
  iintro ⟨Ct0, Cf0, O, Cf1⟩
  iapply bind_intro
  iapply (part22 X K 𝒱 _ _ _ _) $$ [Ct1 O Cf0]
  · isplitr; · iexact HC
    isplitl [Ct1]; · iexact Ct1
    isplitl [O]; · iexact O
    iexact Cf0
  iintro ⟨Ct1, O, Cf0⟩
  iapply bind_intro
  iapply (part23 X K 𝒱 _ _ _) $$ [Ct0 O Cf0]
  · isplitr; · iexact HC
    isplitl [Ct0]; · iexact Ct0
    isplitl [O]; · iexact O
    iexact Cf0
  iintro ⟨Ct0, O, Cf0⟩
  iapply bind_intro
  iapply (part24 X K 𝒱 _ _ _) $$ [Cf1 O Ct1]
  · isplitr; · iexact HC
    isplitl [Cf1]; · iexact Cf1
    isplitl [O]; · iexact O
    iexact Ct1
  iintro ⟨Cf1, O, Ct1⟩
  iapply bind_intro
  iapply (part25 X K 𝒱 _ _) $$ [Cf1 O Ct1 Cf0 Ct0]
  · isplitr; · iexact HC
    isplitl [Cf1]; · iexact Cf1
    isplitl [O]; · iexact O
    isplitl [Ct1]; · iexact Ct1
    isplitl [Cf0]; · iexact Cf0
    iexact Ct0
  iintro ⟨Cf1, O, Ct1, Cf0, Ct0⟩
  iapply bind_intro
  iapply (part26 X K 𝒱 _ _ _ _) $$ [Cf0 O Ct0 Bf0o Bt0o Cf1]
  · isplitr; · iexact HC
    isplitl [Cf0]; · iexact Cf0
    isplitl [O]; · iexact O
    isplitl [Ct0]; · iexact Ct0
    isplitl [Bf0o]; · iexact Bf0o
    isplitl [Bt0o]; · iexact Bt0o
    iexact Cf1
  iintro %e
  iintro %he
  subst he
  iintro ⟨Cf0, O, Ct0, Bf0o, Bt0o, Cf1⟩
  iapply bind_intro
  iapply (part27 X K 𝒱 _ _ _ _) $$ [Cf1 Ct1 O]
  · isplitr; · iexact HC
    isplitl [Cf1]; · iexact Cf1
    isplitl [Ct1]; · iexact Ct1
    iexact O
  iintro ⟨Cf1, Ct1, O⟩
  iapply bind_intro
  iapply (part28 X K 𝒱 _ _ _ _) $$ [Ct1 O Cf0 Bf0p Ct0 Bt0p]
  · isplitr; · iexact HC
    isplitl [Ct1]; · iexact Ct1
    isplitl [O]; · iexact O
    isplitl [Cf0]; · iexact Cf0
    isplitl [Bf0p]; · iexact Bf0p
    isplitl [Ct0]; · iexact Ct0
    iexact Bt0p
  iintro ⟨Ct1, O, Cf0, Bf0p, Ct0, Bt0p⟩
  iapply bind_intro
  iapply (part29 X K 𝒱 _ _ _ _) $$ [Cf1 O Ct1 Bf1o]
  · isplitr; · iexact HC
    isplitl [Cf1]; · iexact Cf1
    isplitl [O]; · iexact O
    isplitl [Ct1]; · iexact Ct1
    iexact Bf1o
  iintro %e
  iintro %he
  subst he
  iintro ⟨Cf1, O, Ct1, Bf1o⟩
  iapply bind_intro
  iapply (part30 X K 𝒱 _ _ _ _) $$ [Bt1o Cf1 O Bf1p Ct1 Bt1p Cf0]
  · isplitr; · iexact HC
    isplitl [Bt1o]; · iexact Bt1o
    isplitl [Cf1]; · iexact Cf1
    isplitl [O]; · iexact O
    isplitl [Bf1p]; · iexact Bf1p
    isplitl [Ct1]; · iexact Ct1
    isplitl [Bt1p]; · iexact Bt1p
    iexact Cf0
  iintro ⟨Bt1o, Cf1, O, Bf1p, Ct1, Bt1p, Cf0⟩
  iapply bind_intro
  iapply (part31 X K 𝒱) $$ [Ct0 O Cf0]
  · isplitr; · iexact HC
    isplitl [Ct0]; · iexact Ct0
    isplitl [O]; · iexact O
    iexact Cf0
  iintro ⟨Ct0, O, Cf0⟩
  iapply bind_intro
  iapply (part32 X K 𝒱) $$ [Cf0 O Ct0 Cf1 Ct1]
  · isplitr; · iexact HC
    isplitl [Cf0]; · iexact Cf0
    isplitl [O]; · iexact O
    isplitl [Ct0]; · iexact Ct0
    isplitl [Cf1]; · iexact Cf1
    iexact Ct1
  iintro ⟨Cf0, O, Ct0, Cf1, Ct1⟩
  iapply (c_ws1 X K 𝒱 true 1 rfl) $$ [Ct1 O]
  · isplitr; · iexact HC
    isplitl [Ct1]; · iexact Ct1
    iexact O
  iintro ⟨Ct1, O⟩
  iapply (c_ws2 X K 𝒱 false 1 rfl) $$ [Cf1 O]
  · isplitr; · iexact HC
    isplitl [Cf1]; · iexact Cf1
    iexact O
  iintro ⟨Cf1, O⟩
  iapply (c_ws2 X K 𝒱 true 1 rfl) $$ [Ct1 O]
  · isplitr; · iexact HC
    isplitl [Ct1]; · iexact Ct1
    iexact O
  iintro ⟨Ct1, O⟩
  iapply ret_intro
  iapply (c_ws3 X K 𝒱 false 1 rfl) $$ [Cf1 O]
  · isplitr; · iexact HC
    isplitl [Cf1]; · iexact Cf1
    iexact O
  iintro ⟨Cf1, O⟩
  iapply (c_ws3 X K 𝒱 true 1 rfl) $$ [Ct1 O]
  · isplitr; · iexact HC
    isplitl [Ct1]; · iexact Ct1
    iexact O
  iintro ⟨Ct1, O⟩
  iapply ret_intro
  iapply Hk
  isplitl [O]; · iexact O
  isplitl [I]; · iexact I
  isplitl [E0]; · iapply (Efull_free X); iexact E0
  isplitl [E1]; · iapply (Efull_free X); iexact E1
  isplitl [Bf0o Bf0p Bt0o Bt0p Bf1o Bf1p Bt1o Bt1p]
  · iapply out_whole
    isplitl [Bf0o Bf0p Bt0o Bt0p]
    · iapply (out_join 0)
      isplitl [Bf0o Bf0p]
      · isplitl [Bf0o]; · iexact Bf0o
        iexact Bf0p
      · isplitl [Bt0o]; · iexact Bt0o
        iexact Bt0p
    · iapply (out_join 1)
      isplitl [Bf1o Bf1p]
      · isplitl [Bf1o]; · iexact Bf1o
        iexact Bf1p
      · isplitl [Bt1o]; · iexact Bt1o
        iexact Bt1p
  isplitl [Cf0]; · iexact Cf0
  isplitl [Ct0]; · iexact Ct0
  isplitl [Cf1]; · iexact Cf1
  isplitl [Ct1]; · iexact Ct1
  iexact W

end Parts

end Cert.KP
-- ==== Proof.Buffers.lean ====
/-
The kernel's buffers, whole and in the parts its steps use.
-/
module

public import proofs.«01_k».proof.Proof.Chan
public import proofs.«01_k».proof.Proof.Gen.KernelIdeal.Regions

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem r1_univ : (Finset.univ : Finset S2x256x512.Idx) = (r1R 0).set ∪ (r1R 1).set := by
  ext i
  rw [Finset.mem_union, Rect.mem_set_unit, Rect.mem_set_unit]
  have h0 : (i 0).val < 2 := (i 0).isLt
  have h1 := (i 1).isLt
  have h2 := (i 2).isLt
  refine ⟨fun _ => ?_, fun _ => Finset.mem_univ _⟩
  rcases (by omega : (i 0).val = 0 ∨ (i 0).val = 1) with h | h
  · left; intro a
    fin_cases a
    · show 0 ≤ (i 0).val ∧ (i 0).val < 0 + 1; omega
    · exact ⟨Nat.zero_le _, by simpa using h1⟩
    · exact ⟨Nat.zero_le _, by simpa using h2⟩
  · right; intro a
    fin_cases a
    · show 1 ≤ (i 0).val ∧ (i 0).val < 1 + 1; omega
    · exact ⟨Nat.zero_le _, by simpa using h1⟩
    · exact ⟨Nat.zero_le _, by simpa using h2⟩
theorem r1_disj : Disjoint (r1R 0).set (r1R 1).set := by
  rw [Finset.disjoint_left]
  intro i ha hb
  have h1 : (i 0).val < 0 + 1 := (Rect.mem_set_unit.mp ha 0).2
  have h2 : 1 ≤ (i 0).val := (Rect.mem_set_unit.mp hb 0).1
  omega

theorem r2_univ : (Finset.univ : Finset S2x128x512.Idx) = (r2R 0).set ∪ (r2R 1).set := by
  ext i
  rw [Finset.mem_union, Rect.mem_set_unit, Rect.mem_set_unit]
  have h0 : (i 0).val < 2 := (i 0).isLt
  have h1 := (i 1).isLt
  have h2 := (i 2).isLt
  refine ⟨fun _ => ?_, fun _ => Finset.mem_univ _⟩
  rcases (by omega : (i 0).val = 0 ∨ (i 0).val = 1) with h | h
  · left; intro a
    fin_cases a
    · show 0 ≤ (i 0).val ∧ (i 0).val < 0 + 1; omega
    · exact ⟨Nat.zero_le _, by simpa using h1⟩
    · exact ⟨Nat.zero_le _, by simpa using h2⟩
  · right; intro a
    fin_cases a
    · show 1 ≤ (i 0).val ∧ (i 0).val < 1 + 1; omega
    · exact ⟨Nat.zero_le _, by simpa using h1⟩
    · exact ⟨Nat.zero_le _, by simpa using h2⟩
theorem r2_disj : Disjoint (r2R 0).set (r2R 1).set := by
  rw [Finset.disjoint_left]
  intro i ha hb
  have h1 : (i 0).val < 0 + 1 := (Rect.mem_set_unit.mp ha 0).2
  have h2 : 1 ≤ (i 0).val := (Rect.mem_set_unit.mp hb 0).1
  omega

theorem eb_univ : (Finset.univ : Finset S2x1024x1024.Idx) = (ebR 0).set ∪ (ebR 1).set := by
  ext i
  rw [Finset.mem_union, Rect.mem_set_unit, Rect.mem_set_unit]
  have h0 : (i 0).val < 2 := (i 0).isLt
  have h1 := (i 1).isLt
  have h2 := (i 2).isLt
  refine ⟨fun _ => ?_, fun _ => Finset.mem_univ _⟩
  rcases (by omega : (i 0).val = 0 ∨ (i 0).val = 1) with h | h
  · left; intro a
    fin_cases a
    · show 0 ≤ (i 0).val ∧ (i 0).val < 0 + 1; omega
    · exact ⟨Nat.zero_le _, by simpa using h1⟩
    · exact ⟨Nat.zero_le _, by simpa using h2⟩
  · right; intro a
    fin_cases a
    · show 1 ≤ (i 0).val ∧ (i 0).val < 1 + 1; omega
    · exact ⟨Nat.zero_le _, by simpa using h1⟩
    · exact ⟨Nat.zero_le _, by simpa using h2⟩
theorem eb_disj : Disjoint (ebR 0).set (ebR 1).set := by
  rw [Finset.disjoint_left]
  intro i ha hb
  have h1 : (i 0).val < 0 + 1 := (Rect.mem_set_unit.mp ha 0).2
  have h2 : 1 ≤ (i 0).val := (Rect.mem_set_unit.mp hb 0).1
  omega

theorem r1_slots (x : Bool) (c : Dev nD) : any (F := F) (r1M x) c Finset.univ ⊢ iprop(any (r1S x 0) c Finset.univ ∗ any (r1S x 1) c Finset.univ) := by
  rw [r1_univ]
  refine (any_split r1_disj).trans ?_
  exact BIClass.sep_mono (any_slot (r1R 0) (fun _ => rfl) _ rfl) (any_slot (r1R 1) (fun _ => rfl) _ rfl)
theorem r1_unslots (x : Bool) (c : Dev nD) : iprop(any (r1S x 0) c Finset.univ ∗ any (r1S x 1) c Finset.univ) ⊢ any (F := F) (r1M x) c Finset.univ := by
  rw [r1_univ]
  refine BIBase.Entails.trans ?_ (any_join r1_disj)
  exact BIClass.sep_mono (any_unslot (r1R 0) (fun _ => rfl) _ rfl) (any_unslot (r1R 1) (fun _ => rfl) _ rfl)

theorem r2_slots (x : Bool) (c : Dev nD) : any (F := F) (r2M x) c Finset.univ ⊢ iprop(any (r2S x 0) c Finset.univ ∗ any (r2S x 1) c Finset.univ) := by
  rw [r2_univ]
  refine (any_split r2_disj).trans ?_
  exact BIClass.sep_mono (any_slot (r2R 0) (fun _ => rfl) _ rfl) (any_slot (r2R 1) (fun _ => rfl) _ rfl)
theorem r2_unslots (x : Bool) (c : Dev nD) : iprop(any (r2S x 0) c Finset.univ ∗ any (r2S x 1) c Finset.univ) ⊢ any (F := F) (r2M x) c Finset.univ := by
  rw [r2_univ]
  refine BIBase.Entails.trans ?_ (any_join r2_disj)
  exact BIClass.sep_mono (any_unslot (r2R 0) (fun _ => rfl) _ rfl) (any_unslot (r2R 1) (fun _ => rfl) _ rfl)

theorem eb_slots  (c : Dev nD) : any (F := F) (ebM) c Finset.univ ⊢ iprop(any (ebS 0) c Finset.univ ∗ any (ebS 1) c Finset.univ) := by
  rw [eb_univ]
  refine (any_split eb_disj).trans ?_
  exact BIClass.sep_mono (any_slot (ebR 0) (fun _ => rfl) _ rfl) (any_slot (ebR 1) (fun _ => rfl) _ rfl)
theorem eb_unslots  (c : Dev nD) : iprop(any (ebS 0) c Finset.univ ∗ any (ebS 1) c Finset.univ) ⊢ any (F := F) (ebM) c Finset.univ := by
  rw [eb_univ]
  refine BIBase.Entails.trans ?_ (any_join eb_disj)
  exact BIClass.sep_mono (any_unslot (ebR 0) (fun _ => rfl) _ rfl) (any_unslot (ebR 1) (fun _ => rfl) _ rfl)

theorem acc_groups (x : Bool) (c : Dev nD) : any (F := F) (accM x) c Finset.univ ⊢ iprop(any (accM x) c (Gs 0) ∗ any (accM x) c (Gs 1)) := by
  rw [Gs_univ]; exact any_split Gs_disj
theorem acc_ungroups (x : Bool) (c : Dev nD) : iprop(any (accM x) c (Gs 0) ∗ any (accM x) c (Gs 1)) ⊢ any (F := F) (accM x) c Finset.univ := by
  rw [Gs_univ]; exact any_join Gs_disj
theorem out_groups (c : Dev nD) : any (F := F) outM c Finset.univ ⊢ iprop(any outM c (oRows 0) ∗ any outM c (oRows 1)) := by
  rw [oRows_univ]; exact any_split oRows_disj

/-- A channel's buffers for one group of rows. -/
def Slots (x : Bool) (rg : Fin 2) (c : Dev nD) : sProp 𝕄 :=
  iprop(any (F := F) (accM x) c (Gs rg) ∗ any (r1S x rg) c Finset.univ ∗ any (r2S x rg) c Finset.univ)

/-- The buffers the kernel allocates, whole. -/
def Scratch (c : Dev nD) : sProp 𝕄 :=
  iprop(any (F := F) (accM false) c Finset.univ ∗ any (accM true) c Finset.univ ∗ any ebM c Finset.univ
    ∗ any (r1M false) c Finset.univ ∗ any (r1M true) c Finset.univ ∗ any (r2M false) c Finset.univ ∗ any (r2M true) c Finset.univ)
/-- The same, slot by slot. -/
def Split (c : Dev nD) : sProp 𝕄 :=
  iprop((any (F := F) (ebS 0) c Finset.univ ∗ any (ebS 1) c Finset.univ)
    ∗ Slots false 0 c ∗ Slots true 0 c ∗ Slots false 1 c ∗ Slots true 1 c)

theorem scratch_eq (c : Dev nD) :
    (Pipeline.scopedRest (Ix := Unit) (Name := ℕ) (U := UU) (Lvl := ℕ) (Val := Elt F) spec0 c : sProp 𝕄) ⊢ Scratch c := by
  rw [scopedRest0_eq]
  unfold Scratch
  iintro ⟨H0, H1, H2, H3, H4, H5, H6⟩
  isplitl [H0]; · iapply (any_whole (b := cc0_scratch0)); iexact H0
  isplitl [H1]; · iapply (any_whole (b := cc0_scratch1)); iexact H1
  isplitl [H2]; · iapply (any_whole (b := cc0_scratch2)); iexact H2
  isplitl [H3]; · iapply (any_whole (b := cc0_scratch3)); iexact H3
  isplitl [H4]; · iapply (any_whole (b := cc0_scratch4)); iexact H4
  isplitl [H5]; · iapply (any_whole (b := cc0_scratch5)); iexact H5
  iapply (any_whole (b := cc0_scratch6)); iexact H6
theorem scratch_back (c : Dev nD) :
    Scratch c ⊢ (Pipeline.scopedRest (Ix := Unit) (Name := ℕ) (U := UU) (Lvl := ℕ) (Val := Elt F) spec0 c : sProp 𝕄) := by
  rw [scopedRest0_eq]
  unfold Scratch
  iintro ⟨H0, H1, H2, H3, H4, H5, H6⟩
  isplitl [H0]; · iapply (any_unwhole (b := cc0_scratch0)); iexact H0
  isplitl [H1]; · iapply (any_unwhole (b := cc0_scratch1)); iexact H1
  isplitl [H2]; · iapply (any_unwhole (b := cc0_scratch2)); iexact H2
  isplitl [H3]; · iapply (any_unwhole (b := cc0_scratch3)); iexact H3
  isplitl [H4]; · iapply (any_unwhole (b := cc0_scratch4)); iexact H4
  isplitl [H5]; · iapply (any_unwhole (b := cc0_scratch5)); iexact H5
  iapply (any_unwhole (b := cc0_scratch6)); iexact H6

theorem scratch_split (c : Dev nD) : Scratch (F := F) c ⊢ Split c := by
  unfold Scratch Split Slots
  iintro ⟨H0, H1, H2, H3, H4, H5, H6⟩
  ihave H0 := (acc_groups false c) $$ H0
  ihave H1 := (acc_groups true c) $$ H1
  ihave H2 := (eb_slots c) $$ H2
  ihave H3 := (r1_slots false c) $$ H3
  ihave H4 := (r1_slots true c) $$ H4
  ihave H5 := (r2_slots false c) $$ H5
  ihave H6 := (r2_slots true c) $$ H6
  icases H0 with ⟨A0, A1⟩
  icases H1 with ⟨B0, B1⟩
  icases H3 with ⟨C0, C1⟩
  icases H4 with ⟨D0, D1⟩
  icases H5 with ⟨E0, E1⟩
  icases H6 with ⟨F0, F1⟩
  isplitl [H2]; · iexact H2
  isplitl [A0 C0 E0]
  · isplitl [A0]; · iexact A0
    isplitl [C0] <;> iassumption
  isplitl [B0 D0 F0]
  · isplitl [B0]; · iexact B0
    isplitl [D0] <;> iassumption
  isplitl [A1 C1 E1]
  · isplitl [A1]; · iexact A1
    isplitl [C1] <;> iassumption
  isplitl [B1]; · iexact B1
  isplitl [D1] <;> iassumption
theorem scratch_join (c : Dev nD) : Split (F := F) c ⊢ Scratch c := by
  unfold Scratch Split Slots
  iintro ⟨H2, ⟨A0, C0, E0⟩, ⟨B0, D0, F0⟩, ⟨A1, C1, E1⟩, ⟨B1, D1, F1⟩⟩
  isplitl [A0 A1]
  · iapply (acc_ungroups false c); isplitl [A0] <;> iassumption
  isplitl [B0 B1]
  · iapply (acc_ungroups true c); isplitl [B0] <;> iassumption
  isplitl [H2]
  · iapply (eb_unslots c); iexact H2
  isplitl [C0 C1]
  · iapply (r1_unslots false c); isplitl [C0] <;> iassumption
  isplitl [D0 D1]
  · iapply (r1_unslots true c); isplitl [D0] <;> iassumption
  isplitl [E0 E1]
  · iapply (r2_unslots false c); isplitl [E0] <;> iassumption
  iapply (r2_unslots true c); isplitl [F0] <;> iassumption

/-! ## Families over the transfers -/

theorem ti_eq (Φ : TI → sProp 𝕄) : bigSep Finset.univ Φ
    = iprop(Φ (0, 0, false) ∗ Φ (0, 1, false) ∗ Φ (0, 2, false) ∗ Φ (0, 3, false) ∗ Φ (0, 0, true) ∗ Φ (0, 1, true) ∗ Φ (0, 2, true) ∗ Φ (0, 3, true)
      ∗ Φ (1, 0, false) ∗ Φ (1, 1, false) ∗ Φ (1, 2, false) ∗ Φ (1, 3, false) ∗ Φ (1, 0, true) ∗ Φ (1, 1, true) ∗ Φ (1, 2, true) ∗ Φ (1, 3, true)) :=
  bigSep_univ_eq_bigSepL [(0, 0, false), (0, 1, false), (0, 2, false), (0, 3, false), (0, 0, true), (0, 1, true), (0, 2, true), (0, 3, true),
    (1, 0, false), (1, 1, false), (1, 2, false), (1, 3, false), (1, 0, true), (1, 1, true), (1, 2, true), (1, 3, true)] (by decide) (by decide) Φ

theorem bool_prod (Φ : Bool × TI → sProp 𝕄) : bigSep Finset.univ Φ
    = iprop((bigSep Finset.univ fun t : TI => Φ (false, t)) ∗ bigSep Finset.univ fun t : TI => Φ (true, t)) := by
  rw [bigSep_univ_prod]
  exact bigSep_univ_eq_bigSepL [false, true] (by decide) (by decide) _

theorem big_two {I : Type} {S : Finset I} {Φ Ψ : I → sProp 𝕄} :
    bigSep S (fun i => iprop(Φ i ∗ Ψ i)) ⊢ iprop(bigSep S Φ ∗ bigSep S Ψ) := by rw [bigSep_sep']
theorem big_one {I : Type} {S : Finset I} {Φ Ψ : I → sProp 𝕄} :
    iprop(bigSep S Φ ∗ bigSep S Ψ) ⊢ bigSep S (fun i => iprop(Φ i ∗ Ψ i)) := by rw [bigSep_sep']

def quad (Φ : TI → sProp 𝕄) (x : Bool) (rg : Fin 2) : sProp 𝕄 := iprop(Φ (rg, 0, x) ∗ Φ (rg, 1, x) ∗ Φ (rg, 2, x) ∗ Φ (rg, 3, x))

theorem ti_quads (Φ : TI → sProp 𝕄) : bigSep Finset.univ Φ ⊢ iprop(quad Φ false 0 ∗ quad Φ true 0 ∗ quad Φ false 1 ∗ quad Φ true 1) := by
  rw [ti_eq]; unfold quad
  iintro ⟨A0, A1, A2, A3, B0, B1, B2, B3, C0, C1, C2, C3, D0, D1, D2, D3⟩
  isplitl [A0 A1 A2 A3]
  · isplitl [A0]; · iexact A0
    isplitl [A1]; · iexact A1
    isplitl [A2] <;> iassumption
  isplitl [B0 B1 B2 B3]
  · isplitl [B0]; · iexact B0
    isplitl [B1]; · iexact B1
    isplitl [B2] <;> iassumption
  isplitl [C0 C1 C2 C3]
  · isplitl [C0]; · iexact C0
    isplitl [C1]; · iexact C1
    isplitl [C2] <;> iassumption
  isplitl [D0]; · iexact D0
  isplitl [D1]; · iexact D1
  isplitl [D2] <;> iassumption
theorem quads_ti (Φ : TI → sProp 𝕄) : iprop(quad Φ false 0 ∗ quad Φ true 0 ∗ quad Φ false 1 ∗ quad Φ true 1) ⊢ bigSep Finset.univ Φ := by
  rw [ti_eq]; unfold quad
  iintro ⟨⟨A0, A1, A2, A3⟩, ⟨B0, B1, B2, B3⟩, ⟨C0, C1, C2, C3⟩, D0, D1, D2, D3⟩
  isplitl [A0]; · iexact A0
  isplitl [A1]; · iexact A1
  isplitl [A2]; · iexact A2
  isplitl [A3]; · iexact A3
  isplitl [B0]; · iexact B0
  isplitl [B1]; · iexact B1
  isplitl [B2]; · iexact B2
  isplitl [B3]; · iexact B3
  isplitl [C0]; · iexact C0
  isplitl [C1]; · iexact C1
  isplitl [C2]; · iexact C2
  isplitl [C3]; · iexact C3
  isplitl [D0]; · iexact D0
  isplitl [D1]; · iexact D1
  isplitl [D2] <;> iassumption

/-- A device's landing slots and that its receiving cells are open, packed as what its partners get at the barrier. -/
theorem pays (c : Dev nD) :
    iprop((any (F := F) (r1S false 0) c Finset.univ ∗ any (r2S false 0) c Finset.univ) ∗ (any (r1S true 0) c Finset.univ ∗ any (r2S true 0) c Finset.univ)
      ∗ (any (r1S false 1) c Finset.univ ∗ any (r2S false 1) c Finset.univ) ∗ (any (r1S true 1) c Finset.univ ∗ any (r2S true 1) c Finset.univ)
      ∗ bigSep Finset.univ fun t : TI => reached ER (rc t c) 0)
    ⊢ iprop(barPay false (P false c) ∗ barPay true (P true c)) := by
  rw [ti_eq]
  unfold barPay barPay1
  rw [P_P, P_P]
  iintro ⟨⟨F0, G0⟩, ⟨T0, U0⟩, ⟨F1, G1⟩, ⟨T1, U1⟩, #A0, #A1, #A2, #A3, #B0, #B1, #B2, #B3, #C0, #C1, #C2, #C3, #D0, #D1, #D2, #D3⟩
  isplitl [F0 U0 F1 U1]
  · isplitl [F0 U0]
    · isplitl [F0]; · iexact F0
      isplitl [U0]; · iexact U0
      isplitr; · iexact A0
      isplitr; · iexact B1
      isplitr; · iexact B2
      iexact A3
    isplitl [F1]; · iexact F1
    isplitl [U1]; · iexact U1
    isplitr; · iexact C0
    isplitr; · iexact D1
    isplitr; · iexact D2
    iexact C3
  isplitl [T0 G0]
  · isplitl [T0]; · iexact T0
    isplitl [G0]; · iexact G0
    isplitr; · iexact B0
    isplitr; · iexact A1
    isplitr; · iexact A2
    iexact B3
  isplitl [T1]; · iexact T1
  isplitl [G1]; · iexact G1
  isplitr; · iexact D0
  isplitr; · iexact C1
  isplitr; · iexact C2
  iexact D3

end Cert.KP
-- ==== Proof.Region.lean ====
/-
The kernel's region: what it is entered with, what its body leaves, its record.
-/
module

public import proofs.«01_k».proof.Proof.Body
public import proofs.«01_k».proof.Proof.Buffers
public import proofs.«01_k».proof.Proof.Gen.KernelIdeal.Points
public import Idealize.ShloMosaic.Lib.Pipeline.RegionTalk
public import Idealize.ShloMosaic.Lib.Rounds.Family
public import Idealize.ShloMosaic.Lib.Pipeline.ValueKit

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What the devices look up, and their blocks of rows. -/
def Xin : In F := ⟨fun c => V1 m c main_v8, fun c => V1 m c main_arg1⟩

/-- The buffers after the kernel. -/
def W2 (c : Dev nD) : Valuation τ sig (Elt F) := Function.update (V1 m c) main_v9 (OutF (Xin m))
theorem W2_of (c : Dev nD) (r : Ref sig .tc) (h : r ≠ main_v9) : W2 m c r = V1 m c r := by
  unfold W2
  rw [Function.update_of_ne (StableHlo.devRef_ne_of_ne h : (Proc.devRef .tc r : DevRef τ sig) ≠ Proc.devRef .tc main_v9)]
theorem W2_v9 (c : Dev nD) : W2 m c main_v9 = OutF (Xin m) := by unfold W2; rw [Function.update_self]

/-- The kernel's own semaphores: two for E's chunks, then the transfers'. -/
def osem : Fin 2 ⊕ (Bool × TI) → SemLoc sig
  | .inl s => .dma (eS s)
  | .inr k => sSem k
theorem osem_facts : Pipeline.OwnSemFacts spec0 osem := by decide

def Hs_ : Finset (DevRef τ sig) := {Proc.devRef .tc main_arg1}
def Sr_ : Finset (DevRef τ sig) := Pipeline.ucRefs τ sig \ Pipeline.arrRefs (τ := τ) spec0
theorem Hs_sub : Hs_ ⊆ Sr_ := by decide

/-- The tokens a device pays its partners' barrier cells with. -/
def BarToks (c : Dev nD) : sProp 𝕄 := iprop(dutyTok ER (bar (P false c)) 0 false ∗ dutyTok ER (bar (P true c)) 0 true)
def TxToks (t : TI) (c : Dev nD) : sProp 𝕄 := iprop(dutyTok ER (rc t (pk t c)) 0 false ∗ dutyTok ER (sc t c) 0 false)

/-- What the launch keeps for a device. -/
def Tin (c : Dev nD) : sProp 𝕄 :=
  iprop(∃ K, (Invs (Xin m) K ∗ bigSep Finset.univ fun d : Dev nD => reached ER (bar d) 0)
    ∗ (atPos ER (bar c) 0 ∅ 0 ∗ cred (tallyAt (bar c) () 2)) ∗ (bigSep Finset.univ fun k : Bool × TI => openTok ER ((c : Thread nD τ), sSem k))
    ∗ (bigSep Finset.univ fun t : TI => TxToks t c) ∗ (bigSep Finset.univ fun t : TI => cred (tallyAt (rc t c) () (NT t))) ∗ BarToks c)

/-- The same once its own cells are open. -/
def Xk (c : Dev nD) : sProp 𝕄 :=
  iprop(∃ K, Ctx (Xin m) K c ∗ (atPos ER (bar c) 0 ∅ 0 ∗ cred (tallyAt (bar c) () 2)) ∗ (bigSep Finset.univ fun t : TI => Tk t c)
    ∗ BarToks c ∗ (bigSep Finset.univ fun t : TI => reached ER (rc t c) 0)
    ∗ semVal ((c : Thread nD τ), .dma (eS 0)) 0 ∗ semVal ((c : Thread nD τ), .dma (eS 1)) 0)

def Yk (c : Dev nD) : sProp 𝕄 := semVal (bar c) 0

theorem own_eq (c : Dev nD) : (Pipeline.ownSems0 osem c : sProp 𝕄)
    = iprop((semVal ((c : Thread nD τ), .dma (eS 0)) 0 ∗ semVal ((c : Thread nD τ), .dma (eS 1)) 0)
      ∗ bigSep Finset.univ fun k : Bool × TI => semVal ((c : Thread nD τ), sSem k) 0) := by
  unfold Pipeline.ownSems0
  rw [bigSep_univ_sum, BI.bigSep_fin_two]
  rfl

theorem sSem_mem (k : Bool × TI) (c : Dev nD) : ((c : Thread nD τ), sSem k) ∈ barCells ∪ scCells := by
  obtain ⟨b, t⟩ := k
  cases b
  · exact sc_mem t c
  · exact rc_mem t c

theorem at_cells (K : GSem nD τ sig → ℕ) (c : Dev nD) (Φ : Bool × TI → sProp 𝕄) :
    iprop(Invs (Xin m) K ∗ bigSep Finset.univ Φ)
      ⊢ bigSep Finset.univ fun k : Bool × TI => iprop(cellInv ER (Rd (Xin m)) (K ((c : Thread nD τ), sSem k)) ((c : Thread nD τ), sSem k) ∗ Φ k) :=
  bigSep_with_persistent fun k _ => by
    iintro ⟨#H, HΦ⟩
    isplitr; · iapply (Invs_at (Xin m) K (sSem_mem k c)); iexact H
    iexact HΦ

theorem tk_one (t : TI) (c : Dev nD) :
    iprop(TxToks (F := F) t c ∗ atPos ER (sc t c) 0 ∅ 0 ∗ atPos ER (rc t c) 0 ∅ 0 ∗ cred (tallyAt (rc t c) () (NT t))) ⊢ Tk t c := by
  unfold TxToks Tk
  iintro ⟨⟨H1, H2⟩, H3, H4, H5⟩
  isplitl [H1]; · iexact H1
  isplitl [H2]; · iexact H2
  isplitl [H3]; · iexact H3
  isplitl [H4] <;> iassumption
theorem tk_intro (c : Dev nD) :
    iprop((bigSep Finset.univ fun t : TI => TxToks (F := F) t c) ∗ (bigSep Finset.univ fun t : TI => atPos ER (sc t c) 0 ∅ 0)
      ∗ (bigSep Finset.univ fun t : TI => atPos ER (rc t c) 0 ∅ 0) ∗ bigSep Finset.univ fun t : TI => cred (tallyAt (rc t c) () (NT t)))
      ⊢ bigSep Finset.univ fun t : TI => Tk t c := by
  rw [← bigSep_sep', ← bigSep_sep', ← bigSep_sep']
  exact bigSep_mono fun t _ => tk_one t c

theorem hopen (c : Dev nD) : iprop(Tin m c ∗ Pipeline.ownSems0 osem c ∗ levAts L lv) ⊢ (|={Set.univ}=> Xk m c : sProp 𝕄) := by
  rw [own_eq]
  unfold Tin Xk
  iintro ⟨⟨%K, ⟨#HI, #HB⟩, Hat, Hop, Htx, Hcr, Hbt⟩, ⟨He, Hs⟩, #Hlev⟩
  ihave Hop := (at_cells m K c _) $$ [Hop]
  · isplitr; · iexact HI
    iexact Hop
  imod (Rounds.cells_open ER (Rd (Xin m)) Finset.univ (fun k : Bool × TI => ((c : Thread nD τ), sSem k)) (fun k => K ((c : Thread nD τ), sSem k))
    (fun k _ => Set.mem_univ _)) $$ [Hop Hs] with H
  · isplitl [Hop] <;> iassumption
  ihave H := big_two $$ H
  icases H with ⟨Ha, Hr⟩
  ihave Ha := (Entails.of_eq (bool_prod _)) $$ Ha
  ihave Hr := (Entails.of_eq (bool_prod _)) $$ Hr
  icases Ha with ⟨Has, Har⟩
  icases Hr with ⟨#Hrs, Hrr⟩
  imodintro
  iexists K
  isplitr
  · unfold Ctx
    isplitr; · iexact HI
    isplitr; · iexact Hlev
    isplitr; · iexact Hrs
    iexact HB
  isplitl [Hat]; · iexact Hat
  isplitl [Htx Has Har Hcr]
  · iapply (tk_intro c)
    isplitl [Htx]; · iexact Htx
    isplitl [Has]; · iexact Has
    isplitl [Har]; · iexact Har
    iexact Hcr
  isplitl [Hbt]; · iexact Hbt
  isplitl [Hrr]; · iexact Hrr
  iexact He

/-- Before the body, and after. -/
def Φ0 (c : Dev nD) : sProp 𝕄 :=
  iprop(Pipeline.scopedRest spec0 c ∗ (∃ r, prngReg c r) ∗ StableHlo.held (c.tc : Thread nD τ) Hs_ (V1 m c) ∗ Xk m c)
def Φ1 (c : Dev nD) : sProp 𝕄 :=
  iprop(Pipeline.scopedRest spec0 c ∗ (∃ r, prngReg c r) ∗ StableHlo.held (c.tc : Thread nD τ) Hs_ (W2 m c) ∗ Pipeline.ownSems0 osem c ∗ Yk c)

def dat0 (c : Dev nD) : Pipeline.Dat τ (Elt F) Unit ℕ UU ℕ cfg0 c where
  A w := V1 m c (Proc.devRef .tc (Pipeline.arrRef spec0 w))
  after w t := match w with
    | 0 => (Xin m).ids c
    | 1 => OutF (Xin m)
  Φ t := if t.val = 0 then Φ0 m c else Φ1 m c
  q _ := fullShare
  owed t := if t.val = 0 then OtR c 18 else 0
def pdats : (p : Fin 1) → (c : Dev nD) → Pipeline.Dat τ (Elt F) Unit ℕ UU ℕ (cfgs p) c
  | 0 => dat0 m

theorem owed_zero (c : Dev nD) : (dat0 m c).owed 0 = OtR c 18 := by
  show (if (0 : Fin (cfg0.N + 1)).val = 0 then OtR c 18 else 0) = OtR c 18
  exact if_pos rfl
theorem owed_last (c : Dev nD) : (dat0 m c).owed (Fin.last _) = 0 := by
  show (if (Fin.last cfg0.N).val = 0 then OtR c 18 else 0) = 0
  rw [Fin.val_last, if_neg (by rw [show cfg0.N = 1 from N_0]; decide)]

theorem ids_found (c : Dev nD) (d) : (dat0 m c).before (0 : Fin 2) t0_0 d = (Xin m).ids c := by
  unfold Pipeline.Dat.before
  rw [if_pos (fetch0_0 t0_0)]
  funext j
  show (dat0 m c).blockOf (0 : Fin 2) t0_0 j = _
  blk_simp
  show V1 m c main_v8 _ = V1 m c main_v8 j
  congr 1
  funext a
  apply Fin.ext
  blk_simp
  rw [show win0_0.index t0_0 a = 0 from (by decide +kernel : ∀ a, win0_0.index t0_0 a = 0) a, Nat.zero_mul, Nat.zero_add]

theorem out_final (c : Dev nD) : (dat0 m c).arrAt (1 : Fin 2) cfg0.N = OutF (Xin m) := by
  refine (dat0 m c).arrAt_eq_of_after_last (1 : Fin 2) t0_0 (by decide +kernel) _ fun j => ?_
  blk_simp
  rfl

theorem owesAt_intro (c : Dev nD) (t : Fin (cfg0.N + 1)) (n : ℕ) (h0 : (dat0 m c).owed t = OtR c n) :
    Ow c n ⊢ ((dat0 m c).owesAt () t : sProp 𝕄) := by
  unfold Pipeline.Dat.owesAt Pipeline.owesWithin Pipeline.Dat.bound Ow
  rw [h0]
  iintro ⟨%W, HO⟩
  iexists W
  isplitr; · ipureintro; exact fun _ _ => Or.inl trivial
  iexact HO
theorem owesAt_elim (c : Dev nD) (t : Fin (cfg0.N + 1)) (n : ℕ) (h0 : (dat0 m c).owed t = OtR c n) :
    ((dat0 m c).owesAt () t : sProp 𝕄) ⊢ Ow c n := by
  unfold Pipeline.Dat.owesAt Pipeline.owesWithin Ow
  rw [h0]
  iintro ⟨%W, -, HO⟩
  iexists W
  iexact HO

theorem held_E (c : Dev nD) (W : Valuation τ sig (Elt F)) (h : W main_arg1 = (Xin m).En c) :
    (StableHlo.held (c.tc : Thread nD τ) Hs_ W : sProp 𝕄) ⊢ iprop(pts EM c Finset.univ full.left ((Xin m).En c) ∗ pts EM c Finset.univ full.right ((Xin m).En c)) := by
  unfold StableHlo.held Hs_
  rw [BI.bigSep_singleton]
  refine BIBase.Entails.trans ?_ pts_halve
  rw [← h]
  exact pts_whole (b := main_arg1) (w := W main_arg1)
theorem E_held (c : Dev nD) (W : Valuation τ sig (Elt F)) (h : W main_arg1 = (Xin m).En c) :
    iprop(pts EM c Finset.univ full.left ((Xin m).En c) ∗ pts EM c Finset.univ full.right ((Xin m).En c)) ⊢ (StableHlo.held (c.tc : Thread nD τ) Hs_ W : sProp 𝕄) := by
  unfold StableHlo.held Hs_
  rw [BI.bigSep_singleton]
  refine pts_unhalve.trans ?_
  rw [← h]
  exact pts_unwhole (b := main_arg1) (w := W main_arg1)

/-- What the body runs with, of what the region holds. -/
theorem enter (K : GSem nD τ sig → ℕ) (c : Dev nD) :
    iprop((Pipeline.scopedRest spec0 c ∗ StableHlo.held (c.tc : Thread nD τ) Hs_ (V1 m c))
      ∗ ((atPos ER (bar c) 0 ∅ 0 ∗ cred (tallyAt (bar c) () 2)) ∗ (bigSep Finset.univ fun t : TI => Tk t c)
        ∗ BarToks c ∗ (bigSep Finset.univ fun t : TI => reached ER (rc t c) 0)
        ∗ semVal ((c : Thread nD τ), .dma (eS 0)) 0 ∗ semVal ((c : Thread nD τ), .dma (eS 1)) 0)
      ∗ Ow c 18 ∗ Ids (Xin m) c ∗ any outM c Finset.univ)
    ⊢ BPre (Xin m) c := by
  iintro ⟨⟨Hr, HE⟩, ⟨Hat, Htk, Hbt, #Hrc, He0, He1⟩, HO, HI, Hout⟩
  ihave Hr := (scratch_eq c) $$ Hr
  ihave Hr := (scratch_split c) $$ Hr
  unfold Split Slots BarToks
  icases Hr with ⟨⟨E0, E1⟩, ⟨A0, C0, G0⟩, ⟨B0, D0, J0⟩, ⟨A1, C1, G1⟩, ⟨B1, D1, J1⟩⟩
  ihave HE := (held_E m c _ rfl) $$ HE
  icases HE with ⟨HE0, HE1⟩
  ihave Hout := (out_groups c) $$ Hout
  icases Hout with ⟨Ho0, Ho1⟩
  ihave Hp := (pays c) $$ [C0 G0 D0 J0 C1 G1 D1 J1]
  · isplitl [C0 G0]; · isplitl [C0] <;> iassumption
    isplitl [D0 J0]; · isplitl [D0] <;> iassumption
    isplitl [C1 G1]; · isplitl [C1] <;> iassumption
    isplitl [D1 J1]; · isplitl [D1] <;> iassumption
    iexact Hrc
  icases Hp with ⟨Hp0, Hp1⟩
  icases Hbt with ⟨Hb0, Hb1⟩
  ihave Htk := (ti_quads _) $$ Htk
  unfold quad
  icases Htk with ⟨T0, T1, T2, T3⟩
  unfold BPre Efree Tk4
  isplitl [HO]; · iexact HO
  isplitl [HI]; · iexact HI
  isplitl [E0 He0 HE0]
  · isplitl [E0]; · iexact E0
    isplitl [He0]; · iexact He0
    iexact HE0
  isplitl [E1 He1 HE1]
  · isplitl [E1]; · iexact E1
    isplitl [He1]; · iexact He1
    iexact HE1
  isplitl [Ho0]; · iexact Ho0
  isplitl [Ho1]; · iexact Ho1
  isplitl [A0]; · iexact A0
  isplitl [B0]; · iexact B0
  isplitl [A1]; · iexact A1
  isplitl [B1]; · iexact B1
  isplitl [Hb0 Hp0]; · isplitl [Hb0] <;> iassumption
  isplitl [Hb1 Hp1]; · isplitl [Hb1] <;> iassumption
  isplitl [Hat]; · iexact Hat
  isplitl [T0]; · iexact T0
  isplitl [T1]; · iexact T1
  isplitl [T2]; · iexact T2
  iexact T3

theorem tk3_split (c : Dev nD) : (bigSep Finset.univ fun t : TI => Tk3 (F := F) t c)
    ⊢ bigSep Finset.univ fun k : Bool × TI => atPos ER ((c : Thread nD τ), sSem k) (0 + 1) ∅ 0 := by
  unfold Tk3
  rw [bool_prod]
  exact big_two

/-- What the body leaves, its cells closed. -/
theorem leave (K : GSem nD τ sig → ℕ) (c : Dev nD) :
    iprop(Ctx (Xin m) K c ∗ BPost (Xin m) c)
    ⊢ (|={Set.univ}=> iprop((Pipeline.scopedRest spec0 c ∗ StableHlo.held (c.tc : Thread nD τ) Hs_ (W2 m c) ∗ Pipeline.ownSems0 osem c ∗ Yk c)
      ∗ Ow c 0 ∗ Ids (Xin m) c ∗ pts outM c Finset.univ full (OutF (Xin m))) : sProp 𝕄) := by
  unfold Ctx BPost Efree
  iintro ⟨⟨#HI, -⟩, HO, Hid, ⟨E0, He0, HE0⟩, ⟨E1, He1, HE1⟩, Hout, Q0, Q1, Q2, Q3, Hat⟩
  ihave Q0 := (D4_end (Xin m) false 0 c) $$ Q0
  ihave Q1 := (D4_end (Xin m) true 0 c) $$ Q1
  ihave Q2 := (D4_end (Xin m) false 1 c) $$ Q2
  ihave Q3 := (D4_end (Xin m) true 1 c) $$ Q3
  icases Q0 with ⟨T0, S0⟩
  icases Q1 with ⟨T1, S1⟩
  icases Q2 with ⟨T2, S2⟩
  icases Q3 with ⟨T3, S3⟩
  ihave HT := (quads_ti (fun t : TI => Tk3 (F := F) t c)) $$ [T0 T1 T2 T3]
  · unfold quad
    isplitl [T0]; · iexact T0
    isplitl [T1]; · iexact T1
    isplitl [T2] <;> iassumption
  ihave HT := (tk3_split c) $$ HT
  ihave HT := (at_cells m K c _) $$ [HT]
  · isplitr; · iexact HI
    iexact HT
  imod (Rounds.cells_close ER (Rd (Xin m)) Finset.univ (fun k : Bool × TI => ((c : Thread nD τ), sSem k)) (fun k => K ((c : Thread nD τ), sSem k))
    (fun k _ => Set.mem_univ _) (fun k _ => id) (fun _ => 0 + 1) (fun k _ => duties_later (Xin m) _)) $$ HT with Hs
  ihave #HIb := (Invs_at (Xin m) K (bar_mem c)) $$ HI
  imod (Rounds.cell_close ER (Rd (Xin m)) (g := bar c) (Set.mem_univ (K (bar c))) id (duties_later (Xin m) (bar c))) $$ [Hat] with Hb
  · isplitr; · iexact HIb
    iexact Hat
  imodintro
  rw [own_eq]
  unfold Yk
  isplitr [HO Hid Hout]
  · isplitl [E0 E1 S0 S1 S2 S3]
    · iapply (scratch_back c)
      iapply (scratch_join c)
      unfold Split Slots
      isplitl [E0 E1]; · isplitl [E0] <;> iassumption
      isplitl [S0]; · iexact S0
      isplitl [S1]; · iexact S1
      isplitl [S2]; · iexact S2
      iexact S3
    isplitl [HE0 HE1]
    · iapply (E_held m c _ (W2_of m c main_arg1 (by decide)))
      isplitl [HE0]; · iexact HE0
      iexact HE1
    isplitl [He0 He1 Hs]
    · isplitl [He0 He1]; · isplitl [He0] <;> iassumption
      iexact Hs
    iexact Hb
  isplitl [HO]; · iexact HO
  isplitl [Hid] <;> iassumption

abbrev 𝒱₀ : Variants := Variants.none

end Cert.KP
-- ==== Proof.Record.lean ====
/-
The kernel's region as a segment of the program.
-/
module

public import proofs.«01_k».proof.Proof.Region

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem phi_first (c : Dev nD) : (dat0 m c).Φ t0_0.castSucc = Φ0 m c := rfl
theorem phi_last (c : Dev nD) : (dat0 m c).Φ t0_0.succ = Φ1 m c := rfl
theorem owed_first (c : Dev nD) : (dat0 m c).owed t0_0.castSucc = OtR c 18 := by
  show (if (t0_0.castSucc : Fin (cfg0.N + 1)).val = 0 then OtR c 18 else 0) = OtR c 18
  exact if_pos rfl
theorem owed_after (c : Dev nD) : (dat0 m c).owed t0_0.succ = OtR c 0 := by
  show (if (t0_0.succ : Fin (cfg0.N + 1)).val = 0 then OtR c 18 else 0) = 0
  exact if_neg (by rw [Fin.val_succ]; omega)

def bodyPre (c : Dev nD) : sProp 𝕄 :=
  iprop(Φ0 m c ∗ (dat0 m c).owesAt () t0_0.castSucc
    ∗ (∃ d, ∃ f : Buf (Elt F) ((c : Thread nD τ).loc cc0_stg0_0), ⌜f = (dat0 m c).before (0 : Fin 2) t0_0 d⌝ ∗ ((c : Thread nD τ).loc cc0_stg0_0 ↦{fullShare} f))
    ∗ (∃ d, ∃ f : Buf (Elt F) ((c : Thread nD τ).loc cc0_stg1_0), ⌜f = (dat0 m c).before (1 : Fin 2) t0_0 d⌝ ∗ ((c : Thread nD τ).loc cc0_stg1_0 ↦{fullShare} f)))
def bodyPost (c : Dev nD) : sProp 𝕄 :=
  iprop(Φ1 m c ∗ (dat0 m c).owesAt () t0_0.succ
    ∗ (∃ f : Buf (Elt F) ((c : Thread nD τ).loc cc0_stg0_0), ⌜f = (Xin m).ids c⌝ ∗ ((c : Thread nD τ).loc cc0_stg0_0 ↦{fullShare} f))
    ∗ (∃ f : Buf (Elt F) ((c : Thread nD τ).loc cc0_stg1_0), ⌜f = OutF (Xin m)⌝ ∗ ((c : Thread nD τ).loc cc0_stg1_0 ↦{fullShare} f)))

theorem body_run (c : Dev nD) : bodyPre m c ⊢ wp frame (wpE (defs₀ (F := F)) 𝒱₀ (c : Thread nD τ) none) Set.univ (bodyAt0 (F := F) t0_0) (fun _ => bodyPost m c) := by
  refine BIBase.Entails.trans ?_ (wp_fupd _ _ _ _ _)
  unfold bodyPre Φ0 Xk
  iintro ⟨⟨Hr, Hp, HE, ⟨%K, #HC, Hx⟩⟩, HO, ⟨%d0, %f0, %h0, Hi⟩, ⟨%d1, %f1, -, Ho⟩⟩
  ihave HO := (owesAt_elim m c _ 18 (owed_first m c)) $$ HO
  iapply (run_body (Xin m) K 𝒱₀) $$ [Hr HE Hx HO Hi Ho]
  · isplitr; · iexact HC
    iapply (enter m K c)
    isplitl [Hr HE]
    · isplitl [Hr] <;> iassumption
    isplitl [Hx]; · iexact Hx
    isplitl [HO]; · iexact HO
    isplitl [Hi]
    · iapply (pts_whole (b := cc0_stg0_0))
      have e : f0 = (Xin m).ids c := h0.trans (ids_found m c d0)
      rw [e]
      iexact Hi
    iapply (any_whole (b := cc0_stg1_0))
    iexists f1
    iexact Ho
  iintro HP
  ihave H := (leave m K c) $$ [HP]
  · isplitr; · iexact HC
    iexact HP
  imod H with ⟨⟨Hr, HE, Hs, HY⟩, HO, Hi, Ho⟩
  imodintro
  unfold bodyPost Φ1
  isplitl [Hr Hp HE Hs HY]
  · isplitl [Hr]; · iexact Hr
    isplitl [Hp]; · iexact Hp
    isplitl [HE]; · iexact HE
    isplitl [Hs] <;> iassumption
  isplitl [HO]
  · iapply (owesAt_intro m c t0_0.succ 0 (owed_after m c)); iexact HO
  isplitl [Hi]
  · iexists _; isplitr; · (ipureintro; rfl)
    iapply (pts_unwhole (b := cc0_stg0_0)); iexact Hi
  iexists _; isplitr; · (ipureintro; rfl)
  iapply (pts_unwhole (b := cc0_stg1_0)); iexact Ho

set_option maxRecDepth 65536 in
theorem body_obligation (c : Dev nD) : Pipeline.BodyObligation (dat0 (F := F) m c) (defs₀ (F := F)) 𝒱₀ () Set.univ := fun t => by
  rw [fin_N0 t]
  rw [bigSep_W0, bigSep_W0]
  simp only [owns_whole_eq]
  exact body_run m c

theorem owed_cut (c : Dev nD) (t : Fin (cfg0.N + 1)) (g : GSem nD τ sig) (i : Unit) (h : 0 < (dat0 (F := F) m c).owed t g i) :
    i ∈ L g ∧ (0 : ℕ) < lv g i := by
  have e : (dat0 (F := F) m c).owed t = if t.val = 0 then OtR c 18 else 0 := rfl
  rw [e] at h
  split at h
  · obtain ⟨n, hn, rfl⟩ := OtR_pos h
    refine ⟨L_due c n i, ?_⟩
    rw [lv_due]
    exact (by decide : ∀ n, n < 18 → 0 < dueL n) n hn
  · exact absurd h (Nat.lt_irrefl 0)

theorem share_eq (c : Dev nD) (w : Fin cfg0.W) : (dat0 m c).share w = fullShare := by unfold Pipeline.Dat.share; split <;> rfl

local notation "ℝ𝕊" => Pipeline.RegionSeg (pcfgs (F := F)) adm (pdats m) () defs₀ 𝒱₀ L lv

set_option backward.isDefEq.respectTransparency.types false in
def reg : ℝ𝕊 0 :=
  Pipeline.RegionSeg.ofTalk (pcfgs (F := F)) adm (pdats m) () defs₀ 𝒱₀ L lv 0 osem osem_facts
    Hs_ Sr_ Hs_sub launch0.toP rfl (fun c => (body_obligation m c).loose)
    (fun _ => 0) (fun c => OtR c 18) (fun c => (owed_zero m c).trans (zero_add _).symm) (owed_last m) (fun _ => rfl) (share_eq m)
    (V1 m) (W2 m) (fun c b hb => by
      obtain ⟨hb, -⟩ := Finset.mem_sdiff.mp hb
      obtain ⟨-, hb⟩ := Finset.mem_sdiff.mp hb
      unfold W2
      exact Function.update_of_ne (fun e => hb (by rw [e]; decide)) _ _)
    (Tin m) Yk (Xk m) Yk (hopen m) (fun c => by exact .rfl) (fun c => by exact .rfl)
    (fun c => by iintro H; imodintro; iexact H)
    (fun _ => 0)
    ⟨fun c w s => by rw [L_tc]; exact Finset.mem_singleton_self _,
     fun c w s => by fin_cases w <;> fin_cases s <;> exact Nat.le_refl 0,
     fun c t g i h => owed_cut m c t g i h⟩
    (fun _ => iprop(emp))
    (fun c w => rfl)
    (fun c w => by
      fin_cases w
      · exact ((dat0 m c).arrAt_in (0 : Fin 2) rfl _).trans (W2_of m c main_v8 (by decide)).symm
      · exact (out_final m c).trans (W2_v9 m c).symm)

end Cert.KP
-- ==== Proof.Launch.lean ====
/-
The launch: tokens and credits dealt to the devices, and the run of the whole program.
-/
module

public import proofs.«01_k».proof.Proof.Record

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The duties' tokens -/

theorem dma_ne (s : DmaSem sig) : (SemLoc.dma s : SemLoc sig) ≠ .reg barrier0 := fun h => by cases h
theorem sSem_ne (k : Bool × TI) : sSem k ≠ .reg barrier0 := by
  obtain ⟨b, t⟩ := k
  cases b <;> exact dma_ne _

/-- Every cell's duties: a device's barrier cell has one per channel, its transfer cells one each. -/
def tokEmb : Dev nD × (Bool ⊕ (Bool × TI)) ↪ GSem nD τ sig × ℕ × Bool where
  toFun p := match p.2 with
    | .inl b => (bar p.1, 0, b)
    | .inr k => (((p.1 : Thread nD τ), sSem k), 0, false)
  inj' := by
    rintro ⟨c, a⟩ ⟨d, b⟩ h
    have hc : c = d := by
      have := congrArg (fun t : GSem nD τ sig × ℕ × Bool => t.1.1.1) h
      rcases a with a | a <;> rcases b with b | b <;> exact this
    subst hc
    have hs := congrArg (fun t : GSem nD τ sig × ℕ × Bool => t.1.2) h
    have hb := congrArg (fun t : GSem nD τ sig × ℕ × Bool => t.2.2) h
    rcases a with a | a <;> rcases b with b | b
    · exact congrArg (fun z => (c, Sum.inl z)) hb
    · exact absurd hs.symm (sSem_ne b)
    · exact absurd hs (sSem_ne a)
    · exact congrArg (fun z => (c, Sum.inr z)) (sSem_inj hs)
def toks : Finset (GSem nD τ sig × ℕ × Bool) := Finset.univ.map tokEmb

theorem toks_eq : bigSep toks (fun x => (dutyTok ER x.1 x.2.1 x.2.2 : sProp 𝕄))
    = bigSep Finset.univ fun c : Dev nD => iprop((dutyTok ER (bar c) 0 false ∗ dutyTok ER (bar c) 0 true)
      ∗ ((bigSep Finset.univ fun t : TI => dutyTok ER (sc t c) 0 false) ∗ bigSep Finset.univ fun t : TI => dutyTok ER (rc t c) 0 false)) := by
  unfold toks
  rw [bigSep_map, bigSep_univ_prod]
  refine bigSep_congr fun c _ => ?_
  rw [bigSep_univ_sum, bool_prod]
  congr 1
  rw [show (Finset.univ : Finset Bool) = {false, true} from by decide, bigSep_insert (by decide), bigSep_singleton]
  rfl

def pEq (x : Bool) : Dev nD ≃ Dev nD := ⟨P x, P x, by revert x; decide, by revert x; decide⟩
def pkEq : Dev nD × TI ≃ Dev nD × TI :=
  ⟨fun p => (pk p.2 p.1, p.2), fun p => (pk p.2 p.1, p.2), fun p => Prod.ext (pk_pk _ _) rfl, fun p => Prod.ext (pk_pk _ _) rfl⟩

theorem rc_around (Φ : TI → Dev nD → sProp 𝕄) :
    (bigSep Finset.univ fun c : Dev nD => bigSep Finset.univ fun t : TI => Φ t c)
      = bigSep Finset.univ fun c : Dev nD => bigSep Finset.univ fun t : TI => Φ t (pk t c) := by
  rw [← bigSep_univ_prod (fun p : Dev nD × TI => Φ p.2 p.1), bigSep_univ_equiv pkEq, bigSep_univ_prod]
  rfl

/-- Each token handed to the device that pays with it. -/
theorem toks_around : (bigSep toks fun x => (dutyTok ER x.1 x.2.1 x.2.2 : sProp 𝕄))
    ⊢ bigSep Finset.univ fun c : Dev nD => iprop(BarToks c ∗ bigSep Finset.univ fun t : TI => TxToks t c) := by
  rw [toks_eq]
  unfold BarToks TxToks
  simp only [bigSep_sep']
  rw [bigSep_univ_equiv (pEq false) (fun c : Dev nD => (dutyTok ER (bar c) 0 false : sProp 𝕄)),
    bigSep_univ_equiv (pEq true) (fun c : Dev nD => (dutyTok ER (bar c) 0 true : sProp 𝕄)),
    rc_around (fun t c => (dutyTok ER (rc t c) 0 false : sProp 𝕄))]
  iintro ⟨H1, H2, H3⟩
  isplitl [H1]; · iexact H1
  isplitl [H3] <;> iassumption

/-! ## The launch's credits -/

theorem OtR_sum (c : Dev nD) (g : GSem nD τ sig) : ∀ n, OtR c n g () = ∑ i ∈ Finset.range n, if g = dueCell c i then dueN i else 0
  | 0 => rfl
  | n + 1 => by
    rw [Finset.sum_range_succ, ← OtR_sum c g n]
    show (OtR c n + tallyAt (dueCell c n) () (dueN n)) g () = _
    rw [Pi.add_apply, Finsupp.add_apply, tallyAt_apply]
    simp only [and_true]

/-- Where in the order of dues a transfer stands. -/
def txIx (t : TI) : ℕ := ((List.range 16).find? fun i => decide (txOf i = t)).getD 0
theorem txIx_lt : ∀ t, txIx t < 16 := by decide +kernel
theorem txOf_txIx : ∀ t, txOf (txIx t) = t := by decide +kernel
theorem txIx_txOf : ∀ i, i < 16 → txIx (txOf i) = i := by decide +kernel

theorem rS_inj {t u : TI} (h : (SemLoc.dma (rS t) : SemLoc sig) = .dma (rS u)) : t = u :=
  congrArg Prod.snd (sSem_inj (a₁ := (true, t)) (a₂ := (true, u)) h)

theorem owed_rc (d c : Dev nD) (t : TI) : OtR d 18 (rc t c) () = if d = pk t c then NT t else 0 := by
  rw [OtR_sum, Finset.sum_eq_single_of_mem (txIx t) (Finset.mem_range.mpr (by have := txIx_lt t; omega))]
  · unfold dueCell dueN
    rw [if_pos (txIx_lt t), if_pos (txIx_lt t), txOf_txIx]
    by_cases h : d = pk t c
    · subst h; rw [pk_pk, if_pos rfl, if_pos rfl]
    · rw [if_neg h, if_neg fun e => h ?_]
      have e' : c = pk t d := congrArg (fun g : GSem nD τ sig => g.1.1) e
      rw [e', pk_pk]
  · intro i _ hi
    refine if_neg fun e => ?_
    unfold dueCell at e
    split at e
    · next h =>
      have := rS_inj (congrArg Prod.snd e)
      exact hi (by rw [this, txIx_txOf i h])
    · exact dma_ne _ (congrArg (fun g : GSem nD τ sig => g.2) e)

theorem owed_bar (d c : Dev nD) : OtR d 18 (bar c) () = (if d = P true c then 1 else 0) + (if d = P false c then 1 else 0) := by
  have hb : ∀ x, (bar c = bar (P x d)) = (d = P x c) := fun x => propext
    ⟨fun e => by
      have e' : c = P x d := congrArg (fun g : GSem nD τ sig => g.1.1) e
      rw [e']; exact ((pEq x).left_inv d).symm, fun e => by rw [e]; congr 2; exact ((pEq x).left_inv c).symm⟩
  have h16 : dueCell d 16 = bar (P true d) := rfl
  have h17 : dueCell d 17 = bar (P false d) := rfl
  rw [OtR_sum, Finset.sum_range_succ, Finset.sum_range_succ, h16, h17, Finset.sum_eq_zero, Nat.zero_add]
  · simp only [hb]
    rfl
  · intro i hi
    refine if_neg fun e => ?_
    unfold dueCell at e
    rw [if_pos (Finset.mem_range.mp hi)] at e
    exact dma_ne _ (congrArg (fun g : GSem nD τ sig => g.2) e).symm

abbrev O₀ (c : Dev nD) : CellTallies nD τ sig Unit := OtR c 18

theorem launch_bar (c : Dev nD) :
    tallyOn (bar c) (launchCredit (Pipeline.owing O₀) 0 (bar c)) = (tallyAt (bar c) () 2 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib,
    Finset.sum_ite_eq' Finset.univ (P true c) fun _ => 1, Finset.sum_ite_eq' Finset.univ (P false c) fun _ => 1,
    if_pos (Finset.mem_univ _), if_pos (Finset.mem_univ _)]
theorem launch_rc (t : TI) (c : Dev nD) :
    tallyOn (rc t c) (launchCredit (Pipeline.owing O₀) 0 (rc t c)) = (tallyAt (rc t c) () (NT t) : CellTallies nD τ sig Unit) := by
  unfold tallyAt
  refine congrArg _ (Finsupp.ext fun u => ?_)
  cases u
  rw [Pipeline.launchCredit_owing, Finsupp.single_eq_same, Finset.sum_congr rfl fun d _ => owed_rc d c t,
    Finset.sum_ite_eq' Finset.univ (pk t c) fun _ => NT t, if_pos (Finset.mem_univ _)]

def rEmb : TI ↪ SemLoc sig := ⟨fun t => .dma (rS t), fun _ _ h => rS_inj h⟩

theorem creds (c : Dev nD) : (Pipeline.launchCred O₀ c : sProp 𝕄)
    ⊢ iprop(cred (tallyAt (bar c) () 2) ∗ bigSep Finset.univ fun t : TI => cred (tallyAt (rc t c) () (NT t))) := by
  unfold Pipeline.launchCred
  rw [bigSep_univ_at _ (SemLoc.reg barrier0), launch_bar]
  refine sep_mono_right ?_
  have hs : Finset.univ.map rEmb ⊆ (Finset.univ : Finset (SemLoc sig)).erase (.reg barrier0) := fun s h => by
    obtain ⟨t, -, rfl⟩ := Finset.mem_map.mp h
    exact Finset.mem_erase.mpr ⟨dma_ne _, Finset.mem_univ _⟩
  refine BIBase.Entails.trans (bigSep_subset hs) ?_
  rw [bigSep_map]
  exact Entails.of_eq (bigSep_congr fun t _ => congrArg cred (launch_rc t c))

/-! ## The launch state -/

abbrev EP : Emb (UR sig nD τ) 𝕄 := embL

def u₀ : UU :=
  (initOf (Pipeline.cells cfgs cellOf_inj) (Pipeline.launchToks cfgs cellOf_inj), (launchOf barCells scCells toks, 1))

/-- A resource kept whole on one device. -/
def onDev (c₀ : Dev nD) (X : sProp 𝕄) (c : Dev nD) : sProp 𝕄 := if c = c₀ then X else iprop(emp)
theorem onDev_all (c₀ : Dev nD) (X : sProp 𝕄) : bigSep Finset.univ (onDev c₀ X) = X := by
  have h : bigSep (Finset.univ.erase c₀) (onDev c₀ X) = (BI.emp : sProp 𝕄) := by
    have e : ∀ c ∈ Finset.univ.erase c₀, onDev c₀ X c = (BI.emp : sProp 𝕄) := fun c hc => if_neg (Finset.ne_of_mem_erase hc)
    rw [bigSep_congr e, BI.bigSep_emp_const]
  rw [bigSep_univ_at _ c₀, h, show onDev c₀ X c₀ = X from if_pos rfl]
  exact BI.equiv_iff.mp sep_emp

def G : Dev nD → sProp 𝕄 := onDev 0 (BI.own (ER (launchOf barCells scCells toks)))

theorem u₀_split : (ownU u₀ : sProp 𝕄)
    ⊢ iprop(BI.own (EP (initOf (Pipeline.cells cfgs cellOf_inj) (Pipeline.launchToks cfgs cellOf_inj))) ∗ bigSep Finset.univ G) := by
  unfold u₀ G
  rw [onDev_all]
  iintro Hu
  ihave H := (ownU_pair _ _) $$ Hu
  icases H with ⟨HP, HX⟩
  isplitl [HP]; · iexact HP
  ihave H := (own_pair_emb embR _ _) $$ HX
  icases H with ⟨HX, -⟩
  unfold ER
  iexact HX

theorem cells_disjoint : Disjoint (barCells : Finset (GSem nD τ sig)) scCells := by
  rw [Finset.disjoint_left]
  rintro g h₁ h₂
  unfold barCells at h₁
  unfold scCells at h₂
  obtain ⟨c, -, rfl⟩ := Finset.mem_map.mp h₁
  obtain ⟨ck, -, h⟩ := Finset.mem_map.mp h₂
  exact sSem_ne ck.2 (congrArg (fun g : GSem nD τ sig => g.2) h)

theorem unscoped_eq : ∀ sm : SemLoc sig, sm.isScoped .tc = false → sm = .reg barrier0 := by decide

theorem unscopedSems_eq (c : Dev nD) : (unscopedSems0 c : sProp 𝕄) = semVal (bar c) 0 := by
  unfold unscopedSems0
  rw [show (Finset.univ.filter fun sm : SemLoc sig => ¬ sm.isScoped .tc = true) = {SemLoc.reg barrier0} from by decide, BI.bigSep_singleton]

/-- What a device holds when its host operations begin, beside its buffers. -/
def Rst (c : Dev nD) : sProp 𝕄 := iprop(Tin m c ∗ (∃ r, prngReg c r) ∗ Ow c 18)

/-- What of it is not shared. -/
def Lin (c : Dev nD) : sProp 𝕄 :=
  iprop((atPos ER (bar c) 0 ∅ 0 ∗ (bigSep Finset.univ fun k : Bool × TI => openTok ER ((c : Thread nD τ), sSem k))
    ∗ (BarToks c ∗ bigSep Finset.univ fun t : TI => TxToks t c))
    ∗ (cred (tallyAt (bar c) () 2) ∗ bigSep Finset.univ fun t : TI => cred (tallyAt (rc t c) () (NT t)))
    ∗ StableHlo.held (c : Thread nD τ) (Pipeline.ucRefs τ sig) (V0 m c) ∗ (∃ r, prngReg c r) ∗ Ow c 18)
def Recs (κ : GSem nD τ sig → ℕ) : sProp 𝕄 := iprop(Invs (Xin m) κ ∗ bigSep Finset.univ fun d : Dev nD => reached ER (bar d) 0)
instance Recs_persistent (κ : GSem nD τ sig → ℕ) : BI.Persistent (Recs m κ) := by unfold Recs; infer_instance

theorem rst_intro (κ : GSem nD τ sig → ℕ) (c : Dev nD) :
    iprop(Recs m κ ∗ Lin m c) ⊢ iprop(StableHlo.held (c : Thread nD τ) (Pipeline.ucRefs τ sig) (V0 m c) ∗ Rst m c) := by
  unfold Recs Lin Rst Tin
  iintro ⟨⟨#HI, #HB⟩, ⟨Hat, Hop, Hbt, Htx⟩, ⟨Hc1, Hc2⟩, Hh, Hp, HO⟩
  isplitl [Hh]; · iexact Hh
  isplitr [Hp HO]
  · iexists κ
    isplitr
    · isplitr; · iexact HI
      iexact HB
    isplitl [Hat Hc1]; · isplitl [Hat] <;> iassumption
    isplitl [Hop]; · iexact Hop
    isplitl [Htx]; · iexact Htx
    isplitl [Hc2] <;> iassumption
  isplitl [Hp] <;> iassumption

variable (ρ : Dev nD → PrngReg)

/-- A device's own part of the launch. -/
theorem core_in (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(((cred (tallyAt (bar c) () 2) ∗ bigSep Finset.univ fun t : TI => cred (tallyAt (rc t c) () (NT t)))
      ∗ StableHlo.held (c : Thread nD τ) (Pipeline.ucRefs τ sig) (V0 m c) ∗ (∃ r, prngReg c r) ∗ Ow c 18) ∗ (semVal (bar c) 0 ∗ G c)) : sProp 𝕄) := by
  rw [show unscopedBufs c (fun b => m ((c : Thread nD τ).loc b)) = StableHlo.held (c : Thread nD τ) (Pipeline.ucRefs τ sig) (V0 m c) from
    Pipeline.unscopedBufs_held c (V0 m c), unscopedSems_eq]
  unfold Ow
  iintro ⟨Hh, Hs, HO, Hc, Hp, HG⟩
  ihave Hc := (creds c) $$ Hc
  isplitr [Hs HG]
  · isplitl [Hc]; · iexact Hc
    isplitl [Hh]; · iexact Hh
    isplitl [Hp]; · iexists _; iexact Hp
    iexists ∅; iexact HO
  isplitl [Hs] <;> iassumption
theorem cores_in : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c))
    ⊢ (bigSep Finset.univ fun c : Dev nD => iprop(((cred (tallyAt (bar c) () 2) ∗ bigSep Finset.univ fun t : TI => cred (tallyAt (rc t c) () (NT t)))
      ∗ StableHlo.held (c : Thread nD τ) (Pipeline.ucRefs τ sig) (V0 m c) ∗ (∃ r, prngReg c r) ∗ Ow c 18) ∗ (semVal (bar c) 0 ∗ G c)) : sProp 𝕄) :=
  bigSep_mono fun c _ => core_in m ρ c

theorem bars_eq (Φ : GSem nD τ sig → sProp 𝕄) : bigSep barCells Φ = bigSep Finset.univ fun c : Dev nD => Φ (bar c) := by
  unfold barCells; rw [bigSep_map]; rfl
theorem scs_eq (Φ : GSem nD τ sig → sProp 𝕄) :
    bigSep scCells Φ = bigSep Finset.univ fun c : Dev nD => bigSep Finset.univ fun k : Bool × TI => Φ ((c : Thread nD τ), sSem k) := by
  unfold scCells; rw [bigSep_map, bigSep_univ_prod]; rfl

abbrev T₀ (c : Dev nD) : sProp 𝕄 := iprop(StableHlo.held (c : Thread nD τ) (Pipeline.ucRefs τ sig) (V0 m c) ∗ Rst m c)
abbrev Tₙ (c : Dev nD) : sProp 𝕄 := iprop(StableHlo.held (c : Thread nD τ) (Pipeline.ucRefs τ sig) (W2 m c) ∗ semVal (bar c) 0)

theorem deal (κ : GSem nD τ sig → ℕ) : iprop(Recs m κ ∗ bigSep Finset.univ fun c : Dev nD => Lin m c) ⊢ bigSep Finset.univ (T₀ m) :=
  bigSep_with_persistent fun c _ => rst_intro m κ c

/-- The launch: every cell under its invariant, every token and credit with the device that uses it. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H := (cores_in m ρ) $$ H
  ihave H := big_two $$ H
  icases H with ⟨HB, H⟩
  ihave H := big_two $$ H
  icases H with ⟨Hv, HG⟩
  unfold G
  ihave HG := (Entails.of_eq (onDev_all (F := F) 0 _)) $$ HG
  ihave Hv := (Entails.of_eq (bars_eq (F := F) (fun g => semVal g 0)).symm) $$ Hv
  imod (Rounds.fund_launch ER (Rd (Xin m)) cells_disjoint (fun g _ h => h) toks) $$ [Hv HG] with ⟨%κ, -, #HI, #Hr, Hat, Hop, Htk⟩
  · isplitl [Hv] <;> iassumption
  ihave Hat := (Entails.of_eq (bars_eq (F := F) (fun g => atPos ER g 0 ∅ 0))) $$ Hat
  ihave Hop := (Entails.of_eq (scs_eq (F := F) (fun g => openTok ER g))) $$ Hop
  ihave #Hr := (Entails.of_eq (bars_eq (F := F) (fun g => reached ER g 0))) $$ Hr
  ihave Htk := (toks_around (F := F)) $$ Htk
  imodintro
  iapply (deal m κ)
  isplitr
  · unfold Recs Invs
    isplitr; · iexact HI
    iexact Hr
  unfold Lin
  iapply big_one
  isplitr [HB]
  · iapply big_one
    isplitl [Hat]; · iexact Hat
    iapply big_one
    isplitl [Hop] <;> iassumption
  iexact HB

/-! ## The run -/

theorem arr_sub : Pipeline.arrRefs (τ := τ) spec0 ⊆ Pipeline.ucRefs τ sig := by decide

theorem reg_pre (c : Dev nD) :
    iprop(StableHlo.held (c : Thread nD τ) (Pipeline.ucRefs τ sig) (V1 m c) ∗ Rst m c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) Sr_ (V1 m c) ∗ emp) ∗ Tin m c ∗ ∃ Wd, owes (c : Thread nD τ) (0 + O₀ c) Wd)
  rw [StableHlo.held_sub_split (c.tc : Thread nD τ) arr_sub, zero_add]
  unfold Rst Ow Sr_
  iintro ⟨⟨H1, H2⟩, HT, Hp, HO⟩
  isplitl [H1]; · iexact H1
  isplitl [Hp]; · iexact Hp
  isplitl [H2]
  · isplitl [H2]; · iexact H2
    iempintro
  isplitl [HT] <;> iassumption

theorem reg_post (c : Dev nD) :
    (reg m).post c ⊢ iprop(Tₙ m c ∗ ∃ W, owes (c : Thread nD τ) (0 : CellTallies nD τ sig Unit) W) := by
  show iprop(StableHlo.held (c.tc : Thread nD τ) (Pipeline.arrRefs (τ := τ) spec0) (W2 m c) ∗ (∃ r, prngReg c r)
    ∗ (StableHlo.held (c.tc : Thread nD τ) Sr_ (W2 m c) ∗ emp) ∗ Yk c ∗ ∃ Wd, owes (c : Thread nD τ) (0 : CellTallies nD τ sig Unit) Wd) ⊢ _
  unfold Tₙ
  rw [StableHlo.held_sub_split (c.tc : Thread nD τ) arr_sub (W2 m c)]
  unfold Yk Sr_
  iintro ⟨H1, -, ⟨H2, -⟩, Hb, HO⟩
  isplitr [HO]
  · isplitr [Hb]
    · isplitl [H1] <;> iassumption
    iexact Hb
  iexact HO

def Es : Fin 2 → Dev nD → sProp 𝕄 := fun _ => Rst m
abbrev sgs (c : Dev nD) : List (Pipeline.Seg (pcfgs (F := F)) adm (pdats m) () defs₀ 𝒱₀ L lv) :=
  segs m 𝒱₀ L lv (Es m) () (pdats m) (reg m) c

set_option backward.isDefEq.respectTransparency.types false in
/-- From any memory with the counters at zero the program ends on all four devices, every buffer outside the kernel's own as
    `W2` says, every counter at zero. -/
theorem run_main : θ_run (defs (F := F)) (onTc (τ := τ) (main (F := F))) ⟨m, fun _ => 0, ρ⟩
    (fun r => (∀ c : Dev nD, ∀ b ∈ Pipeline.ucRefs τ sig, r.2.mem (c, b) = W2 m c b) ∧ r.2.sem = fun _ => 0) :=
  Pipeline.θ_run_regions_kit_dev_sems (pcfgs (F := F)) adm (pdats m) () cellOf_inj EP defs₀ 𝒱₀ L lv m ρ main (sgs m)
    (fun c Q => by
      rewrite [main_chain c, Pipeline.Seg.run_eq_chain,
        show (sgs m c).map Pipeline.Seg.prog = [StableHlo.seq (hostOps0 c), Prog.lift (.customCall (Pipeline.entry 0) ())] from rfl]
      dsimp (config := { failIfUnchanged := false }) only
      exact .rfl)
    (fun c => by simp only [sgs, segs, Pipeline.Seg.pipes_host, Pipeline.Seg.pipes_region, Pipeline.Seg.pipes_nil]; decide)
    (O₀ := O₀) (hL := L_of_ne) (G := G) (u₀ := u₀)
    (hu₀ := by
      iintro Hu
      imodintro
      iapply (u₀_split (F := F)) $$ Hu)
    (T₀ := T₀ m) (Tₙ := Tₙ m)
    (hch := fun c => ⟨.rfl, reg_pre m c, reg_post m c⟩)
    (hinit := init m ρ)
    (QY := fun c s => (∀ b ∈ Pipeline.ucRefs τ sig, s.mem (c, b) = W2 m c b) ∧ s.sem (bar c) = 0)
    (hfin := fun c s' => by
      dsimp only [Tₙ]
      unfold StableHlo.held
      iintro ⟨⟨Hh, Hb0⟩, HSI⟩
      ihave %h := (SI_pointsTo_bufs_agree (qs := fun _ => fullShare) (Pipeline.ucRefs τ sig)) $$ [HSI Hh]
      · isplitl [HSI] <;> iassumption
      icombine HSI Hb0 gives %hb
      imodintro
      isplitr
      · ipureintro
        exact ⟨h, by simpa using hb⟩
      iexact HSI)
    (hQ := fun s h hs => ⟨fun c => (h c).1, sem_eq_zero hs fun c sm hsm => by
      obtain rfl := unscoped_eq sm hsm
      exact (h c).2⟩)

end Cert.KP
-- ==== Proof.Frame.lean ====
/-
The frames of the kernel: its arguments end as they began and every counter at zero.
-/
module

public import proofs.«01_k».proof.Proof.Launch
public import proofs.«01_k».proof.Defs
public import proofs.«01_k».proof.Proof.Gen.Kernel

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem mem_uc : ∀ r ∈ ([main_arg0, main_arg1, main_v9] : List (Ref sig .tc)), (Proc.devRef .tc r : DevRef τ sig) ∈ Pipeline.ucRefs τ sig := by decide

/-- The run as the claims read it: the result, the arguments, the counters. -/
theorem run_read : θ_run (defs (F := F)) (onTc (τ := τ) (main (F := F))) ⟨m, fun _ => 0, ρ⟩
    (fun r => (∀ c : Dev nD, r.2.mem ((c : Thread nD τ).loc main_v9) = OutF (Xin m)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨(h.1 c _ (mem_uc main_v9 (by decide))).trans (W2_v9 m c),
      (h.1 c _ (mem_uc main_arg0 (by decide))).trans ((W2_of m c main_arg0 (by decide)).trans (V1_of m c main_arg0 (by decide))),
      (h.1 c _ (mem_uc main_arg1 (by decide))).trans ((W2_of m c main_arg1 (by decide)).trans (V1_of m c main_arg1 (by decide)))⟩, h.2⟩)
    (run_main m ρ)

theorem frame_ideal : Cert.quiescent_KernelIdeal := fun m ρ _ =>
  (θ_run Cert.KernelIdeal.defs _ _).mono (fun _ h => ⟨fun c => (h.1 c).2, h.2⟩) (run_read (F := Ideal) m ρ)

theorem frame_ideal_pre [Cert.Pre_in_vocabulary_KernelIdeal.Facts] : Cert.quiescent_KernelIdeal_pre_in_vocabulary_KernelIdeal :=
  fun m ρ _ => frame_ideal m ρ trivial

theorem frame_bits (m : (ℓ : Loc nD τ sig) → Buf (Elt Bits) ℓ) (ρ : Dev nD → PrngReg) :
    θ_run (defs (F := Bits)) (onTc (τ := τ) (main (F := Bits))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h.1 c).2, h.2⟩) (run_read (F := Bits) m ρ)

/-- The two programs are one text. -/
theorem table₀_same : Cert.Kernel.defs₀ (F := Bits) = defs₀ (F := Bits) := by
  unfold Cert.Kernel.defs₀ defs₀
  refine congrArg Defs.onTc ?_
  funext k a
  match k, a with
  | 0, (t, s) => rfl
theorem table_same : Cert.Kernel.defs (F := Bits) = defs (F := Bits) :=
  congrArg (Pipeline.defs (pcfgs (F := Bits))) table₀_same

theorem frame_kernel : Cert.quiescent_Kernel := by
  intro m ρ _
  rw [table_same]
  exact frame_bits m ρ

end Cert.KP
-- ==== Proof.Value.lean ====
module

public import proofs.«01_k».proof.Proof.Frame
public import proofs.«01_k».proof.Proof.Gen.ReferenceIdeal.Run
public import Idealize.ShloMosaic.Lib.ValueIdx
public import Idealize.ShloMosaic.Lib.MatmulPlain
public import Idealize.ShloMosaic.Lib.Layout
public import Idealize.ShloMosaic.Lib.StableHlo.Predicate
public import Idealize.ShloMosaic.Lib.Routing.Ops

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open scoped BigOperators

/-! ## The one-hot product at an entry -/

theorem ix2_eq {n0 n1 : ℕ} (a : Fin n0) (b : Fin n1) : (ix2 a b : (⟨2, ![n0, n1]⟩ : Shape).Idx) = ValueIdx.ix2 a b := ext2 rfl rfl

/-- A truth value read as a float. -/
theorem bit_real (b : Prop) [Decidable b] (w : BitVec 1) (h : w = 1#1 ↔ b) :
    (FloatOps.sitofp .f32 (w.setWidth 32) : Ideal .f32) = if b then (1 : EReal) else 0 := by
  rcases BitVec.eq_zero_or_eq_one w with rfl | rfl
  · rw [if_neg (fun hb => absurd (h.2 hb) (by decide))]
    show (((((0#1 : BitVec 1).setWidth 32).toInt : ℤ) : ℝ) : EReal) = 0
    have : ((0#1 : BitVec 1).setWidth 32).toInt = 0 := by decide
    rw [this]; simp
  · rw [if_pos (h.1 rfl)]
    show (((((1#1 : BitVec 1).setWidth 32).toInt : ℤ) : ℝ) : EReal) = 1
    have : ((1#1 : BitVec 1).setWidth 32).toInt = 1 := by decide
    rw [this]; simp

theorem prod_apply (w : BitVec 32) (v : IVec S512x1 32) (e : FVec Ideal S1024x1024 .f32) (r : Fin 512) (c : Fin 1024) :
    prod (F := Ideal) w v e (ix2 r c)
      = ∑ k : Fin 1024, (if v (ix2 r 0) = BitVec.ofNat 32 k.val + w then (1 : EReal) else 0) * e (ix2 k c) := by
  unfold prod
  simp only [matmul]
  rw [ix2_eq]
  refine (Ideal.matmul_plain_apply (M := 512) (K := 1024) (N := 1024) none _ e _ r c).trans ?_
  rw [show (constant S512x1024 .f32 0x00000000#32 : FVec Ideal S512x1024 .f32) (ValueIdx.ix2 r c) = 0 from Ideal.ofBits_zero_f32, zero_add]
  refine Finset.sum_congr rfl fun k _ => ?_
  rw [← ix2_eq, ← ix2_eq]
  congr 1
  refine bit_real _ _ ?_
  show IntOp.cmpi .eq (broadcastTo S512x1024 v broadcasts_S512x1_S512x1024 (ix2 r k))
    (iota .tc S512x1024 32 [1] iota_S512x1024_d1_w32 (ix2 r k) + w) = 1#1 ↔ _
  rw [StableHlo.Predicate.cmpi_eq_iff, iota_single_apply,
    broadcastTo_apply v broadcasts_S512x1_S512x1024 (ix2 r k) (ix2 r 0) (fun a => by
      match a with
      | ⟨0, _⟩ => rfl
      | ⟨1, _⟩ => rfl)]
  exact Iff.rfl

/-- The product picks the row the word names, if it lies in the chunk. -/
theorem prod_pick (K : ℕ) (hK : K < 8) (v : IVec S512x1 32) (e : FVec Ideal S1024x1024 .f32) (r : Fin 512) (c : Fin 1024) :
    prod (F := Ideal) (BitVec.ofNat 32 (1024 * K)) v e (ix2 r c)
      = if (v (ix2 r 0)).toNat / 1024 = K then e (ix2 ⟨(v (ix2 r 0)).toNat % 1024, Nat.mod_lt _ (by decide)⟩ c) else 0 := by
  rw [prod_apply]
  generalize v (ix2 r 0) = a
  have key : ∀ k : Fin 1024, (a = BitVec.ofNat 32 k.val + BitVec.ofNat 32 (1024 * K)) ↔ a.toNat = k.val + 1024 * K := by
    intro k
    have hk := k.isLt
    rw [← BitVec.toNat_inj, BitVec.toNat_add, BitVec.toNat_ofNat, BitVec.toNat_ofNat]
    constructor <;> intro h <;> omega
  by_cases h : a.toNat / 1024 = K
  · rw [if_pos h, Finset.sum_eq_single (⟨a.toNat % 1024, Nat.mod_lt _ (by decide)⟩ : Fin 1024)]
    · rw [if_pos ((key _).2 (by show a.toNat = a.toNat % 1024 + 1024 * K; omega)), one_mul]
    · intro k _ hk
      have hk' := k.isLt
      rw [if_neg (fun e => hk (Fin.ext (by have := (key k).1 e; show k.val = a.toNat % 1024; omega))), zero_mul]
    · intro h; exact absurd (Finset.mem_univ _) h
  · rw [if_neg h]
    refine Finset.sum_eq_zero fun k _ => ?_
    have hk' := k.isLt
    rw [if_neg (fun e => h (by have := (key k).1 e; omega)), zero_mul]

/-! ## A device's own sums -/

variable (X : In Ideal)

/-- What a device contributes to an entry: the row its word names, if it holds that row. -/
def pick (c : Dev nD) (t : Fin 1024) (l : Fin 1024) : EReal :=
  if (X.ids c (ix2 t 0)).toNat < 8192 then X.En c (ix2 ⟨(X.ids c (ix2 t 0)).toNat % 8192, Nat.mod_lt _ (by decide)⟩ l) else 0

theorem psum_apply (c : Dev nD) (rg : Fin 2) (r : Fin 512) (l : Fin 1024) : ∀ k : ℕ, k < 8 →
    psum X c rg k (ix2 r l) = if (lid X c rg (ix2 r 0)).toNat < 1024 * (k + 1)
      then X.En c (ix2 ⟨(lid X c rg (ix2 r 0)).toNat % 8192, Nat.mod_lt _ (by decide)⟩ l) else 0
  | 0, _ => by
    have h := prod_pick 0 (by decide) (k0_pay1 (lid X c rg)) (eblk X c 0) r l
    rw [show k0_pay1 (lid X c rg) = lid X c rg from shapeCast_self _ _] at h
    show prod 0#32 (k0_pay1 (lid X c rg)) (eblk X c 0) (ix2 r l) = _
    rw [show k0_pay1 (lid X c rg) = lid X c rg from shapeCast_self _ _]
    refine h.trans ?_
    generalize (lid X c rg (ix2 r 0)) = a
    by_cases ha : a.toNat < 1024 * (0 + 1)
    · rw [if_pos (by omega), if_pos ha]
      show X.En c _ = _
      exact congrArg (X.En c) (ext2 (by show (1024 * 0 + a.toNat % 1024) % 8192 = a.toNat % 8192; omega) rfl)
    · rw [if_neg (by omega), if_neg ha]
  | k + 1, hk => by
    have h := prod_pick (k + 1) hk (k0_pay1 (lid X c rg)) (eblk X c (k + 1)) r l
    have ih := psum_apply c rg r l k (by omega)
    show psum X c rg k (ix2 r l) + prod (BitVec.ofNat 32 (1024 * (k + 1))) (k0_pay1 (lid X c rg)) (eblk X c (k + 1)) (ix2 r l) = _
    rw [ih, h, show k0_pay1 (lid X c rg) = lid X c rg from shapeCast_self _ _]
    generalize (lid X c rg (ix2 r 0)) = a
    by_cases h1 : a.toNat < 1024 * (k + 1)
    · rw [if_pos h1, if_neg (by omega), if_pos (by omega), add_zero]
    · by_cases h2 : a.toNat < 1024 * (k + 1 + 1)
      · rw [if_neg h1, if_pos (by omega), if_pos h2, zero_add]
        show X.En c _ = _
        exact congrArg (X.En c) (ext2 (by show (1024 * (k + 1) + a.toNat % 1024) % 8192 = a.toNat % 8192; omega) rfl)
      · rw [if_neg h1, if_neg (by omega), if_neg h2, add_zero]

theorem A0_apply (x : Bool) (c : Dev nD) (i : S1024x512.Idx) (l : Fin 1024) (hl : l.val = oCol x + (i 1).val) :
    A0 X x c i = pick X c (i 0) l := by
  have hi : (i 0).val < 1024 := (i 0).isLt
  refine (psum_apply X c _ _ _ 7 (by decide)).trans ?_
  have e : lid X c (rgOf (i 0).val) (ix2 ⟨(i 0).val % 512, Nat.mod_lt _ (by decide)⟩ 0) = X.ids c (ix2 (i 0) 0) :=
    congrArg (X.ids c) (ext2 (by show (512 * ((i 0).val / 512 % 2) + (i 0).val % 512) % 1024 = (i 0).val; omega) rfl)
  rw [e]
  unfold pick
  refine if_congr Iff.rfl ?_ rfl
  exact congrArg (X.En c) (ext2 rfl hl.symm)

/-- The exchange meets each device once. -/
theorem four (f : Dev nD → EReal) : ∀ (x : Bool) (c : Dev nD), (f c + f (P x c)) + (f (P (!x) c) + f (P x (P (!x) c))) = ∑ d : Dev nD, f d := by
  intro x c
  have : (∑ d : Dev nD, f d) = f (0 : Fin 4) + f (1 : Fin 4) + f (2 : Fin 4) + f (3 : Fin 4) := Fin.sum_univ_four f
  rw [this]
  match x, c with
  | false, ⟨0, _⟩ => show (f (0 : Fin 4) + f (3 : Fin 4)) + (f (1 : Fin 4) + f (2 : Fin 4)) = _; abel
  | false, ⟨1, _⟩ => show (f (1 : Fin 4) + f (2 : Fin 4)) + (f (0 : Fin 4) + f (3 : Fin 4)) = _; abel
  | false, ⟨2, _⟩ => show (f (2 : Fin 4) + f (1 : Fin 4)) + (f (3 : Fin 4) + f (0 : Fin 4)) = _; abel
  | false, ⟨3, _⟩ => show (f (3 : Fin 4) + f (0 : Fin 4)) + (f (2 : Fin 4) + f (1 : Fin 4)) = _; abel
  | true, ⟨0, _⟩ => show (f (0 : Fin 4) + f (1 : Fin 4)) + (f (3 : Fin 4) + f (2 : Fin 4)) = _; abel
  | true, ⟨1, _⟩ => show (f (1 : Fin 4) + f (0 : Fin 4)) + (f (2 : Fin 4) + f (3 : Fin 4)) = _; abel
  | true, ⟨2, _⟩ => show (f (2 : Fin 4) + f (3 : Fin 4)) + (f (1 : Fin 4) + f (0 : Fin 4)) = _; abel
  | true, ⟨3, _⟩ => show (f (3 : Fin 4) + f (2 : Fin 4)) + (f (0 : Fin 4) + f (1 : Fin 4)) = _; abel

/-- An entry of the result: the sum of what the devices contribute. -/
theorem OutF_apply (t l : Fin 1024) : OutF X (ix2 t l) = ∑ d : Dev nD, pick X d t l := by
  have hl := l.isLt
  have key : ∀ (x : Bool) (c : Dev nD) (i : S1024x512.Idx), i 0 = t → l.val = oCol x + (i 1).val →
      A2 X x c i = ∑ d : Dev nD, pick X d t l := by
    intro x c i h0 h1
    have h : ∀ d, A0 X x d i = pick X d t l := fun d => by rw [A0_apply X x d i l h1, h0]
    show (A0 X x c i + A0 X x (P x c) i) + (A0 X x (P (!x) c) i + A0 X x (P x (P (!x) c)) i) = _
    rw [h, h, h, h]
    exact four (fun d => pick X d t l) x c
  refine key (decide (512 ≤ l.val)) _ _ rfl ?_
  show l.val = oCol (decide (512 ≤ l.val)) + l.val % 512
  by_cases h : 512 ≤ l.val
  · rw [decide_eq_true h]; show l.val = 512 + l.val % 512; omega
  · rw [decide_eq_false h]; show l.val = 0 + l.val % 512; omega

end Cert.KP
-- ==== Proof.Result.lean ====
module

public import proofs.«01_k».proof.Proof.Value
public import Idealize.ShloMosaic.Lib.ReduceAll
public import Idealize.ShloMosaic.Lib.ValueLayoutCasts
public import proofs.«01_k».proof.Defs
public import proofs.«01_k».proof.Proof.Gen.Pre_in_vocabulary_KernelIdeal
public import proofs.«01_k».proof.Proof.Gen.Pre_in_vocabulary_ReferenceIdeal
public import Idealize.ShloMosaic.Lib.WordArith

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open scoped BigOperators

/-! ## The words a device looks up -/

theorem base_word : ∀ c : Fin 4, IntOp.muli (IntOp.remui .host (IntOp.divui .host (BitVec.ofNat 32 c.val) 1#32) 4#32) 8192#32 = BitVec.ofNat 32 (8192 * c.val) := by
  decide

variable (m : (ℓ : Loc nD τ sig) → Buf (Elt Ideal) ℓ)

/-- The ids a device is given. -/
def arg0 (c : Dev nD) : IVec S1024 32 := m ((c : Thread nD τ).loc main_arg0)

theorem ids_apply (c : Dev nD) (t : Fin 1024) :
    (Xin m).ids c (ix2 t 0) = arg0 m c (ValueIdx.ix1 t) - BitVec.ofNat 32 (8192 * c.val) := by
  have h : V1 m c main_v8 = shapeCast S1024x1 (subi (arg0 m c)
      (fun _ => IntOp.muli (IntOp.remui .host (IntOp.divui .host (Dev.word c) 1#32) 4#32) 8192#32)) shapeCasts_S1024_S1024x1 := by
    show StableHlo.after (hostOps0 c) (V0 m c) main_v8 = _
    after_results
    rfl
  show V1 m c main_v8 (ix2 t 0) = _
  rw [h, ix2_eq]
  refine (ValueIdx.shapeCast_a_a1_apply _ _ t 0).trans ?_
  show arg0 m c (ValueIdx.ix1 t) - IntOp.muli _ _ = _
  rw [show Dev.word c = BitVec.ofNat 32 c.val from rfl, base_word c]

theorem En_apply (c : Dev nD) : (Xin m).En c = m ((c : Thread nD τ).loc main_arg1) := V1_of m c main_arg1 (by decide)

/-! ## The precondition, id by id -/

theorem pre_word [Cert.Pre_in_vocabulary_KernelIdeal.Facts] (h : Cert.Pre_KernelIdeal_in_vocabulary_KernelIdeal m) (c : Dev nD) (t : Fin 1024) :
    (arg0 m c (ValueIdx.ix1 t)).toNat < 32768 := by
  have e := congrFun (h c) (fun a => nomatch a)
  dsimp only [Cert.Pre_in_vocabulary_KernelIdeal.fn] at e
  haveI : Subsingleton (⟨0, ![]⟩ : Shape).Idx := ⟨fun a b => funext fun i => nomatch i⟩
  have e1 := Host.reduce_andi_all _ _ _ _ _ e (ValueIdx.ix1 t)
  obtain ⟨h0, h1⟩ := IntOp.andi_eq_one.1 e1
  have h0' : BitVec.ofBool ((0#32 : BitVec 32).sle (arg0 m c (ValueIdx.ix1 t))) = 1#1 := h0
  have h1' : BitVec.ofBool ((arg0 m c (ValueIdx.ix1 t)).slt 32768#32) = 1#1 := h1
  revert h0' h1'
  generalize arg0 m c (ValueIdx.ix1 t) = w
  intro h0 h1
  rw [StableHlo.Predicate.ofBool_eq_one_iff] at h0 h1
  simp only [BitVec.sle, BitVec.slt, decide_eq_true_eq] at h0 h1
  rw [show (0#32 : BitVec 32).toInt = 0 from by decide] at h0
  rw [show (32768#32 : BitVec 32).toInt = 32768 from by decide] at h1
  rw [BitVec.toInt_eq_toNat_cond] at h0 h1
  have := w.isLt
  split at h0 <;> omega

/-! ## The lookup -/

/-- The row of the whole table an id names. -/
def look (E : Cert.ReferenceIdeal.S32768x1024.Idx → EReal) (w : BitVec 32) (l : Fin 1024) : EReal :=
  E (ValueIdx.ix2 ⟨w.toNat % 32768, Nat.mod_lt _ (by decide)⟩ l)

/-- The devices' contributions to an entry add up to the row the id names. -/
theorem sum_pick (E : Cert.ReferenceIdeal.S32768x1024.Idx → EReal) (w : BitVec 32) (hw : w.toNat < 32768) (t l : Fin 1024)
    (X : In Ideal) (hid : ∀ c : Dev nD, X.ids c (ix2 t 0) = w - BitVec.ofNat 32 (8192 * c.val))
    (hE : ∀ c : Dev nD, X.En c = Layout.block ⟨2, ![8192, 1024]⟩ ⟨2, ![32768, 1024]⟩ 0 4 c E) :
    (∑ d : Dev nD, pick X d t l) = look E w l := by
  have hsub : ∀ c : Dev nD, (X.ids c (ix2 t 0)).toNat = (2 ^ 32 - 8192 * c.val + w.toNat) % 2 ^ 32 := by
    intro c
    have hc : c.val < 4 := c.isLt
    rw [hid c, BitVec.toNat_sub, BitVec.toNat_ofNat, Nat.mod_eq_of_lt (show 8192 * c.val < 2 ^ 32 by omega)]
  rw [Finset.sum_eq_single (⟨w.toNat / 8192, by show _ < 4; omega⟩ : Dev nD)]
  · have h := hsub (⟨w.toNat / 8192, by show _ < 4; omega⟩ : Dev nD)
    dsimp only at h
    unfold pick look
    rw [if_pos (by rw [h]; omega), hE]
    rw [Layout.block_apply]
    refine congrArg E (ext2 ?_ ?_)
    · refine (Layout.idx_rows_val _ _ _).1.trans ?_
      show w.toNat / 8192 * 8192 + (X.ids _ (ix2 t 0)).toNat % 8192 = w.toNat % 32768
      rw [h]; omega
    · exact (Layout.idx_rows_val _ _ _).2
  · intro c _ hc
    have h := hsub c
    have hc4 : c.val < 4 := c.isLt
    have hne : c.val ≠ w.toNat / 8192 := fun e => hc (Fin.ext e)
    unfold pick
    rw [if_neg (by rw [h]; omega)]
  · intro h; exact absurd (Finset.mem_univ _) h

/-! ## The reference -/

/-- The reference's result. -/
def refOut (ids : IVec S1024 32) (E : Cert.ReferenceIdeal.S32768x1024.Idx → EReal) : S1024x1024.Idx → EReal :=
  Host.gather Cert.ReferenceIdeal.gather_S32768x1024_S1024x1_S1024x1024_1_0_n_n_0_1_11024 E
    (broadcastInDim Cert.ReferenceIdeal.S1024x1 ![0] Cert.ReferenceIdeal.Gen.bcast_S1024_S1024x1_0
      (select (cmpi .slt ids (broadcastInDim Cert.ReferenceIdeal.S1024 ![] Cert.ReferenceIdeal.Gen.bcast_S_S1024 (constantI Cert.ReferenceIdeal.S_ 32 0#32)))
        (addi ids (broadcastInDim Cert.ReferenceIdeal.S1024 ![] Cert.ReferenceIdeal.Gen.bcast_S_S1024 (constantI Cert.ReferenceIdeal.S_ 32 32768#32))) ids))

theorem refOut_apply (ids : IVec S1024 32) (E : Cert.ReferenceIdeal.S32768x1024.Idx → EReal) (t l : Fin 1024) (hw : (ids (ValueIdx.ix1 t)).toNat < 32768) :
    refOut ids E (ValueIdx.ix2 t l) = look E (ids (ValueIdx.ix1 t)) l := by
  unfold refOut look
  refine Routing.gather_row Cert.ReferenceIdeal.gather_S32768x1024_S1024x1_S1024x1024_1_0_n_n_0_1_11024 rfl rfl rfl rfl rfl E _ t l
    ⟨(ids (ValueIdx.ix1 t)).toNat % 32768, Nat.mod_lt _ (by decide)⟩ ?_ (by decide)
  have hb : ∀ (v : IVec S1024 32), broadcastInDim Cert.ReferenceIdeal.S1024x1 ![0] Cert.ReferenceIdeal.Gen.bcast_S1024_S1024x1_0 v (ValueIdx.ix2 t 0) = v (ValueIdx.ix1 t) :=
    fun v => congrArg v (funext fun a => by match a with | ⟨0, _⟩ => rfl)
  refine (hb _).trans ?_
  have hc : IntOp.cmpi .slt (ids (ValueIdx.ix1 t)) 0#32 ≠ 1#1 := by
    intro e
    have := (StableHlo.Predicate.slt_iff_toNat (by omega) (by decide)).1 e
    simp at this
  show Scalar.select (IntOp.cmpi .slt (ids (ValueIdx.ix1 t)) 0#32) _ (ids (ValueIdx.ix1 t)) = _
  rw [ValueIdx.eq_zero_of_ne_one hc, ValueIdx.select_zero]
  refine BitVec.eq_of_toNat_eq ?_
  show _ = (BitVec.ofNat 32 ((ids (ValueIdx.ix1 t)).toNat % 32768)).toNat
  rw [BitVec.toNat_ofNat]; omega

/-- The two results are one array. -/
theorem out_eq (ids : IVec S1024 32) (E : Cert.ReferenceIdeal.S32768x1024.Idx → EReal) (X : In Ideal) (hw : ∀ t, (ids (ValueIdx.ix1 t)).toNat < 32768)
    (hid : ∀ (c : Dev nD) (t : Fin 1024), X.ids c (ix2 t 0) = ids (ValueIdx.ix1 t) - BitVec.ofNat 32 (8192 * c.val))
    (hE : ∀ c : Dev nD, X.En c = Layout.block ⟨2, ![8192, 1024]⟩ ⟨2, ![32768, 1024]⟩ 0 4 c E) : OutF X = refOut ids E := by
  funext i
  have e : i = ix2 (i 0) (i 1) := ext2 rfl rfl
  rw [e]
  refine (OutF_apply X (i 0) (i 1)).trans ?_
  rw [sum_pick E _ (hw (i 0)) (i 0) (i 1) X (fun c => hid c (i 0)) hE, ix2_eq]
  exact (refOut_apply ids E (i 0) (i 1) (hw (i 0))).symm

theorem value [Cert.Pre_in_vocabulary_KernelIdeal.Facts] : Cert.algebraic_KernelIdeal_ReferenceIdeal_pre_in_vocabulary_KernelIdeal := by
  intro m g m' g' hp hm
  refine ⟨refOut (arg0 m (0 : Fin 4)) (m' (((0 : Dev Cert.ReferenceIdeal.nD).tc : Thread Cert.ReferenceIdeal.nD Cert.ReferenceIdeal.τ).loc Cert.ReferenceIdeal.main_arg1)), ?_, ?_⟩
  · have ho : OutF (Xin m) = refOut (arg0 m (0 : Fin 4)) (m' (((0 : Dev Cert.ReferenceIdeal.nD).tc : Thread Cert.ReferenceIdeal.nD Cert.ReferenceIdeal.τ).loc Cert.ReferenceIdeal.main_arg1)) := by
      refine out_eq _ _ _ (pre_word m hp (0 : Fin 4)) (fun c t => ?_) (fun c => (En_apply m c).trans (hm c).2)
      rw [ids_apply, show arg0 m c = arg0 m (0 : Fin 4) from (hm c).1.trans (hm (0 : Fin 4)).1.symm]
    exact (θ_run Cert.KernelIdeal.defs _ _).mono (fun r h c => ⟨((h.1 c).1).trans ho, (h.1 c).2⟩) (run_read (F := Ideal) m g)
  · refine (θ_run Cert.ReferenceIdeal.defs _ _).mono (fun r h => ⟨(h 0).1.trans ?_, (h 0).2⟩) (Cert.ReferenceIdeal.Value.run (F := Ideal) m' g')
    have : arg0 m (0 : Fin 4) = m' (((0 : Dev Cert.ReferenceIdeal.nD).tc : Thread Cert.ReferenceIdeal.nD Cert.ReferenceIdeal.τ).loc Cert.ReferenceIdeal.main_arg0) := (hm (0 : Fin 4)).1
    rw [this]
    rfl

theorem frame_reference : Cert.quiescent_ReferenceIdeal := by
  intro m ρ _
  exact (θ_run Cert.ReferenceIdeal.defs _ _).mono (fun r h => ⟨fun c => ⟨(h c).2.1, (h c).2.2⟩, Idealize.ShloMosaic.sem_eq_zero_of_no_sems (by decide) r.2⟩)
    (Cert.ReferenceIdeal.Value.run (F := Ideal) m ρ)

theorem frame_reference_pre [Cert.Pre_in_vocabulary_ReferenceIdeal.Facts] : Cert.quiescent_ReferenceIdeal_pre_in_vocabulary_ReferenceIdeal :=
  fun m ρ _ => frame_reference m ρ trivial

end Cert.KP
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_vocabulary_KernelIdeal
public import proofs.«01_k».proof.Proof.Gen.Pre_in_vocabulary_ReferenceIdeal
public import proofs.«01_k».proof.Proof.Result
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_vocabulary_KernelIdeal.Gen.facts, Cert.Pre_in_vocabulary_ReferenceIdeal.Gen.facts, Cert.KP.frame_kernel, Cert.KP.frame_ideal, Cert.KP.frame_ideal_pre, Cert.KP.frame_reference, Cert.KP.frame_reference_pre, trivial, Cert.KP.value⟩

end Cert.Proof

end
